-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x16128 : Shape := ⟨2, ![16384, 16128]⟩
abbrev S1024x16128 : Shape := ⟨2, ![1024, 16128]⟩
abbrev S4x4x64 : Shape := ⟨3, ![4, 4, 64]⟩
abbrev S4x128 : Shape := ⟨2, ![4, 128]⟩
abbrev S16384x1536 : Shape := ⟨2, ![16384, 1536]⟩
abbrev S_ : Shape := ⟨0, ![]⟩
abbrev S1024x1024 : Shape := ⟨2, ![1024, 1024]⟩
abbrev S1x4x64 : Shape := ⟨3, ![1, 4, 64]⟩
abbrev S4x64 : Shape := ⟨2, ![4, 64]⟩

class Facts : Prop where
  slices_S16384x16128_S16384x1536_0_13824 : S16384x16128.Slices ![0, 13824] S16384x1536
  bcast_S_S16384x1536 : S_.BroadcastsInDim S16384x1536 (![] : Fin 0 → Fin S16384x1536.rank)
  slices_S1024x16128_S1024x1024_0_14336 : S1024x16128.Slices ![0, 14336] S1024x1024
  bcast_S_S1024x1024 : S_.BroadcastsInDim S1024x1024 (![] : Fin 0 → Fin S1024x1024.rank)
  slices_S4x4x64_S1x4x64_3_0_0 : S4x4x64.Slices ![3, 0, 0] S1x4x64
  shapeCasts_S1x4x64_S4x64 : S1x4x64.ShapeCasts S4x64
  bcast_S_S4x64 : S_.BroadcastsInDim S4x64 (![] : Fin 0 → Fin S4x64.rank)

variable [Facts]

def fn {F : FTy → Type} [FloatOps F] (main_arg0 : FVec F S16384x16128 .f32) (main_arg1 : FVec F S1024x16128 .f32) (main_arg2 : FVec F S4x4x64 .f32) (main_arg3 : FVec F S4x128 .f32) : IVec S16384x1536 1 × IVec S1024x1024 1 × IVec S4x64 1 :=
  let main_v0 : FVec F S16384x1536 .f32 := (extractStridedSlice S16384x1536 ![0, 13824] · slices_S16384x16128_S16384x1536_0_13824) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S1024x1024 .f32 := (extractStridedSlice S1024x1024 ![0, 14336] · slices_S1024x16128_S1024x1024_0_14336) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x4x64 .f32 := (extractStridedSlice S1x4x64 ![3, 0, 0] · slices_S4x4x64_S1x4x64_3_0_0) main_arg2
  let main_v9 : FVec F S4x64 .f32 := shapeCast S4x64 main_v8 shapeCasts_S1x4x64_S4x64
  let main_v10 : FVec F S4x64 .f32 := Host.absf main_v9
  let main_cst_1 : FVec F S_ .f32 := constant S_ .f32 0x7F800000#32
  let main_v11 : FVec F S4x64 .f32 := broadcastInDim S4x64 ![] bcast_S_S4x64 main_cst_1
  let main_v12 : IVec S4x64 1 := cmpf .olt main_v10 main_v11
  (main_v3, main_v7, main_v12)
-- ==== Kernel.lean ====
abbrev S16384x16128 : Shape := ⟨2, ![16384, 16128]⟩
abbrev S1024x16128 : Shape := ⟨2, ![1024, 16128]⟩
abbrev S4x4x64 : Shape := ⟨3, ![4, 4, 64]⟩
abbrev S4x128 : Shape := ⟨2, ![4, 128]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S1 : Shape := ⟨1, ![1]⟩
abbrev S1x128 : Shape := ⟨2, ![1, 128]⟩
abbrev S128 : Shape := ⟨1, ![128]⟩
abbrev S16384x512 : Shape := ⟨2, ![16384, 512]⟩
abbrev S512x128 : Shape := ⟨2, ![512, 128]⟩
abbrev S256x128 : Shape := ⟨2, ![256, 128]⟩
abbrev S17x256x128 : Shape := ⟨3, ![17, 256, 128]⟩
abbrev S17x128x256 : Shape := ⟨3, ![17, 128, 256]⟩
abbrev S2x17x256x512 : Shape := ⟨4, ![2, 17, 256, 512]⟩
abbrev S1x256x128 : Shape := ⟨3, ![1, 256, 128]⟩
abbrev S128x256 : Shape := ⟨2, ![128, 256]⟩
abbrev S1x128x256 : Shape := ⟨3, ![1, 128, 256]⟩
abbrev S1x512 : Shape := ⟨2, ![1, 512]⟩
abbrev S128x512 : Shape := ⟨2, ![128, 512]⟩
abbrev S256x512 : Shape := ⟨2, ![256, 512]⟩
abbrev S1x1x256x512 : Shape := ⟨4, ![1, 1, 256, 512]⟩
abbrev S512 : Shape := ⟨1, ![512]⟩
abbrev S512x1 : Shape := ⟨2, ![512, 1]⟩

abbrev nBuf : Space → Nat
  | .hbm => 109
  | .vmem => 27
  | .smem => 1
  | _ => 0

abbrev bufTy : (tb : Table) → Fin (tcTables nBuf tb) → BufTy
  | .hbm, ⟨0, _⟩ => ⟨S16384x16128, .f32⟩
  | .hbm, ⟨1, _⟩ => ⟨S1024x16128, .f32⟩
  | .hbm, ⟨2, _⟩ => ⟨S4x4x64, .f32⟩
  | .hbm, ⟨3, _⟩ => ⟨S4x128, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096x1, .f32⟩
  | .hbm, ⟨56, _⟩ => ⟨S1x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S_, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x64, .f32⟩
  | .hbm, ⟨72, _⟩ => ⟨S4096x16, .f32⟩
  | .hbm, ⟨73, _⟩ => ⟨S4096x16, .f32⟩
  | .hbm, ⟨74, _⟩ => ⟨S4096x64, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x64, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S1x4x64, .f32⟩
  | .hbm, ⟨84, _⟩ => ⟨S4x64, .f32⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S64, .f32⟩
  | .hbm, ⟨97, _⟩ => ⟨S64, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S16384x512, .bf16⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S256x128, .f32⟩
  | .local _ .vmem, ⟨6, _⟩ => ⟨S4096x128, .f32⟩
  | .local _ .vmem, ⟨7, _⟩ => ⟨S4096x128, .f32⟩
  | .local _ .vmem, ⟨8, _⟩ => ⟨S256x128, .f32⟩
  | .local _ .vmem, ⟨9, _⟩ => ⟨S256x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S1x128, .f32⟩
  | .local _ .vmem, ⟨22, _⟩ => ⟨S512x128, .bf16⟩
  | .local _ .vmem, ⟨23, _⟩ => ⟨S512x128, .bf16⟩
  | .local _ .vmem, ⟨24, _⟩ => ⟨S17x256x128, .bf16⟩
  | .local _ .vmem, ⟨25, _⟩ => ⟨S17x128x256, .bf16⟩
  | .local _ .vmem, ⟨26, _⟩ => ⟨S2x17x256x512, .f32⟩
  | .local _ .smem, ⟨0, _⟩ => ⟨S1, .f32⟩
  | _, _ => ⟨S16384x16128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_3 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_4 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_5 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c108_i32 : BitVec 32 := 108#32
  let v2 : BitVec 32 := Scalar.addi c108_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c112_i32 : BitVec 32 := 112#32
  let v0 : BitVec 32 := Scalar.addi c112_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c112_i32 : BitVec 32 := 112#32
  let v0 : BitVec 32 := Scalar.addi c112_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c116_i32 : BitVec 32 := 116#32
  let v0 : BitVec 32 := Scalar.addi c116_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c116_i32 : BitVec 32 := 116#32
  let v0 : BitVec 32 := Scalar.addi c116_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c120_i32 : BitVec 32 := 120#32
  let v2 : BitVec 32 := Scalar.addi c120_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S16384x16128 : Shape := ⟨2, ![16384, 16128]⟩
abbrev S1024x16128 : Shape := ⟨2, ![1024, 16128]⟩
abbrev S4x4x64 : Shape := ⟨3, ![4, 4, 64]⟩
abbrev S4x128 : Shape := ⟨2, ![4, 128]⟩
abbrev S16384x512 : Shape := ⟨2, ![16384, 512]⟩
abbrev S4x4096x4x2x64 : Shape := ⟨5, ![4, 4096, 4, 2, 64]⟩
abbrev S4x4096x4x128 : Shape := ⟨4, ![4, 4096, 4, 128]⟩
abbrev S4x4096x512 : Shape := ⟨3, ![4, 4096, 512]⟩
abbrev S1024x512 : Shape := ⟨2, ![1024, 512]⟩
abbrev S4x256x4x2x64 : Shape := ⟨5, ![4, 256, 4, 2, 64]⟩
abbrev S4x256x4x128 : Shape := ⟨4, ![4, 256, 4, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x4096x4x2x32 : Shape := ⟨5, ![4, 4096, 4, 2, 32]⟩
abbrev S4x4096x4x2x16 : Shape := ⟨5, ![4, 4096, 4, 2, 16]⟩
abbrev S1x4096x1x1x16 : Shape := ⟨5, ![1, 4096, 1, 1, 16]⟩
abbrev S4x4352x4x2x64 : Shape := ⟨5, ![4, 4352, 4, 2, 64]⟩
abbrev S4x4352x4x128 : Shape := ⟨4, ![4, 4352, 4, 128]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 235
  | .vmem => 0
  | .smem => 0
  | _ => 0

abbrev hbmTy0_0 (i : Nat) : BufTy := match i % 128 with
  | 0 => ⟨S16384x16128, .f32⟩
  | 1 => ⟨S1024x16128, .f32⟩
  | 2 => ⟨S4x4x64, .f32⟩
  | 3 => ⟨S4x128, .f32⟩
  | 4 => ⟨S16384x512, .f32⟩
  | 5 => ⟨S4x4096x4x2x64, .f32⟩
  | 6 => ⟨S16384x512, .f32⟩
  | 7 => ⟨S4x4096x4x2x64, .f32⟩
  | 8 => ⟨S16384x512, .f32⟩
  | 9 => ⟨S4x4096x4x128, .f32⟩
  | 10 => ⟨S16384x512, .f32⟩
  | 11 => ⟨S4x4096x512, .f32⟩
  | 12 => ⟨S1024x512, .f32⟩
  | 13 => ⟨S4x256x4x2x64, .f32⟩
  | 14 => ⟨S1024x512, .f32⟩
  | 15 => ⟨S4x256x4x128, .f32⟩
  | 16 => ⟨S1x4x64, .f32⟩
  | 17 => ⟨S4x64, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S1x64, .f32⟩
  | 27 => ⟨S64, .f32⟩
  | 28 => ⟨S1x64, .f32⟩
  | 29 => ⟨S64, .f32⟩
  | 30 => ⟨S64, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S4096, .i32⟩
  | 38 => ⟨S_, .i32⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S4096, .i32⟩
  | 47 => ⟨S4096, .i32⟩
  | 48 => ⟨S_, .i32⟩
  | 49 => ⟨S4096, .i32⟩
  | 50 => ⟨S4096, .i1⟩
  | 51 => ⟨S4096, .i1⟩
  | 52 => ⟨S_, .i32⟩
  | 53 => ⟨S4096, .i32⟩
  | 54 => ⟨S4096, .i32⟩
  | 55 => ⟨S4096, .i32⟩
  | 56 => ⟨S4096, .f32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i1⟩
  | 71 => ⟨S_, .i32⟩
  | 72 => ⟨S_, .i1⟩
  | 73 => ⟨S4096, .i1⟩
  | 74 => ⟨S4096, .i1⟩
  | 75 => ⟨S4096, .i1⟩
  | 76 => ⟨S4096, .i32⟩
  | 77 => ⟨S4096, .i32⟩
  | 78 => ⟨S4096, .i32⟩
  | 79 => ⟨S4096, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S4096x1, .f32⟩
  | 89 => ⟨S1x16, .f32⟩
  | 90 => ⟨S4096x16, .f32⟩
  | 91 => ⟨S4096x16, .f32⟩
  | 92 => ⟨S4096x16, .f32⟩
  | 93 => ⟨S4096x1, .f32⟩
  | 94 => ⟨S1x16, .f32⟩
  | 95 => ⟨S4096x16, .f32⟩
  | 96 => ⟨S4096x16, .f32⟩
  | 97 => ⟨S4096x16, .f32⟩
  | 98 => ⟨S4x4096x4x2x32, .f32⟩
  | 99 => ⟨S4x4096x4x2x16, .f32⟩
  | 100 => ⟨S4x4096x4x2x16, .f32⟩
  | 101 => ⟨S4096x16, .f32⟩
  | 102 => ⟨S1x4096x1x1x16, .f32⟩
  | 103 => ⟨S4096x16, .f32⟩
  | 104 => ⟨S1x4096x1x1x16, .f32⟩
  | 105 => ⟨S4x4096x4x2x16, .f32⟩
  | 106 => ⟨S4x4096x4x2x16, .f32⟩
  | 107 => ⟨S4x4096x4x2x16, .f32⟩
  | 108 => ⟨S4x4096x4x2x16, .f32⟩
  | 109 => ⟨S4x4096x4x2x16, .f32⟩
  | 110 => ⟨S4x4096x4x2x16, .f32⟩
  | 111 => ⟨S4x4096x4x2x16, .f32⟩
  | 112 => ⟨S4x4096x4x2x16, .f32⟩
  | 113 => ⟨S4x4096x4x2x16, .f32⟩
  | 114 => ⟨S4x4096x4x2x16, .f32⟩
  | 115 => ⟨S4x4096x4x2x32, .f32⟩
  | 116 => ⟨S4x4096x4x2x32, .f32⟩
  | 117 => ⟨S4x4096x4x2x16, .f32⟩
  | 118 => ⟨S4x4096x4x2x16, .f32⟩
  | 119 => ⟨S4096x16, .f32⟩
  | 120 => ⟨S1x4096x1x1x16, .f32⟩
  | 121 => ⟨S4096x16, .f32⟩
  | 122 => ⟨S1x4096x1x1x16, .f32⟩
  | 123 => ⟨S4x4096x4x2x16, .f32⟩
  | 124 => ⟨S4x4096x4x2x16, .f32⟩
  | 125 => ⟨S4x4096x4x2x16, .f32⟩
  | 126 => ⟨S4x4096x4x2x16, .f32⟩
  | 127 => ⟨S4x4096x4x2x16, .f32⟩
  | _ => ⟨S16384x16128, .f32⟩

abbrev hbmTy0_1 (i : Nat) : BufTy := match i % 128 with
  | 0 => ⟨S4x4096x4x2x16, .f32⟩
  | 1 => ⟨S4x4096x4x2x16, .f32⟩
  | 2 => ⟨S4x4096x4x2x16, .f32⟩
  | 3 => ⟨S4x4096x4x2x16, .f32⟩
  | 4 => ⟨S4x4096x4x2x16, .f32⟩
  | 5 => ⟨S4x4096x4x2x32, .f32⟩
  | 6 => ⟨S4x4096x4x2x64, .f32⟩
  | 7 => ⟨S4x4096x4x2x32, .f32⟩
  | 8 => ⟨S4x4096x4x2x16, .f32⟩
  | 9 => ⟨S4x4096x4x2x16, .f32⟩
  | 10 => ⟨S4096x16, .f32⟩
  | 11 => ⟨S1x4096x1x1x16, .f32⟩
  | 12 => ⟨S4096x16, .f32⟩
  | 13 => ⟨S1x4096x1x1x16, .f32⟩
  | 14 => ⟨S4x4096x4x2x16, .f32⟩
  | 15 => ⟨S4x4096x4x2x16, .f32⟩
  | 16 => ⟨S4x4096x4x2x16, .f32⟩
  | 17 => ⟨S4x4096x4x2x16, .f32⟩
  | 18 => ⟨S4x4096x4x2x16, .f32⟩
  | 19 => ⟨S4x4096x4x2x16, .f32⟩
  | 20 => ⟨S4x4096x4x2x16, .f32⟩
  | 21 => ⟨S4x4096x4x2x16, .f32⟩
  | 22 => ⟨S4x4096x4x2x16, .f32⟩
  | 23 => ⟨S4x4096x4x2x16, .f32⟩
  | 24 => ⟨S4x4096x4x2x32, .f32⟩
  | 25 => ⟨S4x4096x4x2x32, .f32⟩
  | 26 => ⟨S4x4096x4x2x16, .f32⟩
  | 27 => ⟨S4x4096x4x2x16, .f32⟩
  | 28 => ⟨S4096x16, .f32⟩
  | 29 => ⟨S1x4096x1x1x16, .f32⟩
  | 30 => ⟨S4096x16, .f32⟩
  | 31 => ⟨S1x4096x1x1x16, .f32⟩
  | 32 => ⟨S4x4096x4x2x16, .f32⟩
  | 33 => ⟨S4x4096x4x2x16, .f32⟩
  | 34 => ⟨S4x4096x4x2x16, .f32⟩
  | 35 => ⟨S4x4096x4x2x16, .f32⟩
  | 36 => ⟨S4x4096x4x2x16, .f32⟩
  | 37 => ⟨S4x4096x4x2x16, .f32⟩
  | 38 => ⟨S4x4096x4x2x16, .f32⟩
  | 39 => ⟨S4x4096x4x2x16, .f32⟩
  | 40 => ⟨S4x4096x4x2x16, .f32⟩
  | 41 => ⟨S4x4096x4x2x16, .f32⟩
  | 42 => ⟨S4x4096x4x2x32, .f32⟩
  | 43 => ⟨S4x4096x4x2x64, .f32⟩
  | 44 => ⟨S4x4352x4x2x64, .f32⟩
  | 45 => ⟨S4x4352x4x128, .f32⟩
  | 46 => ⟨S4x4x2x4096x4352, .f32⟩
  | 47 => ⟨S_, .f32⟩
  | 48 => ⟨S4x4x2x4096x4352, .f32⟩
  | 49 => ⟨S4x4x2x4096x4352, .f32⟩
  | 50 => ⟨S_, .f32⟩
  | 51 => ⟨S4x4x2x4096, .f32⟩
  | 52 => ⟨S_, .f32⟩
  | 53 => ⟨S4x4x2x4096, .f32⟩
  | 54 => ⟨S4x4x2x4096, .f32⟩
  | 55 => ⟨S4x4x2x4096x1, .f32⟩
  | 56 => ⟨S4x4x2x4096x4352, .f32⟩
  | 57 => ⟨S4x4x2x4096x4352, .f32⟩
  | 58 => ⟨S4x4x2x4096x4352, .f32⟩
  | 59 => ⟨S_, .f32⟩
  | 60 => ⟨S4x4x2x4096, .f32⟩
  | 61 => ⟨S4x4x2x4096x1, .f32⟩
  | 62 => ⟨S4x4x2x4096x4352, .f32⟩
  | 63 => ⟨S4x4x2x4096x4352, .f32⟩
  | 64 => ⟨S4x4x1x4096x4352, .f32⟩
  | 65 => ⟨S4x4x4096x4352, .f32⟩
  | 66 => ⟨S4x4x1x4096x4352, .f32⟩
  | 67 => ⟨S4x4x4096x4352, .f32⟩
  | 68 => ⟨S4x4x4096x4352, .f32⟩
  | 69 => ⟨S4x4x4096x4352, .f32⟩
  | 70 => ⟨S4x4x4096x4352, .f32⟩
  | 71 => ⟨S4x4x128x4096, .f32⟩
  | 72 => ⟨S4x4096x4x128, .f32⟩
  | 73 => ⟨S4x4096x4x128, .f32⟩
  | 74 => ⟨S_, .f32⟩
  | 75 => ⟨S4x4096x4, .f32⟩
  | 76 => ⟨S4x4096x4x1, .f32⟩
  | 77 => ⟨S_, .f32⟩
  | 78 => ⟨S4x4096x4x1, .f32⟩
  | 79 => ⟨S4x4096x4x1, .f32⟩
  | 80 => ⟨S_, .f32⟩
  | 81 => ⟨S4x4096x4x1, .f32⟩
  | 82 => ⟨S4x4096x4x1, .f32⟩
  | 83 => ⟨S4x4096x4x1, .f32⟩
  | 84 => ⟨S4x4096x4x128, .f32⟩
  | 85 => ⟨S4x4096x4x128, .f32⟩
  | 86 => ⟨S1x128, .f32⟩
  | 87 => ⟨S128, .f32⟩
  | 88 => ⟨S1x1x1x128, .f32⟩
  | 89 => ⟨S4x4096x4x128, .f32⟩
  | 90 => ⟨S4x4096x4x128, .f32⟩
  | 91 => ⟨S4x4096x512, .f32⟩
  | 92 => ⟨S_, .f32⟩
  | 93 => ⟨S4x4096x512, .f32⟩
  | 94 => ⟨S4x4096x512, .f32⟩
  | 95 => ⟨S4x4096x512, .f32⟩
  | 96 => ⟨S4x4096x512, .f32⟩
  | 97 => ⟨S_, .f32⟩
  | 98 => ⟨S4x4096x512, .f32⟩
  | 99 => ⟨S4x4096x512, .f32⟩
  | 100 => ⟨S_, .f32⟩
  | 101 => ⟨S4x4096x512, .f32⟩
  | 102 => ⟨S4x4096x512, .f32⟩
  | 103 => ⟨S4x4096x512, .f32⟩
  | 104 => ⟨S4x4096x512, .f32⟩
  | 105 => ⟨S16384x512, .f32⟩
  | 106 => ⟨S16384x512, .bf16⟩
  | _ => ⟨S16384x16128, .f32⟩

abbrev hbmTy (i : Nat) : BufTy := match i / 128 with
  | 0 => hbmTy0_0 i
  | 1 => hbmTy0_1 i
  | _ => ⟨S16384x16128, .f32⟩

abbrev bufTy : (tb : Table) → Fin (tcTables nBuf tb) → BufTy
  | .hbm, ⟨i, _⟩ => hbmTy i
  | _, _ => ⟨S16384x16128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v31 : Ref sig .tc := ⟨.hbm, 55, rfl⟩
abbrev main_v32 : Ref sig .tc := ⟨.hbm, 56, rfl⟩
abbrev main_c_2 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_3 : Ref sig .tc := ⟨.hbm, 82, rfl⟩
abbrev main_v37 : Ref sig .tc := ⟨.hbm, 83, rfl⟩
abbrev main_v38 : Ref sig .tc := ⟨.hbm, 84, rfl⟩
abbrev main_cst_4 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_5 : Ref sig .tc := ⟨.hbm, 175, rfl⟩
abbrev main_v128 : Ref sig .tc := ⟨.hbm, 176, rfl⟩
abbrev main_v129 : Ref sig .tc := ⟨.hbm, 177, rfl⟩
abbrev main_cst_6 : Ref sig .tc := ⟨.hbm, 178, rfl⟩
abbrev main_v130 : Ref sig .tc := ⟨.hbm, 179, rfl⟩
abbrev main_cst_7 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_8 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_9 : Ref sig .tc := ⟨.hbm, 202, rfl⟩
abbrev main_v151 : Ref sig .tc := ⟨.hbm, 203, rfl⟩
abbrev main_v152 : Ref sig .tc := ⟨.hbm, 204, rfl⟩
abbrev main_cst_10 : Ref sig .tc := ⟨.hbm, 205, rfl⟩
abbrev main_v153 : Ref sig .tc := ⟨.hbm, 206, rfl⟩
abbrev main_v154 : Ref sig .tc := ⟨.hbm, 207, rfl⟩
abbrev main_cst_11 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_12 : Ref sig .tc := ⟨.hbm, 220, rfl⟩
abbrev main_v166 : Ref sig .tc := ⟨.hbm, 221, rfl⟩
abbrev main_v167 : Ref sig .tc := ⟨.hbm, 222, rfl⟩
abbrev main_call2_v0 : Ref sig .tc := ⟨.hbm, 223, rfl⟩
abbrev main_call2_v1 : Ref sig .tc := ⟨.hbm, 224, rfl⟩
abbrev main_call2_cst : Ref sig .tc := ⟨.hbm, 225, rfl⟩
abbrev main_call2_v2 : Ref sig .tc := ⟨.hbm, 226, rfl⟩
abbrev main_call2_v3 : Ref sig .tc := ⟨.hbm, 227, rfl⟩
abbrev main_call2_cst_0 : Ref sig .tc := ⟨.hbm, 228, rfl⟩
abbrev main_call2_v4 : Ref sig .tc := ⟨.hbm, 229, rfl⟩
abbrev main_call2_v5 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x3x2048 : Shape := ⟨3, ![4, 3, 2048]⟩
abbrev S4x2048 : Shape := ⟨2, ![4, 2048]⟩
abbrev S4x2048x15888 : Shape := ⟨3, ![4, 2048, 15888]⟩
abbrev S4x15888x2048 : Shape := ⟨3, ![4, 15888, 2048]⟩
abbrev S4x8192x2048 : Shape := ⟨3, ![4, 8192, 2048]⟩
abbrev S4x3072x2048 : Shape := ⟨3, ![4, 3072, 2048]⟩
abbrev S4x4608x2048 : Shape := ⟨3, ![4, 4608, 2048]⟩
abbrev S4x16x2048 : Shape := ⟨3, ![4, 16, 2048]⟩
abbrev S_ : Shape := ⟨0, ![]⟩
abbrev S4x240x2048 : Shape := ⟨3, ![4, 240, 2048]⟩
abbrev S4x16128x2048 : Shape := ⟨3, ![4, 16128, 2048]⟩
abbrev S16384x2048 : Shape := ⟨2, ![16384, 2048]⟩
abbrev S1x2048 : Shape := ⟨2, ![1, 2048]⟩
abbrev S2048 : Shape := ⟨1, ![2048]⟩
abbrev S16384x16128 : Shape := ⟨2, ![16384, 16128]⟩
abbrev S1024x2048 : Shape := ⟨2, ![1024, 2048]⟩
abbrev S1x3x2048 : Shape := ⟨3, ![1, 3, 2048]⟩
abbrev S1x1792x2048 : Shape := ⟨3, ![1, 1792, 2048]⟩
abbrev S1024x1792 : Shape := ⟨2, ![1024, 1792]⟩
abbrev S1024 : Shape := ⟨1, ![1024]⟩
abbrev S1024x1 : Shape := ⟨2, ![1024, 1]⟩
abbrev S1x1x2048 : Shape := ⟨3, ![1, 1, 2048]⟩
abbrev S1792x2048 : Shape := ⟨2, ![1792, 2048]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x3x2048, .f32⟩
  | .hbm, ⟨2, _⟩ => ⟨S4x2048, .f32⟩
  | .hbm, ⟨3, _⟩ => ⟨S4x2048x15888, .f32⟩
  | .hbm, ⟨4, _⟩ => ⟨S4x15888x2048, .f32⟩
  | .hbm, ⟨5, _⟩ => ⟨S4x8192x2048, .f32⟩
  | .hbm, ⟨6, _⟩ => ⟨S4x3072x2048, .f32⟩
  | .hbm, ⟨7, _⟩ => ⟨S4x4608x2048, .f32⟩
  | .hbm, ⟨8, _⟩ => ⟨S4x16x2048, .f32⟩
  | .hbm, ⟨9, _⟩ => ⟨S4x8192x2048, .bf16⟩
  | .hbm, ⟨10, _⟩ => ⟨S4x3072x2048, .bf16⟩
  | .hbm, ⟨11, _⟩ => ⟨S4x4608x2048, .bf16⟩
  | .hbm, ⟨12, _⟩ => ⟨S4x16x2048, .bf16⟩
  | .hbm, ⟨13, _⟩ => ⟨S_, .bf16⟩
  | .hbm, ⟨14, _⟩ => ⟨S4x240x2048, .bf16⟩
  | .hbm, ⟨15, _⟩ => ⟨S4x16128x2048, .bf16⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x16128, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x1792x2048, .bf16⟩
  | .local _ .vmem, ⟨6, _⟩ => ⟨S1x1792x2048, .bf16⟩
  | .local _ .vmem, ⟨7, _⟩ => ⟨S1024x1792, .f32⟩
  | .local _ .vmem, ⟨8, _⟩ => ⟨S1024x1792, .f32⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1792x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x4096x2048 : Shape := ⟨3, ![4, 4096, 2048]⟩
abbrev S4x3x2048 : Shape := ⟨3, ![4, 3, 2048]⟩
abbrev S4x2048 : Shape := ⟨2, ![4, 2048]⟩
abbrev S4x2048x15888 : Shape := ⟨3, ![4, 2048, 15888]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S2048 : Shape := ⟨1, ![2048]⟩
abbrev S1x1x2048 : Shape := ⟨3, ![1, 1, 2048]⟩
abbrev S1x2048x15888 : Shape := ⟨3, ![1, 2048, 15888]⟩
abbrev S2048x15888 : Shape := ⟨2, ![2048, 15888]⟩
abbrev S4x4096x15888 : Shape := ⟨3, ![4, 4096, 15888]⟩
abbrev S4x4096x8192 : Shape := ⟨3, ![4, 4096, 8192]⟩
abbrev S4x4096x3072 : Shape := ⟨3, ![4, 4096, 3072]⟩
abbrev S4x4096x4608 : Shape := ⟨3, ![4, 4096, 4608]⟩
abbrev S4x4096x16 : Shape := ⟨3, ![4, 4096, 16]⟩
abbrev S4x4096x240 : Shape := ⟨3, ![4, 4096, 240]⟩
abbrev S4x4096x16128 : Shape := ⟨3, ![4, 4096, 16128]⟩
abbrev S16384x16128 : Shape := ⟨2, ![16384, 16128]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x3x2048, .f32⟩
  | .hbm, ⟨2, _⟩ => ⟨S4x2048, .f32⟩
  | .hbm, ⟨3, _⟩ => ⟨S4x2048x15888, .f32⟩
  | .hbm, ⟨4, _⟩ => ⟨S4x1x2048, .f32⟩
  | .hbm, ⟨5, _⟩ => ⟨S4x2048, .f32⟩
  | .hbm, ⟨6, _⟩ => ⟨S4x1x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S1x2048x15888, .f32⟩
  | .hbm, ⟨36, _⟩ => ⟨S2048x15888, .f32⟩
  | .hbm, ⟨37, _⟩ => ⟨S4x4096x15888, .f32⟩
  | .hbm, ⟨38, _⟩ => ⟨S4x4096x8192, .f32⟩
  | .hbm, ⟨39, _⟩ => ⟨S4x4096x3072, .f32⟩
  | .hbm, ⟨40, _⟩ => ⟨S4x4096x4608, .f32⟩
  | .hbm, ⟨41, _⟩ => ⟨S4x4096x16, .f32⟩
  | .hbm, ⟨42, _⟩ => ⟨S_, .f32⟩
  | .hbm, ⟨43, _⟩ => ⟨S4x4096x240, .f32⟩
  | .hbm, ⟨44, _⟩ => ⟨S4x4096x16128, .f32⟩
  | .hbm, ⟨45, _⟩ => ⟨S16384x16128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel3.lean ====
abbrev S16384x512 : Shape := ⟨2, ![16384, 512]⟩
abbrev S16384x16128 : Shape := ⟨2, ![16384, 16128]⟩
abbrev S4x4x512x2048 : Shape := ⟨4, ![4, 4, 512, 2048]⟩
abbrev S4x2048x2048 : Shape := ⟨3, ![4, 2048, 2048]⟩
abbrev S4x4096x2048 : Shape := ⟨3, ![4, 4096, 2048]⟩
abbrev S4x3x2048 : Shape := ⟨3, ![4, 3, 2048]⟩
abbrev S2048 : Shape := ⟨1, ![2048]⟩
abbrev S16384x2048 : Shape := ⟨2, ![16384, 2048]⟩
abbrev S1x2048 : Shape := ⟨2, ![1, 2048]⟩
abbrev S256x512 : Shape := ⟨2, ![256, 512]⟩
abbrev S256x8192 : Shape := ⟨2, ![256, 8192]⟩
abbrev S1x4x512x2048 : Shape := ⟨4, ![1, 4, 512, 2048]⟩
abbrev S1x2048x2048 : Shape := ⟨3, ![1, 2048, 2048]⟩
abbrev S256x2048 : Shape := ⟨2, ![256, 2048]⟩
abbrev S1x3x2048 : Shape := ⟨3, ![1, 3, 2048]⟩
abbrev S1x1x512x2048 : Shape := ⟨4, ![1, 1, 512, 2048]⟩
abbrev S512x2048 : Shape := ⟨2, ![512, 2048]⟩
abbrev S1x1x2048 : Shape := ⟨3, ![1, 1, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 15
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x16128, .f32⟩
  | .hbm, ⟨5, _⟩ => ⟨S4x4x512x2048, .f32⟩
  | .hbm, ⟨6, _⟩ => ⟨S4x2048x2048, .f32⟩
  | .hbm, ⟨7, _⟩ => ⟨S4x4096x2048, .f32⟩
  | .hbm, ⟨8, _⟩ => ⟨S4x3x2048, .f32⟩
  | .hbm, ⟨9, _⟩ => ⟨S2048, .f32⟩
  | .hbm, ⟨10, _⟩ => ⟨S4x4x512x2048, .bf16⟩
  | .hbm, ⟨11, _⟩ => ⟨S4x2048x2048, .bf16⟩
  | .hbm, ⟨12, _⟩ => ⟨S16384x2048, .f32⟩
  | .hbm, ⟨13, _⟩ => ⟨S1x2048, .f32⟩
  | .hbm, ⟨14, _⟩ => ⟨S16384x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x8192, .f32⟩
  | .local _ .vmem, ⟨9, _⟩ => ⟨S256x8192, .f32⟩
  | .local _ .vmem, ⟨10, _⟩ => ⟨S1x4x512x2048, .bf16⟩
  | .local _ .vmem, ⟨11, _⟩ => ⟨S1x2048x2048, .bf16⟩
  | .local _ .vmem, ⟨12, _⟩ => ⟨S256x2048, .f32⟩
  | .local _ .vmem, ⟨13, _⟩ => ⟨S256x2048, .f32⟩
  | .local _ .vmem, ⟨14, _⟩ => ⟨S1x3x2048, .f32⟩
  | .local _ .vmem, ⟨15, _⟩ => ⟨S1x3x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x512 : Shape := ⟨2, ![16384, 512]⟩
abbrev S16384x16128 : Shape := ⟨2, ![16384, 16128]⟩
abbrev S4x4x512x2048 : Shape := ⟨4, ![4, 4, 512, 2048]⟩
abbrev S4x2048x2048 : Shape := ⟨3, ![4, 2048, 2048]⟩
abbrev S4x4096x2048 : Shape := ⟨3, ![4, 4096, 2048]⟩
abbrev S4x3x2048 : Shape := ⟨3, ![4, 3, 2048]⟩
abbrev S2048 : Shape := ⟨1, ![2048]⟩
abbrev S4x4096x512 : Shape := ⟨3, ![4, 4096, 512]⟩
abbrev S16384x8192 : Shape := ⟨2, ![16384, 8192]⟩
abbrev S_ : Shape := ⟨0, ![]⟩
abbrev S4x4096x4x2048 : Shape := ⟨4, ![4, 4096, 4, 2048]⟩
abbrev S4x4096x1x2048 : Shape := ⟨4, ![4, 4096, 1, 2048]⟩
abbrev S1x1x512x2048 : Shape := ⟨4, ![1, 1, 512, 2048]⟩
abbrev S512x2048 : Shape := ⟨2, ![512, 2048]⟩
abbrev S4x1x2048 : Shape := ⟨3, ![4, 1, 2048]⟩
abbrev S4x2048 : Shape := ⟨2, ![4, 2048]⟩
abbrev S1x2048x2048 : Shape := ⟨3, ![1, 2048, 2048]⟩
abbrev S2048x2048 : Shape := ⟨2, ![2048, 2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 84
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x16128, .f32⟩
  | .hbm, ⟨5, _⟩ => ⟨S4x4x512x2048, .f32⟩
  | .hbm, ⟨6, _⟩ => ⟨S4x2048x2048, .f32⟩
  | .hbm, ⟨7, _⟩ => ⟨S4x4096x2048, .f32⟩
  | .hbm, ⟨8, _⟩ => ⟨S4x3x2048, .f32⟩
  | .hbm, ⟨9, _⟩ => ⟨S2048, .f32⟩
  | .hbm, ⟨10, _⟩ => ⟨S16384x512, .f32⟩
  | .hbm, ⟨11, _⟩ => ⟨S4x4096x512, .f32⟩
  | .hbm, ⟨12, _⟩ => ⟨S16384x512, .f32⟩
  | .hbm, ⟨13, _⟩ => ⟨S4x4096x512, .f32⟩
  | .hbm, ⟨14, _⟩ => ⟨S16384x512, .f32⟩
  | .hbm, ⟨15, _⟩ => ⟨S4x4096x512, .f32⟩
  | .hbm, ⟨16, _⟩ => ⟨S16384x512, .f32⟩
  | .hbm, ⟨17, _⟩ => ⟨S4x4096x512, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S_, .f32⟩
  | .hbm, ⟨25, _⟩ => ⟨S16384x8192, .f32⟩
  | .hbm, ⟨26, _⟩ => ⟨S16384x8192, .f32⟩
  | .hbm, ⟨27, _⟩ => ⟨S4x4096x4x2048, .f32⟩
  | .hbm, ⟨28, _⟩ => ⟨S4x4096x1x2048, .f32⟩
  | .hbm, ⟨29, _⟩ => ⟨S4x4096x2048, .f32⟩
  | .hbm, ⟨30, _⟩ => ⟨S1x1x512x2048, .f32⟩
  | .hbm, ⟨31, _⟩ => ⟨S512x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S4x4096x1x2048, .f32⟩
  | .hbm, ⟨38, _⟩ => ⟨S4x4096x2048, .f32⟩
  | .hbm, ⟨39, _⟩ => ⟨S1x1x512x2048, .f32⟩
  | .hbm, ⟨40, _⟩ => ⟨S512x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x1x2048, .f32⟩
  | .hbm, ⟨45, _⟩ => ⟨S4x4096x2048, .f32⟩
  | .hbm, ⟨46, _⟩ => ⟨S1x1x512x2048, .f32⟩
  | .hbm, ⟨47, _⟩ => ⟨S512x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x1x2048, .f32⟩
  | .hbm, ⟨52, _⟩ => ⟨S4x4096x2048, .f32⟩
  | .hbm, ⟨53, _⟩ => ⟨S1x1x512x2048, .f32⟩
  | .hbm, ⟨54, _⟩ => ⟨S512x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S1x2048x2048, .f32⟩
  | .hbm, ⟨62, _⟩ => ⟨S2048x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x2048, .f32⟩
  | .hbm, ⟨79, _⟩ => ⟨S4x4096x2048, .f32⟩
  | .hbm, ⟨80, _⟩ => ⟨S1x1x2048, .f32⟩
  | .hbm, ⟨81, _⟩ => ⟨S4x4096x2048, .f32⟩
  | .hbm, ⟨82, _⟩ => ⟨S4x4096x2048, .f32⟩
  | .hbm, ⟨83, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== Kernel4.lean ====
abbrev S16384x512 : Shape := ⟨2, ![16384, 512]⟩
abbrev S16384x16128 : Shape := ⟨2, ![16384, 16128]⟩
abbrev S4x4x512x2048 : Shape := ⟨4, ![4, 4, 512, 2048]⟩
abbrev S4x2048x2048 : Shape := ⟨3, ![4, 2048, 2048]⟩
abbrev S4x4096x2048 : Shape := ⟨3, ![4, 4096, 2048]⟩
abbrev S4x3x2048 : Shape := ⟨3, ![4, 3, 2048]⟩
abbrev S2048 : Shape := ⟨1, ![2048]⟩
abbrev S16384x2048 : Shape := ⟨2, ![16384, 2048]⟩
abbrev S1x2048 : Shape := ⟨2, ![1, 2048]⟩
abbrev S256x512 : Shape := ⟨2, ![256, 512]⟩
abbrev S256x8192 : Shape := ⟨2, ![256, 8192]⟩
abbrev S1x4x512x2048 : Shape := ⟨4, ![1, 4, 512, 2048]⟩
abbrev S1x2048x2048 : Shape := ⟨3, ![1, 2048, 2048]⟩
abbrev S256x2048 : Shape := ⟨2, ![256, 2048]⟩
abbrev S1x3x2048 : Shape := ⟨3, ![1, 3, 2048]⟩
abbrev S1x1x512x2048 : Shape := ⟨4, ![1, 1, 512, 2048]⟩
abbrev S512x2048 : Shape := ⟨2, ![512, 2048]⟩
abbrev S1x1x2048 : Shape := ⟨3, ![1, 1, 2048]⟩
abbrev S2048x2048 : Shape := ⟨2, ![2048, 2048]⟩

abbrev nBuf : Space → Nat
  | .hbm => 15
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x16128, .f32⟩
  | .hbm, ⟨5, _⟩ => ⟨S4x4x512x2048, .f32⟩
  | .hbm, ⟨6, _⟩ => ⟨S4x2048x2048, .f32⟩
  | .hbm, ⟨7, _⟩ => ⟨S4x4096x2048, .f32⟩
  | .hbm, ⟨8, _⟩ => ⟨S4x3x2048, .f32⟩
  | .hbm, ⟨9, _⟩ => ⟨S2048, .f32⟩
  | .hbm, ⟨10, _⟩ => ⟨S4x4x512x2048, .bf16⟩
  | .hbm, ⟨11, _⟩ => ⟨S4x2048x2048, .bf16⟩
  | .hbm, ⟨12, _⟩ => ⟨S16384x2048, .f32⟩
  | .hbm, ⟨13, _⟩ => ⟨S1x2048, .f32⟩
  | .hbm, ⟨14, _⟩ => ⟨S16384x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x8192, .f32⟩
  | .local _ .vmem, ⟨9, _⟩ => ⟨S256x8192, .f32⟩
  | .local _ .vmem, ⟨10, _⟩ => ⟨S1x4x512x2048, .bf16⟩
  | .local _ .vmem, ⟨11, _⟩ => ⟨S1x2048x2048, .bf16⟩
  | .local _ .vmem, ⟨12, _⟩ => ⟨S256x2048, .f32⟩
  | .local _ .vmem, ⟨13, _⟩ => ⟨S256x2048, .f32⟩
  | .local _ .vmem, ⟨14, _⟩ => ⟨S1x3x2048, .f32⟩
  | .local _ .vmem, ⟨15, _⟩ => ⟨S1x3x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x512 : Shape := ⟨2, ![16384, 512]⟩
abbrev S16384x16128 : Shape := ⟨2, ![16384, 16128]⟩
abbrev S4x4x512x2048 : Shape := ⟨4, ![4, 4, 512, 2048]⟩
abbrev S4x2048x2048 : Shape := ⟨3, ![4, 2048, 2048]⟩
abbrev S4x4096x2048 : Shape := ⟨3, ![4, 4096, 2048]⟩
abbrev S4x3x2048 : Shape := ⟨3, ![4, 3, 2048]⟩
abbrev S2048 : Shape := ⟨1, ![2048]⟩
abbrev S4x4096x512 : Shape := ⟨3, ![4, 4096, 512]⟩
abbrev S16384x8192 : Shape := ⟨2, ![16384, 8192]⟩
abbrev S_ : Shape := ⟨0, ![]⟩
abbrev S4x4096x4x2048 : Shape := ⟨4, ![4, 4096, 4, 2048]⟩
abbrev S4x4096x1x2048 : Shape := ⟨4, ![4, 4096, 1, 2048]⟩
abbrev S1x1x512x2048 : Shape := ⟨4, ![1, 1, 512, 2048]⟩
abbrev S512x2048 : Shape := ⟨2, ![512, 2048]⟩
abbrev S4x1x2048 : Shape := ⟨3, ![4, 1, 2048]⟩
abbrev S4x2048 : Shape := ⟨2, ![4, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x16128, .f32⟩
  | .hbm, ⟨5, _⟩ => ⟨S4x4x512x2048, .f32⟩
  | .hbm, ⟨6, _⟩ => ⟨S4x2048x2048, .f32⟩
  | .hbm, ⟨7, _⟩ => ⟨S4x4096x2048, .f32⟩
  | .hbm, ⟨8, _⟩ => ⟨S4x3x2048, .f32⟩
  | .hbm, ⟨9, _⟩ => ⟨S2048, .f32⟩
  | .hbm, ⟨10, _⟩ => ⟨S16384x512, .f32⟩
  | .hbm, ⟨11, _⟩ => ⟨S4x4096x512, .f32⟩
  | .hbm, ⟨12, _⟩ => ⟨S16384x512, .f32⟩
  | .hbm, ⟨13, _⟩ => ⟨S4x4096x512, .f32⟩
  | .hbm, ⟨14, _⟩ => ⟨S16384x512, .f32⟩
  | .hbm, ⟨15, _⟩ => ⟨S4x4096x512, .f32⟩
  | .hbm, ⟨16, _⟩ => ⟨S16384x512, .f32⟩
  | .hbm, ⟨17, _⟩ => ⟨S4x4096x512, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S_, .f32⟩
  | .hbm, ⟨25, _⟩ => ⟨S16384x8192, .f32⟩
  | .hbm, ⟨26, _⟩ => ⟨S16384x8192, .f32⟩
  | .hbm, ⟨27, _⟩ => ⟨S4x4096x4x2048, .f32⟩
  | .hbm, ⟨28, _⟩ => ⟨S4x4096x1x2048, .f32⟩
  | .hbm, ⟨29, _⟩ => ⟨S4x4096x2048, .f32⟩
  | .hbm, ⟨30, _⟩ => ⟨S1x1x512x2048, .f32⟩
  | .hbm, ⟨31, _⟩ => ⟨S512x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S4x4096x1x2048, .f32⟩
  | .hbm, ⟨38, _⟩ => ⟨S4x4096x2048, .f32⟩
  | .hbm, ⟨39, _⟩ => ⟨S1x1x512x2048, .f32⟩
  | .hbm, ⟨40, _⟩ => ⟨S512x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x1x2048, .f32⟩
  | .hbm, ⟨45, _⟩ => ⟨S4x4096x2048, .f32⟩
  | .hbm, ⟨46, _⟩ => ⟨S1x1x512x2048, .f32⟩
  | .hbm, ⟨47, _⟩ => ⟨S512x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x1x2048, .f32⟩
  | .hbm, ⟨52, _⟩ => ⟨S4x4096x2048, .f32⟩
  | .hbm, ⟨53, _⟩ => ⟨S1x1x512x2048, .f32⟩
  | .hbm, ⟨54, _⟩ => ⟨S512x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S1x2048x2048, .f32⟩
  | .hbm, ⟨62, _⟩ => ⟨S2048x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel5.lean ====
abbrev S4x256x2048 : Shape := ⟨3, ![4, 256, 2048]⟩
abbrev S1x3x2048 : Shape := ⟨3, ![1, 3, 2048]⟩
abbrev S4x2048 : Shape := ⟨2, ![4, 2048]⟩
abbrev S4x2048x15888 : Shape := ⟨3, ![4, 2048, 15888]⟩
abbrev S4x15888x2048 : Shape := ⟨3, ![4, 15888, 2048]⟩
abbrev S4x8192x2048 : Shape := ⟨3, ![4, 8192, 2048]⟩
abbrev S4x3072x2048 : Shape := ⟨3, ![4, 3072, 2048]⟩
abbrev S4x4608x2048 : Shape := ⟨3, ![4, 4608, 2048]⟩
abbrev S4x16x2048 : Shape := ⟨3, ![4, 16, 2048]⟩
abbrev S_ : Shape := ⟨0, ![]⟩
abbrev S4x240x2048 : Shape := ⟨3, ![4, 240, 2048]⟩
abbrev S4x16128x2048 : Shape := ⟨3, ![4, 16128, 2048]⟩
abbrev S1024x2048 : Shape := ⟨2, ![1024, 2048]⟩
abbrev S1x2048 : Shape := ⟨2, ![1, 2048]⟩
abbrev S2048 : Shape := ⟨1, ![2048]⟩
abbrev S1024x16128 : Shape := ⟨2, ![1024, 16128]⟩
abbrev S1x1792x2048 : Shape := ⟨3, ![1, 1792, 2048]⟩
abbrev S1024x1792 : Shape := ⟨2, ![1024, 1792]⟩
abbrev S1024 : Shape := ⟨1, ![1024]⟩
abbrev S1024x1 : Shape := ⟨2, ![1024, 1]⟩
abbrev S1x1x2048 : Shape := ⟨3, ![1, 1, 2048]⟩
abbrev S1792x2048 : Shape := ⟨2, ![1792, 2048]⟩

abbrev nBuf : Space → Nat
  | .hbm => 21
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S1x3x2048, .f32⟩
  | .hbm, ⟨2, _⟩ => ⟨S4x2048, .f32⟩
  | .hbm, ⟨3, _⟩ => ⟨S4x2048x15888, .f32⟩
  | .hbm, ⟨4, _⟩ => ⟨S4x15888x2048, .f32⟩
  | .hbm, ⟨5, _⟩ => ⟨S4x8192x2048, .f32⟩
  | .hbm, ⟨6, _⟩ => ⟨S4x3072x2048, .f32⟩
  | .hbm, ⟨7, _⟩ => ⟨S4x4608x2048, .f32⟩
  | .hbm, ⟨8, _⟩ => ⟨S4x16x2048, .f32⟩
  | .hbm, ⟨9, _⟩ => ⟨S4x8192x2048, .bf16⟩
  | .hbm, ⟨10, _⟩ => ⟨S4x3072x2048, .bf16⟩
  | .hbm, ⟨11, _⟩ => ⟨S4x4608x2048, .bf16⟩
  | .hbm, ⟨12, _⟩ => ⟨S4x16x2048, .bf16⟩
  | .hbm, ⟨13, _⟩ => ⟨S_, .bf16⟩
  | .hbm, ⟨14, _⟩ => ⟨S4x240x2048, .bf16⟩
  | .hbm, ⟨15, _⟩ => ⟨S4x16128x2048, .bf16⟩
  | .hbm, ⟨16, _⟩ => ⟨S1024x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1024x16128, .f32⟩
  | .local _ .vmem, ⟨0, _⟩ => ⟨S1024x2048, .f32⟩
  | .local _ .vmem, ⟨1, _⟩ => ⟨S1x3x2048, .f32⟩
  | .local _ .vmem, ⟨2, _⟩ => ⟨S1x2048, .f32⟩
  | .local _ .vmem, ⟨3, _⟩ => ⟨S1x1792x2048, .bf16⟩
  | .local _ .vmem, ⟨4, _⟩ => ⟨S1x1792x2048, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1792x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x256x2048 : Shape := ⟨3, ![4, 256, 2048]⟩
abbrev S1x3x2048 : Shape := ⟨3, ![1, 3, 2048]⟩
abbrev S4x2048 : Shape := ⟨2, ![4, 2048]⟩
abbrev S4x2048x15888 : Shape := ⟨3, ![4, 2048, 15888]⟩
abbrev S1x1x2048 : Shape := ⟨3, ![1, 1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x2048 : Shape := ⟨2, ![1, 2048]⟩
abbrev S1x2048x15888 : Shape := ⟨3, ![1, 2048, 15888]⟩
abbrev S2048x15888 : Shape := ⟨2, ![2048, 15888]⟩
abbrev S4x256x15888 : Shape := ⟨3, ![4, 256, 15888]⟩
abbrev S4x256x8192 : Shape := ⟨3, ![4, 256, 8192]⟩
abbrev S4x256x3072 : Shape := ⟨3, ![4, 256, 3072]⟩
abbrev S4x256x4608 : Shape := ⟨3, ![4, 256, 4608]⟩
abbrev S4x256x16 : Shape := ⟨3, ![4, 256, 16]⟩
abbrev S4x256x240 : Shape := ⟨3, ![4, 256, 240]⟩
abbrev S4x256x16128 : Shape := ⟨3, ![4, 256, 16128]⟩
abbrev S1024x16128 : Shape := ⟨2, ![1024, 16128]⟩

abbrev nBuf : Space → Nat
  | .hbm => 46
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x3x2048, .f32⟩
  | .hbm, ⟨2, _⟩ => ⟨S4x2048, .f32⟩
  | .hbm, ⟨3, _⟩ => ⟨S4x2048x15888, .f32⟩
  | .hbm, ⟨4, _⟩ => ⟨S1x1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S4x256x2048, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x2048, .f32⟩
  | .hbm, ⟨20, _⟩ => ⟨S4x256x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S4x256x2048, .f32⟩
  | .hbm, ⟨25, _⟩ => ⟨S4x256x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S4x256x2048, .f32⟩
  | .hbm, ⟨31, _⟩ => ⟨S4x256x2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S1x2048x15888, .f32⟩
  | .hbm, ⟨36, _⟩ => ⟨S2048x15888, .f32⟩
  | .hbm, ⟨37, _⟩ => ⟨S4x256x15888, .f32⟩
  | .hbm, ⟨38, _⟩ => ⟨S4x256x8192, .f32⟩
  | .hbm, ⟨39, _⟩ => ⟨S4x256x3072, .f32⟩
  | .hbm, ⟨40, _⟩ => ⟨S4x256x4608, .f32⟩
  | .hbm, ⟨41, _⟩ => ⟨S4x256x16, .f32⟩
  | .hbm, ⟨42, _⟩ => ⟨S_, .f32⟩
  | .hbm, ⟨43, _⟩ => ⟨S4x256x240, .f32⟩
  | .hbm, ⟨44, _⟩ => ⟨S4x256x16128, .f32⟩
  | .hbm, ⟨45, _⟩ => ⟨S1024x16128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Frames.lean ====
/- Hand-written, untrusted: the frame of every program: the kernels' runs and the references' runs end with every
   semaphore counter at zero and the arguments unwritten. -/
module

public import proofs.«01_k».proof.Proof.Gen.Pre_finite
public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init

@[expose] public section

noncomputable section

namespace Cert.Proof.Frames

open Idealize.ShloMosaic Idealize.SL.Sem

theorem kernel : Cert.quiescent_Kernel (hKernel := Cert.Kernel.Gen.facts) := fun m ρ _ => Cert.Kernel.Gen.frame m ρ
theorem kernelIdeal : Cert.quiescent_KernelIdeal (hKernelIdeal := Cert.KernelIdeal.Gen.facts) :=
  fun m ρ _ => Cert.KernelIdeal.Gen.frame m ρ
theorem kernel2 : Cert.quiescent_Kernel2 (hKernel2 := Cert.Kernel2.Gen.facts) := fun m ρ _ => Cert.Kernel2.Gen.frame m ρ
theorem kernel2Ideal : Cert.quiescent_Kernel2Ideal (hKernel2Ideal := Cert.Kernel2Ideal.Gen.facts) :=
  fun m ρ _ => Cert.Kernel2Ideal.Gen.frame m ρ
theorem kernel3 : Cert.quiescent_Kernel3 (hKernel3 := Cert.Kernel3.Gen.facts) := fun m ρ _ => Cert.Kernel3.Gen.frame m ρ
theorem kernel3Ideal : Cert.quiescent_Kernel3Ideal (hKernel3Ideal := Cert.Kernel3Ideal.Gen.facts) :=
  fun m ρ _ => Cert.Kernel3Ideal.Gen.frame m ρ
theorem kernel4 : Cert.quiescent_Kernel4 (hKernel4 := Cert.Kernel4.Gen.facts) := fun m ρ _ => Cert.Kernel4.Gen.frame m ρ
theorem kernel4Ideal : Cert.quiescent_Kernel4Ideal (hKernel4Ideal := Cert.Kernel4Ideal.Gen.facts) :=
  fun m ρ _ => Cert.Kernel4Ideal.Gen.frame m ρ
theorem kernel5 : Cert.quiescent_Kernel5 (hKernel5 := Cert.Kernel5.Gen.facts) := fun m ρ _ => Cert.Kernel5.Gen.frame m ρ
theorem kernel5Ideal : Cert.quiescent_Kernel5Ideal (hKernel5Ideal := Cert.Kernel5Ideal.Gen.facts) :=
  fun m ρ _ => Cert.Kernel5Ideal.Gen.frame m ρ

theorem referenceIdeal : Cert.quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run m ρ)
theorem reference2Ideal : Cert.quiescent_Reference2Ideal (hReference2Ideal := Cert.Reference2Ideal.Gen.facts) := by
  intro m ρ _
  exact (θ_run Cert.Reference2Ideal.defs _ _).mono (fun r h => ⟨fun c => (h c).2, Idealize.ShloMosaic.sem_eq_zero_of_no_sems (by decide) r.2⟩)
    (Cert.Reference2Ideal.Value.run m ρ)
theorem reference3Ideal : Cert.quiescent_Reference3Ideal (hReference3Ideal := Cert.Reference3Ideal.Gen.facts) := by
  intro m ρ _
  exact (θ_run Cert.Reference3Ideal.defs _ _).mono (fun r h => ⟨fun c => (h c).2, Idealize.ShloMosaic.sem_eq_zero_of_no_sems (by decide) r.2⟩)
    (Cert.Reference3Ideal.Value.run m ρ)
theorem reference4Ideal : Cert.quiescent_Reference4Ideal (hReference4Ideal := Cert.Reference4Ideal.Gen.facts) := by
  intro m ρ _
  exact (θ_run Cert.Reference4Ideal.defs _ _).mono (fun r h => ⟨fun c => (h c).2, Idealize.ShloMosaic.sem_eq_zero_of_no_sems (by decide) r.2⟩)
    (Cert.Reference4Ideal.Value.run m ρ)
theorem reference5Ideal : Cert.quiescent_Reference5Ideal (hReference5Ideal := Cert.Reference5Ideal.Gen.facts) := by
  intro m ρ _
  exact (θ_run Cert.Reference5Ideal.defs _ _).mono (fun r h => ⟨fun c => (h c).2, Idealize.ShloMosaic.sem_eq_zero_of_no_sems (by decide) r.2⟩)
    (Cert.Reference5Ideal.Value.run m ρ)

theorem kernelIdeal_pre : Cert.quiescent_KernelIdeal_pre_finite (hKernelIdeal := Cert.KernelIdeal.Gen.facts)
    (hPre_finite := Cert.Pre_finite.Gen.facts) := fun m ρ _ => Cert.KernelIdeal.Gen.frame m ρ
theorem referenceIdeal_pre : Cert.quiescent_ReferenceIdeal_pre_finite (hReferenceIdeal := Cert.ReferenceIdeal.Gen.facts)
    (hPre_finite := Cert.Pre_finite.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run m ρ)

end Cert.Proof.Frames

end
-- ==== Proof.ProjRow.lean ====
/- Hand-written, untrusted: one row of the input projection as a function of the row's own numbers, over the extended
   reals: the normalised and modulated row, its product with a weight column, and where a packed column comes from. -/
module

public import Idealize.ShloMosaic.Lib.Pointwise
public import Idealize.ShloMosaic.PureOps.Ideal.Laws

@[expose] public section

noncomputable section

namespace Cert.Proof.Proj

open Idealize.ShloMosaic

/-- A row divided by its root mean square, scaled by the gain and by one plus the scale, and shifted. -/
def hrow (x g sc sh : Fin 2048 → EReal) (e : Fin 2048) : EReal :=
  x e * Ideal.rsqrt (Ideal.div (∑ k : Fin 2048, x k * x k) (Ideal.ofBits .f32 0x45000000#32) + Ideal.ofBits .f32 0x358637BD#32)
    * g e * (Ideal.ofBits .f32 0x3F800000#32 + sc e) + sh e

/-- Packed column `j`: the gates' columns first, then the first two mixers' and the last two's, then the sixteen decay columns, then
    nothing. -/
def packed (w : Fin 15888 → EReal) (j : Fin 16128) : EReal :=
  if h0 : j.val < 8192 then w ⟨7696 + j.val, by omega⟩
  else if h1 : j.val < 11264 then w ⟨j.val - 8192, by omega⟩
  else if h2 : j.val < 15872 then w ⟨3088 + (j.val - 11264), by omega⟩
  else if h3 : j.val < 15888 then w ⟨3072 + (j.val - 15872), by omega⟩
  else 0

/-- The packed projection of a row: its product with each packed column. -/
def prow (h : Fin 2048 → EReal) (w : Fin 2048 → Fin 15888 → EReal) (j : Fin 16128) : EReal :=
  ∑ k : Fin 2048, h k * packed (w k) j

/-- Packing the columns of the product and packing the columns of the weight are the same. -/
theorem packed_sum (h : Fin 2048 → EReal) (w : Fin 2048 → Fin 15888 → EReal) (j : Fin 16128) :
    packed (fun n => ∑ k : Fin 2048, h k * w k n) j = prow h w j := by
  unfold packed prow packed
  split_ifs <;> simp

end Cert.Proof.Proj

end
-- ==== Proof.ProjBlock.lean ====
/- Hand-written, untrusted: what the projection kernel's body leaves in its output block and in the scratch it carries
   along the columns, row by row. -/
module

public import proofs.«01_k».proof.Proof.Gen.Kernel2Ideal.Value
public import proofs.«01_k».proof.Proof.ProjRow

@[expose] public section

set_option maxRecDepth 16384

noncomputable section

namespace Cert.Proof.Proj

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

theorem pay1_apply (v6 : Vec Ideal S1024x2048 .f32) (v18 : Vec Ideal S1x2048 .f32) (v22 v28 : Vec Ideal S1x1x2048 .f32)
    (r : Fin 1024) (e : Fin 2048) :
    k0_pay1 v6 v18 v22 v28 (ix2 r e)
      = hrow (fun e => v6 (ix2 r e)) (fun e => v18 (ix2 0 e)) (fun e => v22 (ix3 0 0 e)) (fun e => v28 (ix3 0 0 e)) e := by
  pointwise [k0_pay1, hrow]

theorem pay2_apply (v6 : Vec Ideal S1024x2048 .f32) (v18 : Vec Ideal S1x2048 .f32) (v22 v28 : Vec Ideal S1x1x2048 .f32)
    (r : Fin 1024) (e : Fin 2048) :
    k0_pay2 v6 v18 v22 v28 (ix2 r e)
      = hrow (fun e => v6 (ix2 r e)) (fun e => v18 (ix2 0 e)) (fun e => v22 (ix3 0 0 e)) (fun e => v28 (ix3 0 0 e)) e := by
  unfold k0_pay2
  rw [shapeCast_self, pay1_apply]

theorem pay4_apply (v6 : Vec Ideal S1024x2048 .bf16) (v7 : Vec Ideal S1x1792x2048 .bf16) (r : Fin 1024) (j : Fin 1792) :
    k0_pay4 v6 v7 (ix2 r j) = ∑ k : Fin 2048, v6 (ix2 r k) * v7 (ix3 0 j k) := by
  pointwise [k0_pay4]

theorem pay3_apply (v6 : Vec Ideal S1024x2048 .f32) (v18 : Vec Ideal S1x2048 .f32) (v22 v28 : Vec Ideal S1x1x2048 .f32)
    (v36 : Vec Ideal S1x1792x2048 .bf16) (r : Fin 1024) (j : Fin 1792) :
    k0_pay3 v6 v18 v22 v28 v36 (ix2 r j)
      = ∑ k : Fin 2048, hrow (fun e => v6 (ix2 r e)) (fun e => v18 (ix2 0 e)) (fun e => v22 (ix3 0 0 e)) (fun e => v28 (ix3 0 0 e)) k
          * v36 (ix3 0 j k) := by
  have h : k0_pay3 v6 v18 v22 v28 v36 = k0_pay4 (k0_pay1 v6 v18 v22 v28) v36 := rfl
  rw [h, pay4_apply]
  simp only [pay1_apply]

/-- At a block's first column the body projects the row it normalises there. -/
theorem outA_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x3x2048 .f32) (x2 : Vec Ideal S1x2048 .f32) (x3 : Vec Ideal S1x1792x2048 .bf16) (r : Fin 1024) (j : Fin 1792) :
    out0_A_4 c i arg2 harg2 arg3 harg3 arg4 harg4 arg5 harg5 arg6 harg6 arg7 harg7 hc0 hc1 x0 x1 x2 x3 (ix2 r j)
      = ∑ k : Fin 2048, hrow (fun e => x0 (ix2 r e)) (fun e => x2 (ix2 0 e)) (fun e => x1 (ix3 0 1 e)) (fun e => x1 (ix3 0 0 e)) k
          * x3 (ix3 0 j k) := by
  unfold out0_A_4
  rw [View.read_writes_eq_canon _ _ _ (cover0_A_4 c i arg2 harg2 arg3 harg3 arg4 harg4 arg5 harg5 arg6 harg6 arg7 harg7 hc0 hc1 x0 x1 x2 x3)]
  unfold kernelRun0_A
  dsimp only
  sl_unfold_words
  rw [View.canon_unit_zero hz, pay3_apply]
  simp only [View.readAt_eq_ld, harg2.read_unread, harg3.read_unread, harg4.read_unread, harg5.read_unread]
  pointwise

/-- … and keeps that row in the scratch. -/
theorem soutA_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x3x2048 .f32) (x2 : Vec Ideal S1x2048 .f32) (x3 : Vec Ideal S1x1792x2048 .bf16) (r : Fin 1024) (j : Fin 2048) :
    sout0_A_0 c i arg2 harg2 arg3 harg3 arg4 harg4 arg5 harg5 arg6 harg6 arg7 harg7 hc0 hc1 x0 x1 x2 x3 (ix2 r j)
      = hrow (fun e => x0 (ix2 r e)) (fun e => x2 (ix2 0 e)) (fun e => x1 (ix3 0 1 e)) (fun e => x1 (ix3 0 0 e)) j := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_unit_zero hz, pay2_apply]
  simp only [View.readAt_eq_ld, harg2.read_unread, harg3.read_unread, harg4.read_unread, harg5.read_unread]
  pointwise

/-- At a later column it projects the row the scratch holds. -/
theorem outB_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : ¬cond0_0 i) (hc1 : cond0_1 i)
    (x0 : Vec Ideal S1024x2048 .f32) (x1 : Vec Ideal S1x3x2048 .f32) (x2 : Vec Ideal S1x2048 .f32) (x3 : Vec Ideal S1x1792x2048 .bf16) (xs0 : Vec Ideal S1024x2048 .bf16) (r : Fin 1024) (j : Fin 1792) :
    out0_B_4 c i arg2 harg2 arg3 harg3 arg4 harg4 arg5 harg5 arg6 harg6 arg7 harg7 hc0 hc1 x0 x1 x2 x3 xs0 (ix2 r j)
      = ∑ k : Fin 2048, xs0 (ix2 r k) * x3 (ix3 0 j k) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero hz, pay4_apply]
  simp only [View.readAt_eq_ld, harg5.read_unread, harg7.read_unread]
  pointwise

end Cert.Proof.Proj

end
-- ==== Proof.ProjCat.lean ====
/- Hand-written, untrusted: five pieces laid side by side along one axis, read at a place (the packed weights). -/
module

public import proofs.«01_k».proof.Proof.Gen.Kernel2Ideal.Value
public import Idealize.ShloMosaic.Lib.Pipeline.Value
public import proofs.«01_k».proof.Proof.ProjRow

@[expose] public section

set_option maxRecDepth 16384

noncomputable section

namespace Cert.Proof.Proj

open Cert.Kernel2Ideal Idealize.ShloMosaic Idealize.ShloMosaic.TcCoe Idealize.SL.Sem

/-- Five pieces laid side by side along one axis, read at a place. -/
theorem cat_rows (x0 : S4x8192x2048.Idx → EReal) (x1 : S4x3072x2048.Idx → EReal) (x2 : S4x4608x2048.Idx → EReal) (x3 : S4x16x2048.Idx → EReal) (x4 : S4x240x2048.Idx → EReal)
    (h : Shape.Concatenates [S4x8192x2048, S4x3072x2048, S4x4608x2048, S4x16x2048, S4x240x2048] S4x16128x2048 1) (l : Fin 4) (j : Fin 16128) (k : Fin 2048) :
    concatenate S4x16128x2048 1 [⟨S4x8192x2048, x0⟩, ⟨S4x3072x2048, x1⟩, ⟨S4x4608x2048, x2⟩, ⟨S4x16x2048, x3⟩, ⟨S4x240x2048, x4⟩] h (ix3 l j k)
      = if h0 : j.val < 8192 then x0 (ix3 l ⟨j.val - 0, by omega⟩ k) else if h1 : j.val < 11264 then x1 (ix3 l ⟨j.val - 8192, by omega⟩ k) else if h2 : j.val < 15872 then x2 (ix3 l ⟨j.val - 11264, by omega⟩ k) else if h3 : j.val < 15888 then x3 (ix3 l ⟨j.val - 15872, by omega⟩ k) else x4 (ix3 l ⟨j.val - 15888, by omega⟩ k) := by
  have hj := j.isLt
  by_cases h0 : j.val < 8192
  · rw [dif_pos h0]
    refine concatenate_apply_piece 1 [⟨S4x8192x2048, x0⟩, ⟨S4x3072x2048, x1⟩, ⟨S4x4608x2048, x2⟩, ⟨S4x16x2048, x3⟩, ⟨S4x240x2048, x4⟩] h (ix3 l j k) 0 (by show _ < 5; decide) S4x8192x2048 x0 rfl rfl 0 rfl (ix3 l ⟨j.val - 0, by omega⟩ k : S4x8192x2048.Idx) (fun a ha => ?_) ?_
    · match a, ha with
      | ⟨0, _⟩, _ => rfl
      | ⟨1, _⟩, ha => exact absurd rfl ha
      | ⟨2, _⟩, _ => rfl
    · show 0 + (j.val - 0) = j.val; omega
  by_cases h1 : j.val < 11264
  · rw [dif_neg h0, dif_pos h1]
    refine concatenate_apply_piece 1 [⟨S4x8192x2048, x0⟩, ⟨S4x3072x2048, x1⟩, ⟨S4x4608x2048, x2⟩, ⟨S4x16x2048, x3⟩, ⟨S4x240x2048, x4⟩] h (ix3 l j k) 1 (by show _ < 5; decide) S4x3072x2048 x1 rfl rfl 8192 rfl (ix3 l ⟨j.val - 8192, by omega⟩ k : S4x3072x2048.Idx) (fun a ha => ?_) ?_
    · match a, ha with
      | ⟨0, _⟩, _ => rfl
      | ⟨1, _⟩, ha => exact absurd rfl ha
      | ⟨2, _⟩, _ => rfl
    · show 8192 + (j.val - 8192) = j.val; omega
  by_cases h2 : j.val < 15872
  · rw [dif_neg h0, dif_neg h1, dif_pos h2]
    refine concatenate_apply_piece 1 [⟨S4x8192x2048, x0⟩, ⟨S4x3072x2048, x1⟩, ⟨S4x4608x2048, x2⟩, ⟨S4x16x2048, x3⟩, ⟨S4x240x2048, x4⟩] h (ix3 l j k) 2 (by show _ < 5; decide) S4x4608x2048 x2 rfl rfl 11264 rfl (ix3 l ⟨j.val - 11264, by omega⟩ k : S4x4608x2048.Idx) (fun a ha => ?_) ?_
    · match a, ha with
      | ⟨0, _⟩, _ => rfl
      | ⟨1, _⟩, ha => exact absurd rfl ha
      | ⟨2, _⟩, _ => rfl
    · show 11264 + (j.val - 11264) = j.val; omega
  by_cases h3 : j.val < 15888
  · rw [dif_neg h0, dif_neg h1, dif_neg h2, dif_pos h3]
    refine concatenate_apply_piece 1 [⟨S4x8192x2048, x0⟩, ⟨S4x3072x2048, x1⟩, ⟨S4x4608x2048, x2⟩, ⟨S4x16x2048, x3⟩, ⟨S4x240x2048, x4⟩] h (ix3 l j k) 3 (by show _ < 5; decide) S4x16x2048 x3 rfl rfl 15872 rfl (ix3 l ⟨j.val - 15872, by omega⟩ k : S4x16x2048.Idx) (fun a ha => ?_) ?_
    · match a, ha with
      | ⟨0, _⟩, _ => rfl
      | ⟨1, _⟩, ha => exact absurd rfl ha
      | ⟨2, _⟩, _ => rfl
    · show 15872 + (j.val - 15872) = j.val; omega
  rw [dif_neg h0, dif_neg h1, dif_neg h2, dif_neg h3]
  refine concatenate_apply_piece 1 [⟨S4x8192x2048, x0⟩, ⟨S4x3072x2048, x1⟩, ⟨S4x4608x2048, x2⟩, ⟨S4x16x2048, x3⟩, ⟨S4x240x2048, x4⟩] h (ix3 l j k) 4 (by show _ < 5; decide) S4x240x2048 x4 rfl rfl 15888 rfl (ix3 l ⟨j.val - 15888, by omega⟩ k : S4x240x2048.Idx) (fun a ha => ?_) ?_
  · match a, ha with
    | ⟨0, _⟩, _ => rfl
    | ⟨1, _⟩, ha => exact absurd rfl ha
    | ⟨2, _⟩, _ => rfl
  · show 15888 + (j.val - 15888) = j.val; omega

end Cert.Proof.Proj

end
-- ==== Proof.ProjKernel.lean ====
/- Hand-written, untrusted: the projection kernel's result array as a function of the argument arrays: the scratch holds
   the normalised row of the current block of rows, and every output block is that row against a block of packed columns. -/
module

public import proofs.«01_k».proof.Proof.ProjBlock
public import proofs.«01_k».proof.Proof.ProjCat

@[expose] public section

set_option maxRecDepth 16384

noncomputable section

namespace Cert.Proof.Proj

open Cert.Kernel2Ideal Cert.Kernel2Ideal.Gen Cert.Kernel2Ideal.Value Idealize.ShloMosaic Idealize.ShloMosaic.TcCoe Idealize.SL.Sem

/-- The normalised and modulated row `R` of the flat sequence. -/
def hAt (x : Vec Ideal S4x4096x2048 .f32) (md : Vec Ideal S4x3x2048 .f32) (ng : Vec Ideal S4x2048 .f32) (R : Fin 16384)
    (e : Fin 2048) : EReal :=
  hrow (fun e => x (ix3 ⟨R.val / 4096, by omega⟩ ⟨R.val % 4096, by omega⟩ e)) (fun e => ng (ix2 3 e))
    (fun e => md (ix3 ⟨R.val / 4096, by omega⟩ 1 e)) (fun e => md (ix3 ⟨R.val / 4096, by omega⟩ 0 e)) e

/-- The packed projection: every row against every packed column. -/
def G (x : Vec Ideal S4x4096x2048 .f32) (md : Vec Ideal S4x3x2048 .f32) (ng : Vec Ideal S4x2048 .f32)
    (w : Vec Ideal S4x2048x15888 .f32) : Vec Ideal S16384x16128 .f32 :=
  fun i => prow (hAt x md ng (i 0)) (fun k n => w (ix3 3 k n)) (i 1)

variable (m : (ℓ : Loc nD τ sig) → Buf (Elt Ideal) ℓ) (ρ : Dev nD → PrngReg)

theorem ix_0 : ∀ t : Fin cfg0.N, win0_0.index t 0 = t.val / 9 ∧ win0_0.index t 1 = 0 := (by decide +kernel : ∀ t : Fin grid0.N, _)
theorem ix_1 : ∀ t : Fin cfg0.N, win0_1.index t 0 = t.val / 36 ∧ win0_1.index t 1 = 0 ∧ win0_1.index t 2 = 0 :=
  (by decide +kernel : ∀ t : Fin grid0.N, _)
theorem ix_2 : ∀ t : Fin cfg0.N, win0_2.index t 0 = 0 ∧ win0_2.index t 1 = 0 := (by decide +kernel : ∀ t : Fin grid0.N, _)
theorem ix_3 : ∀ t : Fin cfg0.N, win0_3.index t 0 = 3 ∧ win0_3.index t 1 = t.val % 9 ∧ win0_3.index t 2 = 0 :=
  (by decide +kernel : ∀ t : Fin grid0.N, _)
theorem ix_4 : ∀ t : Fin cfg0.N, win0_4.index t 0 = t.val / 9 ∧ win0_4.index t 1 = t.val % 9 := (by decide +kernel : ∀ t : Fin grid0.N, _)

theorem t_lt (t : Fin cfg0.N) : t.val < 144 := t.isLt

/-- The row of the flat sequence that row `r` of the block of rows at position `n` is. -/
def rowOf (n : Nat) (hn : n < 144) (r : Fin 1024) : Fin 16384 := ⟨n / 9 * 1024 + r.val, by omega⟩

/-- The packed column that column `j` of point `t`'s block is. -/
def colOf (t : Fin cfg0.N) (j : Fin 1792) : Fin 16128 := ⟨t.val % 9 * 1792 + j.val, by omega⟩

/-! ## The host's arrays -/

theorem V_v10 (c : Dev nD) (l : Fin 4) (j : Fin 16128) (k : Fin 2048) :
    (V m c main_v10 (ix3 l j k) : EReal) = packed (fun n => m ((c : Thread nD τ).loc main_arg3) (ix3 l k n)) j := by
  show StableHlo.after hostOps0 (fun b => m (c, b)) main_v10 (ix3 l j k) = _
  rw [hostOps0]; after_results_simp
  refine (cat_rows _ _ _ _ _ _ l j k).trans ?_
  unfold packed
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  simp only [Matrix.cons_val]
  after_results_simp
  pointwise

theorem V_v11 (c : Dev nD) (R : Fin 16384) (e : Fin 2048) : (V m c main_v11 (ix2 R e) : EReal)
    = m ((c : Thread nD τ).loc main_arg0) (ix3 ⟨R.val / 4096, by omega⟩ ⟨R.val % 4096, by omega⟩ e) := by
  show StableHlo.after hostOps0 (fun b => m (c, b)) main_v11 (ix2 R e) = _
  rw [hostOps0]; after_results_simp
  pointwise
theorem V_v14 (c : Dev nD) (z : Fin 1) (e : Fin 2048) : (V m c main_v14 (ix2 z e) : EReal) = m ((c : Thread nD τ).loc main_arg2) (ix2 3 e) := by
  show StableHlo.after hostOps0 (fun b => m (c, b)) main_v14 (ix2 z e) = _
  rw [hostOps0]; after_results_simp
  pointwise

/-! ## The input blocks -/

theorem blk0 (c : Dev nD) (t : Fin cfg0.N) (r : Fin 1024) (e : Fin 2048) :
    (iblk m c 0 t (ix2 r e : S1024x2048.Idx) : EReal) = m ((c : Thread nD τ).loc main_arg0)
      (ix3 ⟨(rowOf t.val t.isLt r).val / 4096, by have := (rowOf t.val t.isLt r).isLt; omega⟩ ⟨(rowOf t.val t.isLt r).val % 4096, by omega⟩ e) := by
  obtain ⟨e0, e1⟩ := ix_0 t
  rw [← V_v11 m c]
  refine congrArg (V m c main_v11) (funext fun a => Fin.ext ?_)
  match a with
  | ⟨0, _⟩ => show win0_0.index t 0 * 1024 + 1 * r.val = t.val / 9 * 1024 + r.val; omega
  | ⟨1, _⟩ => show win0_0.index t 1 * 2048 + 1 * e.val = e.val; omega

theorem blk1 (c : Dev nD) (t : Fin cfg0.N) (r : Fin 1024) (n : Fin 3) (e : Fin 2048) :
    (iblk m c 1 t (ix3 0 n e : S1x3x2048.Idx) : EReal) = m ((c : Thread nD τ).loc main_arg1)
      (ix3 ⟨(rowOf t.val t.isLt r).val / 4096, by have := (rowOf t.val t.isLt r).isLt; omega⟩ n e) := by
  obtain ⟨e0, e1, e2⟩ := ix_1 t
  rw [← V_main_arg1 m c]
  refine congrArg (V m c main_arg1) (funext fun a => Fin.ext ?_)
  match a with
  | ⟨0, _⟩ => show win0_1.index t 0 * 1 + 1 * 0 = (t.val / 9 * 1024 + r.val) / 4096; omega
  | ⟨1, _⟩ => show win0_1.index t 1 * 3 + 1 * n.val = n.val; omega
  | ⟨2, _⟩ => show win0_1.index t 2 * 2048 + 1 * e.val = e.val; omega

theorem blk2 (c : Dev nD) (t : Fin cfg0.N) (e : Fin 2048) :
    (iblk m c 2 t (ix2 0 e : S1x2048.Idx) : EReal) = m ((c : Thread nD τ).loc main_arg2) (ix2 3 e) := by
  obtain ⟨e0, e1⟩ := ix_2 t
  rw [← V_v14 m c 0]
  refine congrArg (V m c main_v14) (funext fun a => Fin.ext ?_)
  match a with
  | ⟨0, _⟩ => show win0_2.index t 0 * 1 + 1 * 0 = 0; omega
  | ⟨1, _⟩ => show win0_2.index t 1 * 2048 + 1 * e.val = e.val; omega

theorem blk3 (c : Dev nD) (t : Fin cfg0.N) (j : Fin 1792) (k : Fin 2048) :
    (iblk m c 3 t (ix3 0 j k : S1x1792x2048.Idx) : EReal)
      = packed (fun n => m ((c : Thread nD τ).loc main_arg3) (ix3 3 k n)) (colOf t j) := by
  obtain ⟨e0, e1, e2⟩ := ix_3 t
  rw [← V_v10 m c]
  refine congrArg (V m c main_v10) (funext fun a => Fin.ext ?_)
  match a with
  | ⟨0, _⟩ => show win0_3.index t 0 * 1 + 1 * 0 = 3; omega
  | ⟨1, _⟩ => show win0_3.index t 1 * 1792 + 1 * j.val = t.val % 9 * 1792 + j.val; omega
  | ⟨2, _⟩ => show win0_3.index t 2 * 2048 + 1 * k.val = k.val; omega

/-! ## The scratch and the result array -/

/-- The normalised row of the arrays as launched. -/
abbrev hm (c : Dev nD) : Fin 16384 → Fin 2048 → EReal :=
  hAt (m ((c : Thread nD τ).loc main_arg0)) (m ((c : Thread nD τ).loc main_arg1)) (m ((c : Thread nD τ).loc main_arg2))

/-- The row the body normalises at a point is the row of its block of rows. -/
theorem row_eq (c : Dev nD) (t : Fin cfg0.N) (r : Fin 1024) (k : Fin 2048) :
    hrow (fun e => iblk m c 0 t (ix2 r e : S1024x2048.Idx)) (fun e => iblk m c 2 t (ix2 0 e : S1x2048.Idx))
      (fun e => iblk m c 1 t (ix3 0 1 e : S1x3x2048.Idx)) (fun e => iblk m c 1 t (ix3 0 0 e : S1x3x2048.Idx)) k
      = hm m c (rowOf t.val t.isLt r) k := by
  simp only [blk0, blk1 m c t r, blk2]
  rfl

theorem scratchA (c : Dev nD) (t : Fin cfg0.N) (h0 : t.val % 9 = 0) (r : Fin 1024) (k : Fin 2048) :
    ((outsAt0 m c t.val t.isLt).2 (ix2 r k) : EReal) = hm m c (rowOf t.val t.isLt r) k := by
  rw [outsAt0_A m c t h0 (by omega)]
  dsimp only
  exact (soutA_apply c _ _ _ _ _ _ _ _ _ _ _ _ _ _ _ (iblk m c 0 t) (iblk m c 1 t) (iblk m c 2 t) (iblk m c 3 t) r k).trans (row_eq m c t r k)

theorem scratchB (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0 (by omega)]
  rfl

/-- After every point the scratch holds the rows of the current block of rows. -/
theorem scratch (c : Dev nD) : ∀ (n : Nat) (hn : n < cfg0.N) (r : Fin 1024) (k : Fin 2048),
    ((outsAt0 m c n hn).2 (ix2 r k) : EReal) = hm m c (rowOf n hn r) k := by
  intro n
  induction n with
  | zero => exact fun hn r k => scratchA m c ⟨0, hn⟩ rfl r k
  | succ n ih =>
    intro hn r k
    by_cases h0 : (n + 1) % 9 = 0
    · exact scratchA m c ⟨n + 1, hn⟩ h0 r k
    · have hr : rowOf n (Nat.lt_of_succ_lt hn) r = rowOf (n + 1) hn r :=
        Fin.ext (by show n / 9 * 1024 + r.val = (n + 1) / 9 * 1024 + r.val; omega)
      exact (congrFun (scratchB m c ⟨n + 1, hn⟩ h0) _).trans ((ih (Nat.lt_of_succ_lt hn) r k).trans (by rw [hr]))

/-- The result array's function at the argument arrays as launched. -/
abbrev Gm (c : Dev nD) : Vec Ideal S16384x16128 .f32 :=
  G (m ((c : Thread nD τ).loc main_arg0)) (m ((c : Thread nD τ).loc main_arg1)) (m ((c : Thread nD τ).loc main_arg2))
    (m ((c : Thread nD τ).loc main_arg3))

theorem emb4 (t : Fin cfg0.N) (r : Fin 1024) (j : Fin 1792) :
    ((cfg0.win 4).blk t).view.emb (ix2 r j : S1024x1792.Idx) = (ix2 (rowOf t.val t.isLt r) (colOf t j) : S16384x16128.Idx) := by
  obtain ⟨e0, e1⟩ := ix_4 t
  funext a; apply Fin.ext
  match a with
  | ⟨0, _⟩ => show win0_4.index t 0 * 1024 + 1 * r.val = t.val / 9 * 1024 + r.val; omega
  | ⟨1, _⟩ => show win0_4.index t 1 * 1792 + 1 * j.val = t.val % 9 * 1792 + j.val; omega

theorem flushed_eq' (c : Dev nD) (t : Fin cfg0.N) :
    (dats m 0 c).flushed 4 t = ((cfg0.win 4).blk t).view.read (Elt Ideal) (Gm m c) := by
  have key : ∀ (r : Fin 1024) (j : Fin 1792), ((dats m 0 c).flushed 4 t (ix2 r j : S1024x1792.Idx) : EReal)
      = ∑ k : Fin 2048, hm m c (rowOf t.val t.isLt r) k * packed (fun n => m ((c : Thread nD τ).loc main_arg3) (ix3 3 k n)) (colOf t j) := by
    intro r j
    by_cases h0 : t.val % 9 = 0
    · rw [flushed4_A m c t h0 (by omega)]
      refine (outA_apply c _ _ _ _ _ _ _ _ _ _ _ _ _ _ _ (iblk m c 0 t) (iblk m c 1 t) (iblk m c 2 t) (iblk m c 3 t) r j).trans ?_
      exact Finset.sum_congr rfl fun k _ => congrArg₂ (· * ·) (row_eq m c t r k) (blk3 m c t j k)
    · rw [flushed4_B m c t h0 (by omega)]
      refine (outB_apply c _ _ _ _ _ _ _ _ _ _ _ _ _ _ _ (iblk m c 0 t) (iblk m c 1 t) (iblk m c 2 t) (iblk m c 3 t) _ r j).trans ?_
      refine Finset.sum_congr rfl fun k _ => congrArg₂ (· * ·) ((scratch m c _ _ r k).trans ?_) (blk3 m c t j k)
      have ht := t_lt t
      have hr : rowOf (t.val - 1) (by omega) r = rowOf t.val t.isLt r :=
        Fin.ext (by show (t.val - 1) / 9 * 1024 + r.val = t.val / 9 * 1024 + r.val; omega)
      rw [hr]
  funext i
  obtain ⟨r, j, rfl⟩ : ∃ (r : Fin 1024) (j : Fin 1792), i = (ix2 r j : S1024x1792.Idx) := ⟨i 0, i 1, eq_ix2 i⟩
  refine (key r j).trans ?_
  show _ = Gm m c (((cfg0.win 4).blk t).view.emb (ix2 r j : S1024x1792.Idx))
  rw [emb4]
  rfl

/-- Every place of the result array is in some point's block. -/
theorem covered (i : S16384x16128.Idx) : ∃ t : Fin cfg0.N, (cfg0.win 4).flush t = true ∧ i ∈ ((cfg0.win 4).blk t).view.set := by
  have h0 : (i 0).val < 16384 := (i 0).isLt
  have h1 : (i 1).val < 16128 := (i 1).isLt
  have ht : (i 0).val / 1024 * 9 + (i 1).val / 1792 < 144 := by omega
  refine ⟨⟨(i 0).val / 1024 * 9 + (i 1).val / 1792, ht⟩, flush0_4 _, ?_⟩
  have he : ((cfg0.win 4).blk ⟨(i 0).val / 1024 * 9 + (i 1).val / 1792, ht⟩).view.emb
      (ix2 ⟨(i 0).val % 1024, by omega⟩ ⟨(i 1).val % 1792, by omega⟩ : S1024x1792.Idx) = i := by
    refine (emb4 ⟨(i 0).val / 1024 * 9 + (i 1).val / 1792, ht⟩ ⟨(i 0).val % 1024, by omega⟩ ⟨(i 1).val % 1792, by omega⟩).trans ?_
    funext a; apply Fin.ext
    match a with
    | ⟨0, _⟩ => show ((i 0).val / 1024 * 9 + (i 1).val / 1792) / 9 * 1024 + (i 0).val % 1024 = (i 0).val; omega
    | ⟨1, _⟩ => show ((i 0).val / 1024 * 9 + (i 1).val / 1792) % 9 * 1792 + (i 1).val % 1792 = (i 1).val; omega
  exact Eq.mp (congrArg (fun z => z ∈ ((cfg0.win 4).blk ⟨(i 0).val / 1024 * 9 + (i 1).val / 1792, ht⟩).view.set) he) (View.emb_mem_set _ _)

theorem final (c : Dev nD) : (dats m 0 c).arrAt 4 cfg0.N = Gm m c :=
  (dats m 0 c).arrAt_eq_of_cover 4 (Gm m c) (fun t _ => flushed_eq' m c t) covered

end Cert.Proof.Proj

end
-- ==== Proof.ProjRefCat.lean ====
/- Hand-written, untrusted: five pieces laid side by side along one axis, read at a place (the reference's columns). -/
module

public import proofs.«01_k».proof.Proof.Gen.Reference2Ideal.Read
public import Idealize.ShloMosaic.Lib.Pipeline.Value
public import proofs.«01_k».proof.Proof.ProjRow

@[expose] public section

set_option maxRecDepth 16384

noncomputable section

namespace Cert.Proof.ProjRef

open Cert.Reference2Ideal Idealize.ShloMosaic Idealize.ShloMosaic.TcCoe Idealize.SL.Sem

/-- Five pieces laid side by side along one axis, read at a place. -/
theorem cat_cols (x0 : S4x4096x8192.Idx → EReal) (x1 : S4x4096x3072.Idx → EReal) (x2 : S4x4096x4608.Idx → EReal) (x3 : S4x4096x16.Idx → EReal) (x4 : S4x4096x240.Idx → EReal)
    (h : Shape.Concatenates [S4x4096x8192, S4x4096x3072, S4x4096x4608, S4x4096x16, S4x4096x240] S4x4096x16128 2) (b : Fin 4) (s : Fin 4096) (j : Fin 16128) :
    concatenate S4x4096x16128 2 [⟨S4x4096x8192, x0⟩, ⟨S4x4096x3072, x1⟩, ⟨S4x4096x4608, x2⟩, ⟨S4x4096x16, x3⟩, ⟨S4x4096x240, x4⟩] h (ix3 b s j)
      = if h0 : j.val < 8192 then x0 (ix3 b s ⟨j.val - 0, by omega⟩) else if h1 : j.val < 11264 then x1 (ix3 b s ⟨j.val - 8192, by omega⟩) else if h2 : j.val < 15872 then x2 (ix3 b s ⟨j.val - 11264, by omega⟩) else if h3 : j.val < 15888 then x3 (ix3 b s ⟨j.val - 15872, by omega⟩) else x4 (ix3 b s ⟨j.val - 15888, by omega⟩) := by
  have hj := j.isLt
  by_cases h0 : j.val < 8192
  · rw [dif_pos h0]
    refine concatenate_apply_piece 2 [⟨S4x4096x8192, x0⟩, ⟨S4x4096x3072, x1⟩, ⟨S4x4096x4608, x2⟩, ⟨S4x4096x16, x3⟩, ⟨S4x4096x240, x4⟩] h (ix3 b s j) 0 (by show _ < 5; decide) S4x4096x8192 x0 rfl rfl 0 rfl (ix3 b s ⟨j.val - 0, by omega⟩ : S4x4096x8192.Idx) (fun a ha => ?_) ?_
    · match a, ha with
      | ⟨0, _⟩, _ => rfl
      | ⟨1, _⟩, _ => rfl
      | ⟨2, _⟩, ha => exact absurd rfl ha
    · show 0 + (j.val - 0) = j.val; omega
  by_cases h1 : j.val < 11264
  · rw [dif_neg h0, dif_pos h1]
    refine concatenate_apply_piece 2 [⟨S4x4096x8192, x0⟩, ⟨S4x4096x3072, x1⟩, ⟨S4x4096x4608, x2⟩, ⟨S4x4096x16, x3⟩, ⟨S4x4096x240, x4⟩] h (ix3 b s j) 1 (by show _ < 5; decide) S4x4096x3072 x1 rfl rfl 8192 rfl (ix3 b s ⟨j.val - 8192, by omega⟩ : S4x4096x3072.Idx) (fun a ha => ?_) ?_
    · match a, ha with
      | ⟨0, _⟩, _ => rfl
      | ⟨1, _⟩, _ => rfl
      | ⟨2, _⟩, ha => exact absurd rfl ha
    · show 8192 + (j.val - 8192) = j.val; omega
  by_cases h2 : j.val < 15872
  · rw [dif_neg h0, dif_neg h1, dif_pos h2]
    refine concatenate_apply_piece 2 [⟨S4x4096x8192, x0⟩, ⟨S4x4096x3072, x1⟩, ⟨S4x4096x4608, x2⟩, ⟨S4x4096x16, x3⟩, ⟨S4x4096x240, x4⟩] h (ix3 b s j) 2 (by show _ < 5; decide) S4x4096x4608 x2 rfl rfl 11264 rfl (ix3 b s ⟨j.val - 11264, by omega⟩ : S4x4096x4608.Idx) (fun a ha => ?_) ?_
    · match a, ha with
      | ⟨0, _⟩, _ => rfl
      | ⟨1, _⟩, _ => rfl
      | ⟨2, _⟩, ha => exact absurd rfl ha
    · show 11264 + (j.val - 11264) = j.val; omega
  by_cases h3 : j.val < 15888
  · rw [dif_neg h0, dif_neg h1, dif_neg h2, dif_pos h3]
    refine concatenate_apply_piece 2 [⟨S4x4096x8192, x0⟩, ⟨S4x4096x3072, x1⟩, ⟨S4x4096x4608, x2⟩, ⟨S4x4096x16, x3⟩, ⟨S4x4096x240, x4⟩] h (ix3 b s j) 3 (by show _ < 5; decide) S4x4096x16 x3 rfl rfl 15872 rfl (ix3 b s ⟨j.val - 15872, by omega⟩ : S4x4096x16.Idx) (fun a ha => ?_) ?_
    · match a, ha with
      | ⟨0, _⟩, _ => rfl
      | ⟨1, _⟩, _ => rfl
      | ⟨2, _⟩, ha => exact absurd rfl ha
    · show 15872 + (j.val - 15872) = j.val; omega
  rw [dif_neg h0, dif_neg h1, dif_neg h2, dif_neg h3]
  refine concatenate_apply_piece 2 [⟨S4x4096x8192, x0⟩, ⟨S4x4096x3072, x1⟩, ⟨S4x4096x4608, x2⟩, ⟨S4x4096x16, x3⟩, ⟨S4x4096x240, x4⟩] h (ix3 b s j) 4 (by show _ < 5; decide) S4x4096x240 x4 rfl rfl 15888 rfl (ix3 b s ⟨j.val - 15888, by omega⟩ : S4x4096x240.Idx) (fun a ha => ?_) ?_
  · match a, ha with
    | ⟨0, _⟩, _ => rfl
    | ⟨1, _⟩, _ => rfl
    | ⟨2, _⟩, ha => exact absurd rfl ha
  · show 15888 + (j.val - 15888) = j.val; omega

end Cert.Proof.ProjRef

end
-- ==== Proof.ProjRef.lean ====
/- Hand-written, untrusted: the projection reference's result array is the same function of the argument arrays. -/
module

public import proofs.«01_k».proof.Proof.ProjRefCat

@[expose] public section

set_option maxRecDepth 16384

noncomputable section

namespace Cert.Proof.ProjRef

open Cert.Reference2Ideal Cert.Reference2Ideal.Value Cert.Reference2Ideal.Read Idealize.ShloMosaic Idealize.ShloMosaic.TcCoe Idealize.SL.Sem Cert.Proof.Proj

variable (x : Vec Ideal S4x4096x2048 .f32) (md : Vec Ideal S4x3x2048 .f32) (ng : Vec Ideal S4x2048 .f32)
    (w : Vec Ideal S4x2048x15888 .f32)

theorem row (b : Fin 4) (s : Fin 4096) (e : Fin 2048) :
    (val_main_v26 (F := Ideal) x md ng (ix3 b s e) : EReal)
      = hrow (fun e => x (ix3 b s e)) (fun e => ng (ix2 3 e)) (fun e => md (ix3 b 1 e)) (fun e => md (ix3 b 0 e)) e := by
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_cst_2, val_main_v21, val_main_v22, val_main_v23, val_main_v24, val_main_v25, val_main_v26, hrow]

theorem weight (k : Fin 2048) (n : Fin 15888) :
    (val_main_v28 (F := Ideal) w (ix2 k n) : EReal) = w (ix3 3 k n) := by
  pointwise [val_main_v28, val_main_v27]

theorem product (b : Fin 4) (s : Fin 4096) (n : Fin 15888) :
    (val_main_v29 (F := Ideal) x md ng w (ix3 b s n) : EReal)
      = ∑ k : Fin 2048, hrow (fun e => x (ix3 b s e)) (fun e => ng (ix2 3 e)) (fun e => md (ix3 b 1 e)) (fun e => md (ix3 b 0 e)) k
          * w (ix3 3 k n) := by
  have h : (val_main_v29 (F := Ideal) x md ng w (ix3 b s n) : EReal)
      = ∑ k : Fin 2048, val_main_v26 (F := Ideal) x md ng (ix3 b s k) * val_main_v28 (F := Ideal) w (ix2 k n) := by
    unfold val_main_v29
    generalize val_main_v26 (F := Ideal) x md ng = g
    generalize val_main_v28 (F := Ideal) w = g'
    pointwise
  rw [h]
  exact Finset.sum_congr rfl fun k _ => congrArg₂ (· * ·) (row x md ng b s k) (weight w k n)

theorem packed_product (b : Fin 4) (s : Fin 4096) (j : Fin 16128) :
    (val_main_v35 (F := Ideal) x md ng w (ix3 b s j) : EReal)
      = packed (fun n => val_main_v29 (F := Ideal) x md ng w (ix3 b s n)) j := by
  unfold val_main_v35
  refine (cat_cols _ _ _ _ _ _ b s j).trans ?_
  unfold packed val_main_v30 val_main_v31 val_main_v32 val_main_v33
  generalize val_main_v29 (F := Ideal) x md ng w = g
  refine dite_congr rfl (fun _ => ?_) (fun _ => ?_)
  · pointwise
  refine dite_congr rfl (fun _ => ?_) (fun _ => ?_)
  · pointwise
  refine dite_congr rfl (fun _ => ?_) (fun _ => ?_)
  · pointwise
  refine dite_congr rfl (fun _ => ?_) (fun _ => ?_)
  · pointwise
  pointwise [val_main_v34, val_main_cst_3]

theorem result (R : Fin 16384) (j : Fin 16128) :
    (val_main_v36 (F := Ideal) x md ng w (ix2 R j) : EReal)
      = prow (fun e => hrow (fun e => x (ix3 ⟨R.val / 4096, by omega⟩ ⟨R.val % 4096, by omega⟩ e)) (fun e => ng (ix2 3 e))
          (fun e => md (ix3 ⟨R.val / 4096, by omega⟩ 1 e)) (fun e => md (ix3 ⟨R.val / 4096, by omega⟩ 0 e)) e)
          (fun k n => w (ix3 3 k n)) j := by
  have h : (val_main_v36 (F := Ideal) x md ng w (ix2 R j) : EReal)
      = val_main_v35 (F := Ideal) x md ng w (ix3 ⟨R.val / 4096, by omega⟩ ⟨R.val % 4096, by omega⟩ j) := by
    unfold val_main_v36
    generalize val_main_v35 (F := Ideal) x md ng w = g
    pointwise
  rw [h, packed_product]
  simp only [product]
  exact packed_sum _ _ _

end Cert.Proof.ProjRef

end
-- ==== Proof.Proj.lean ====
/- Hand-written, untrusted: the projection's value claim: the kernel and its reference leave the same result array. -/
module

public import proofs.«01_k».proof.Defs
public import proofs.«01_k».proof.Proof.ProjKernel
public import proofs.«01_k».proof.Proof.ProjRef
public import proofs.«01_k».proof.Proof.Gen.Reference2Ideal.Run

@[expose] public section

set_option maxRecDepth 16384

noncomputable section

namespace Cert.Proof.Proj

open Idealize.ShloMosaic Idealize.ShloMosaic.TcCoe Idealize.SL.Sem

theorem ref_eq (x : Vec Ideal Cert.Kernel2Ideal.S4x4096x2048 .f32) (md : Vec Ideal Cert.Kernel2Ideal.S4x3x2048 .f32)
    (ng : Vec Ideal Cert.Kernel2Ideal.S4x2048 .f32) (w : Vec Ideal Cert.Kernel2Ideal.S4x2048x15888 .f32) :
    Cert.Reference2Ideal.Read.val_main_v36 (F := Ideal) x md ng w = G x md ng w := by
  funext i
  obtain ⟨R, j, rfl⟩ : ∃ (R : Fin 16384) (j : Fin 16128), i = (ix2 R j : Cert.Kernel2Ideal.S16384x16128.Idx) := ⟨i 0, i 1, eq_ix2 i⟩
  exact ProjRef.result x md ng w R j

theorem claim : Cert.algebraic_Kernel2Ideal_Reference2Ideal (hKernel2Ideal := Cert.Kernel2Ideal.Gen.facts)
    (hReference2Ideal := Cert.Reference2Ideal.Gen.facts) := by
  intro m g m' g' _ hag
  refine ⟨fun c => Gm m c, (θ_run Cert.Kernel2Ideal.defs _ _).mono (fun r h c => ⟨(h c).1.trans (final m c), (h c).2⟩)
    (Cert.Kernel2Ideal.Value.run_blocks m g), (θ_run Cert.Reference2Ideal.defs _ _).mono (fun r h c => ⟨(h c).1.trans ?_, (h c).2⟩)
    (Cert.Reference2Ideal.Value.run m' g')⟩
  obtain ⟨h0, h1, h2, h3⟩ := hag c
  rw [Cert.Reference2Ideal.Read.val_main_v36_eq, h0, h1, h2, h3]
  exact ref_eq _ _ _ _

end Cert.Proof.Proj

end
-- ==== Proof.MergeRow.lean ====
/- Hand-written, untrusted: one row of the merge — four gated projections summed, the output projection, the residual
   with its gate, and the final normalisation — as a function of the row's own numbers, over the extended reals. -/
module

public import Idealize.ShloMosaic.Lib.Pointwise
public import Idealize.ShloMosaic.PureOps.Ideal.Laws

@[expose] public section

noncomputable section

namespace Cert.Proof.Merge

open Idealize.ShloMosaic

/-- The branches' gated sum at column `e`: each gate's logistic times that branch's projection. -/
def mix (g0 g1 g2 g3 : Fin 2048 → EReal) (y0 y1 y2 y3 : Fin 512 → EReal) (w0 w1 w2 w3 : Fin 512 → Fin 2048 → EReal)
    (e : Fin 2048) : EReal :=
  Ideal.logistic (g0 e) * (∑ k : Fin 512, y0 k * w0 k e) + Ideal.logistic (g1 e) * (∑ k : Fin 512, y1 k * w1 k e)
    + Ideal.logistic (g2 e) * (∑ k : Fin 512, y2 k * w2 k e) + Ideal.logistic (g3 e) * (∑ k : Fin 512, y3 k * w3 k e)

/-- The residual row plus the gate times the output projection of the mixed row. -/
def resid (x md : Fin 2048 → EReal) (wo : Fin 2048 → Fin 2048 → EReal) (y : Fin 2048 → EReal) (e : Fin 2048) : EReal :=
  x e + md e * ∑ k : Fin 2048, y k * wo k e

/-- A row divided by its root mean square (the small number added under the root) and scaled by the gain. -/
def normed (a fg : Fin 2048 → EReal) (e : Fin 2048) : EReal :=
  a e * Ideal.rsqrt (Ideal.div (∑ k : Fin 2048, a k * a k) (Ideal.ofBits .f32 0x45000000#32) + Ideal.ofBits .f32 0x358637BD#32)
    * fg e

end Cert.Proof.Merge

end
-- ==== Proof.MergeBlock.lean ====
/- Hand-written, untrusted: what the merge kernel's body leaves in its output block, row by row: the row function of the
   input blocks' own rows. -/
module

public import proofs.«01_k».proof.Proof.Gen.Kernel3Ideal.Value
public import proofs.«01_k».proof.Proof.MergeRow

@[expose] public section

set_option maxRecDepth 16384

noncomputable section

namespace Cert.Proof.Merge

open Cert.Kernel3Ideal Cert.Kernel3Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- The four gated projections, read at a place of the block. -/
theorem pay2_apply (v0 : Vec Ideal S256x2048 .f32) (v2 : Vec Ideal S256x512 .bf16) (v3 : Vec Ideal S1x1x512x2048 .bf16)
    (v7 : Vec Ideal S256x2048 .f32) (v9 : Vec Ideal S256x512 .bf16) (v10 : Vec Ideal S1x1x512x2048 .bf16)
    (v15 : Vec Ideal S256x2048 .f32) (v17 : Vec Ideal S256x512 .bf16) (v18 : Vec Ideal S1x1x512x2048 .bf16)
    (r : Fin 256) (e : Fin 2048) :
    k0_pay2 v0 v2 v3 v7 v9 v10 v15 v17 v18 (ix2 r e)
      = Ideal.logistic (v0 (ix2 r e)) * (∑ k : Fin 512, v2 (ix2 r k) * v3 (ix4 0 0 k e))
        + Ideal.logistic (v7 (ix2 r e)) * (∑ k : Fin 512, v9 (ix2 r k) * v10 (ix4 0 0 k e))
        + Ideal.logistic (v15 (ix2 r e)) * (∑ k : Fin 512, v17 (ix2 r k) * v18 (ix4 0 0 k e)) := by
  pointwise [k0_pay2]

/-- The whole body's result from the values it loads, at a place of the block. -/
theorem pay1_apply (v22 v24 : Vec Ideal S256x2048 .f32) (v25 : Vec Ideal S256x512 .bf16) (v26 : Vec Ideal S1x1x512x2048 .bf16)
    (v31 : Vec Ideal S256x2048 .f32) (v33 : Vec Ideal S1x1x2048 .f32) (v36 : Vec Ideal S1x2048x2048 .bf16)
    (v52 : Vec Ideal S1x2048 .f32) (r : Fin 256) (e : Fin 2048) :
    k0_pay1 v22 v24 v25 v26 v31 v33 v36 v52 (ix2 r e)
      = normed (resid (fun e => v31 (ix2 r e)) (fun e => v33 (ix3 0 0 e)) (fun k e => v36 (ix3 0 k e))
          (fun e => v22 (ix2 r e) + v24 (ix2 r e) * ∑ k : Fin 512, v25 (ix2 r k) * v26 (ix4 0 0 k e)))
          (fun e => v52 (ix2 0 e)) e := by
  pointwise [k0_pay1, normed, resid]

/-- What the body leaves in the output block, read at a place: the row function of the input blocks' rows. -/
theorem out_apply (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x8192 .f32) (harg5 : arg5.IsWhole) (arg6 : Memref sig .tc .vmem S1x4x512x2048 .bf16) (harg6 : arg6.IsWhole) (arg7 : Memref sig .tc .vmem S1x2048x2048 .bf16) (harg7 : arg7.IsWhole) (arg8 : Memref sig .tc .vmem S256x2048 .f32) (harg8 : arg8.IsWhole) (arg9 : Memref sig .tc .vmem S1x3x2048 .f32) (harg9 : arg9.IsWhole) (arg10 : Memref sig .tc .vmem S1x2048 .f32) (harg10 : arg10.IsWhole) (arg11 : Memref sig .tc .vmem S256x2048 .f32) (harg11 : arg11.IsWhole)
    (x0 : Vec Ideal S256x512 .bf16) (x1 : Vec Ideal S256x512 .bf16) (x2 : Vec Ideal S256x512 .bf16) (x3 : Vec Ideal S256x512 .bf16) (x4 : Vec Ideal S256x8192 .f32) (x5 : Vec Ideal S1x4x512x2048 .bf16) (x6 : Vec Ideal S1x2048x2048 .bf16) (x7 : Vec Ideal S256x2048 .f32) (x8 : Vec Ideal S1x3x2048 .f32) (x9 : Vec Ideal S1x2048 .f32)
    (r : Fin 256) (e : Fin 2048) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r e)
      = normed (resid (fun e => x7 (ix2 r e)) (fun e => x8 (ix3 0 2 e)) (fun k e => x6 (ix3 0 k e))
          (mix (fun e => x4 (ix2 r ⟨e.val, by omega⟩)) (fun e => x4 (ix2 r ⟨2048 + e.val, by omega⟩))
            (fun e => x4 (ix2 r ⟨4096 + e.val, by omega⟩)) (fun e => x4 (ix2 r ⟨6144 + e.val, by omega⟩))
            (fun k => x0 (ix2 r k)) (fun k => x1 (ix2 r k)) (fun k => x2 (ix2 r k)) (fun k => x3 (ix2 r k))
            (fun k e => x5 (ix4 0 0 k e)) (fun k e => x5 (ix4 0 1 k e)) (fun k e => x5 (ix4 0 2 k e))
            (fun k e => x5 (ix4 0 3 k e))))
          (fun e => x9 (ix2 0 e)) e := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  rw [View.canon_unit_zero hz, pay1_apply]
  sl_unfold_words
  simp only [View.readAt_eq_ld, harg1.read_unread, harg2.read_unread, harg3.read_unread, harg4.read_unread, harg5.read_unread, harg6.read_unread, harg7.read_unread, harg8.read_unread, harg9.read_unread, harg10.read_unread]
  pointwise [mix, k0_pay3, pay2_apply]
  rfl

end Cert.Proof.Merge

end
-- ==== Proof.MergeKernel.lean ====
/- Hand-written, untrusted: the merge kernel's result array, row by row, as a function of the argument arrays: each grid
   point's input blocks are read off the arrays, and the 64 output blocks tile the result. -/
module

public import proofs.«01_k».proof.Proof.MergeBlock

@[expose] public section

set_option maxRecDepth 16384

noncomputable section

namespace Cert.Proof.Merge

open Cert.Kernel3Ideal Cert.Kernel3Ideal.Gen Cert.Kernel3Ideal.Value Idealize.ShloMosaic Idealize.ShloMosaic.TcCoe Idealize.SL.Sem

/-- The merged and normalised row `R` of the sequence laid flat, at column `e`, from the argument arrays. -/
def outAt (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32)
    (fg : Vec Ideal S2048 .f32) (R : Fin 16384) (e : Fin 2048) : EReal :=
  normed (resid (fun e => x (ix3 ⟨R.val / 4096, by omega⟩ ⟨R.val % 4096, by omega⟩ e))
      (fun e => md (ix3 ⟨R.val / 4096, by omega⟩ 2 e)) (fun k e => wo (ix3 3 k e))
      (mix (fun e => p (ix2 R ⟨e.val, by omega⟩)) (fun e => p (ix2 R ⟨2048 + e.val, by omega⟩))
        (fun e => p (ix2 R ⟨4096 + e.val, by omega⟩)) (fun e => p (ix2 R ⟨6144 + e.val, by omega⟩))
        (fun k => y0 (ix2 R k)) (fun k => y1 (ix2 R k)) (fun k => y2 (ix2 R k)) (fun k => y3 (ix2 R k))
        (fun k e => wb (ix4 3 0 k e)) (fun k e => wb (ix4 3 1 k e)) (fun k e => wb (ix4 3 2 k e))
        (fun k e => wb (ix4 3 3 k e))))
    (fun e => fg (ix1 e)) e

/-- The result array: every row merged and normalised. -/
def G (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32)
    (fg : Vec Ideal S2048 .f32) : Vec Ideal S16384x2048 .f32 :=
  fun i => outAt y0 y1 y2 y3 p wb wo x md fg (i 0) (i 1)

variable (m : (ℓ : Loc nD τ sig) → Buf (Elt Ideal) ℓ) (ρ : Dev nD → PrngReg)

/-! ## The block indices -/

theorem ix_0 : ∀ t : Fin cfg0.N, win0_0.index t 0 = t.val ∧ win0_0.index t 1 = 0 := (by decide +kernel : ∀ t : Fin grid0.N, _)
theorem ix_1 : ∀ t : Fin cfg0.N, win0_1.index t 0 = t.val ∧ win0_1.index t 1 = 0 := (by decide +kernel : ∀ t : Fin grid0.N, _)
theorem ix_2 : ∀ t : Fin cfg0.N, win0_2.index t 0 = t.val ∧ win0_2.index t 1 = 0 := (by decide +kernel : ∀ t : Fin grid0.N, _)
theorem ix_3 : ∀ t : Fin cfg0.N, win0_3.index t 0 = t.val ∧ win0_3.index t 1 = 0 := (by decide +kernel : ∀ t : Fin grid0.N, _)
theorem ix_4 : ∀ t : Fin cfg0.N, win0_4.index t 0 = t.val ∧ win0_4.index t 1 = 0 := (by decide +kernel : ∀ t : Fin grid0.N, _)
theorem ix_5 : ∀ t : Fin cfg0.N, win0_5.index t 0 = 3 ∧ win0_5.index t 1 = 0 ∧ win0_5.index t 2 = 0 ∧ win0_5.index t 3 = 0 :=
  (by decide +kernel : ∀ t : Fin grid0.N, _)
theorem ix_6 : ∀ t : Fin cfg0.N, win0_6.index t 0 = 3 ∧ win0_6.index t 1 = 0 ∧ win0_6.index t 2 = 0 :=
  (by decide +kernel : ∀ t : Fin grid0.N, _)
theorem ix_7 : ∀ t : Fin cfg0.N, win0_7.index t 0 = t.val ∧ win0_7.index t 1 = 0 := (by decide +kernel : ∀ t : Fin grid0.N, _)
theorem ix_8 : ∀ t : Fin cfg0.N, win0_8.index t 0 = t.val / 16 ∧ win0_8.index t 1 = 0 ∧ win0_8.index t 2 = 0 :=
  (by decide +kernel : ∀ t : Fin grid0.N, _)
theorem ix_9 : ∀ t : Fin cfg0.N, win0_9.index t 0 = 0 ∧ win0_9.index t 1 = 0 := (by decide +kernel : ∀ t : Fin grid0.N, _)
theorem ix_10 : ∀ t : Fin cfg0.N, win0_10.index t 0 = t.val ∧ win0_10.index t 1 = 0 := (by decide +kernel : ∀ t : Fin grid0.N, _)

theorem t_lt (t : Fin cfg0.N) : t.val < 64 := t.isLt

/-- The row of the flat sequence that row `r` of point `t`'s block is. -/
def rowOf (t : Fin cfg0.N) (r : Fin 256) : Fin 16384 := ⟨t.val * 256 + r.val, by have := t_lt t; omega⟩

/-! ## The host's arrays -/

theorem V_v0 (c : Dev nD) (i : S4x4x512x2048.Idx) : (V m c main_v0 i : EReal) = m ((c : Thread nD τ).loc main_arg5) i := by
  show StableHlo.after hostOps0 (fun b => m (c, b)) main_v0 i = _
  rw [hostOps0]; after_results_simp; rfl
theorem V_v1 (c : Dev nD) (i : S4x2048x2048.Idx) : (V m c main_v1 i : EReal) = m ((c : Thread nD τ).loc main_arg6) i := by
  show StableHlo.after hostOps0 (fun b => m (c, b)) main_v1 i = _
  rw [hostOps0]; after_results_simp; rfl
theorem V_v2 (c : Dev nD) (R : Fin 16384) (e : Fin 2048) : (V m c main_v2 (ix2 R e) : EReal)
    = m ((c : Thread nD τ).loc main_arg7) (ix3 ⟨R.val / 4096, by omega⟩ ⟨R.val % 4096, by omega⟩ e) := by
  show StableHlo.after hostOps0 (fun b => m (c, b)) main_v2 (ix2 R e) = _
  rw [hostOps0]; after_results_simp
  pointwise
theorem V_v3 (c : Dev nD) (z : Fin 1) (e : Fin 2048) : (V m c main_v3 (ix2 z e) : EReal) = m ((c : Thread nD τ).loc main_arg9) (ix1 e) := by
  show StableHlo.after hostOps0 (fun b => m (c, b)) main_v3 (ix2 z e) = _
  rw [hostOps0]; after_results_simp
  pointwise

/-! ## The input blocks -/

theorem blk0 (c : Dev nD) (t : Fin cfg0.N) (r : Fin 256) (k : Fin 512) :
    (iblk m c 0 t (ix2 r k : S256x512.Idx) : EReal) = m ((c : Thread nD τ).loc main_arg0) (ix2 (rowOf t r) k) := by
  obtain ⟨e0, e1⟩ := ix_0 t
  rw [← V_main_arg0 m c]
  refine congrArg (V m c main_arg0) (funext fun a => Fin.ext ?_)
  match a with
  | ⟨0, _⟩ => show win0_0.index t 0 * 256 + 1 * r.val = t.val * 256 + r.val; omega
  | ⟨1, _⟩ => show win0_0.index t 1 * 512 + 1 * k.val = k.val; omega

theorem blk4 (c : Dev nD) (t : Fin cfg0.N) (r : Fin 256) (k : Fin 8192) :
    (X0_4 m c t (ix2 r k : S256x8192.Idx) : EReal) = m ((c : Thread nD τ).loc main_arg4) (ix2 (rowOf t r) ⟨k.val, by omega⟩) := by
  obtain ⟨e0, e1⟩ := ix_4 t
  rw [← V_main_arg4 m c]
  unfold X0_4 Pipeline.Window.fill
  rw [dif_pos (moved0_4 t _)]
  refine congrArg (V m c main_arg4) (funext fun a => Fin.ext ?_)
  match a with
  | ⟨0, _⟩ => show win0_4.index t 0 * 256 + 1 * r.val = t.val * 256 + r.val; omega
  | ⟨1, _⟩ => show win0_4.index t 1 * 8192 + 1 * k.val = k.val; omega

theorem blk5 (c : Dev nD) (t : Fin cfg0.N) (n : Fin 4) (k : Fin 512) (e : Fin 2048) :
    (iblk m c 5 t (ix4 0 n k e : S1x4x512x2048.Idx) : EReal) = m ((c : Thread nD τ).loc main_arg5) (ix4 3 n k e) := by
  obtain ⟨e0, e1, e2, e3⟩ := ix_5 t
  rw [← V_v0 m c]
  refine congrArg (V m c main_v0) (funext fun a => Fin.ext ?_)
  match a with
  | ⟨0, _⟩ => show win0_5.index t 0 * 1 + 1 * 0 = 3; omega
  | ⟨1, _⟩ => show win0_5.index t 1 * 4 + 1 * n.val = n.val; omega
  | ⟨2, _⟩ => show win0_5.index t 2 * 512 + 1 * k.val = k.val; omega
  | ⟨3, _⟩ => show win0_5.index t 3 * 2048 + 1 * e.val = e.val; omega

theorem blk1 (c : Dev nD) (t : Fin cfg0.N) (r : Fin 256) (k : Fin 512) :
    (iblk m c 1 t (ix2 r k : S256x512.Idx) : EReal) = m ((c : Thread nD τ).loc main_arg1) (ix2 (rowOf t r) k) := by
  obtain ⟨e0, e1⟩ := ix_1 t
  rw [← V_main_arg1 m c]
  refine congrArg (V m c main_arg1) (funext fun a => Fin.ext ?_)
  match a with
  | ⟨0, _⟩ => show win0_1.index t 0 * 256 + 1 * r.val = t.val * 256 + r.val; omega
  | ⟨1, _⟩ => show win0_1.index t 1 * 512 + 1 * k.val = k.val; omega

theorem blk2 (c : Dev nD) (t : Fin cfg0.N) (r : Fin 256) (k : Fin 512) :
    (iblk m c 2 t (ix2 r k : S256x512.Idx) : EReal) = m ((c : Thread nD τ).loc main_arg2) (ix2 (rowOf t r) k) := by
  obtain ⟨e0, e1⟩ := ix_2 t
  rw [← V_main_arg2 m c]
  refine congrArg (V m c main_arg2) (funext fun a => Fin.ext ?_)
  match a with
  | ⟨0, _⟩ => show win0_2.index t 0 * 256 + 1 * r.val = t.val * 256 + r.val; omega
  | ⟨1, _⟩ => show win0_2.index t 1 * 512 + 1 * k.val = k.val; omega

theorem blk3 (c : Dev nD) (t : Fin cfg0.N) (r : Fin 256) (k : Fin 512) :
    (iblk m c 3 t (ix2 r k : S256x512.Idx) : EReal) = m ((c : Thread nD τ).loc main_arg3) (ix2 (rowOf t r) k) := by
  obtain ⟨e0, e1⟩ := ix_3 t
  rw [← V_main_arg3 m c]
  refine congrArg (V m c main_arg3) (funext fun a => Fin.ext ?_)
  match a with
  | ⟨0, _⟩ => show win0_3.index t 0 * 256 + 1 * r.val = t.val * 256 + r.val; omega
  | ⟨1, _⟩ => show win0_3.index t 1 * 512 + 1 * k.val = k.val; omega

theorem blk6 (c : Dev nD) (t : Fin cfg0.N) (k e : Fin 2048) :
    (iblk m c 6 t (ix3 0 k e : S1x2048x2048.Idx) : EReal) = m ((c : Thread nD τ).loc main_arg6) (ix3 3 k e) := by
  obtain ⟨e0, e1, e2⟩ := ix_6 t
  rw [← V_v1 m c]
  refine congrArg (V m c main_v1) (funext fun a => Fin.ext ?_)
  match a with
  | ⟨0, _⟩ => show win0_6.index t 0 * 1 + 1 * 0 = 3; omega
  | ⟨1, _⟩ => show win0_6.index t 1 * 2048 + 1 * k.val = k.val; omega
  | ⟨2, _⟩ => show win0_6.index t 2 * 2048 + 1 * e.val = e.val; omega

theorem blk7 (c : Dev nD) (t : Fin cfg0.N) (r : Fin 256) (e : Fin 2048) :
    (iblk m c 7 t (ix2 r e : S256x2048.Idx) : EReal) = m ((c : Thread nD τ).loc main_arg7)
      (ix3 ⟨(rowOf t r).val / 4096, by have := (rowOf t r).isLt; omega⟩ ⟨(rowOf t r).val % 4096, by omega⟩ e) := by
  obtain ⟨e0, e1⟩ := ix_7 t
  rw [← V_v2 m c]
  refine congrArg (V m c main_v2) (funext fun a => Fin.ext ?_)
  match a with
  | ⟨0, _⟩ => show win0_7.index t 0 * 256 + 1 * r.val = t.val * 256 + r.val; omega
  | ⟨1, _⟩ => show win0_7.index t 1 * 2048 + 1 * e.val = e.val; omega

theorem blk8 (c : Dev nD) (t : Fin cfg0.N) (r : Fin 256) (n : Fin 3) (e : Fin 2048) :
    (iblk m c 8 t (ix3 0 n e : S1x3x2048.Idx) : EReal) = m ((c : Thread nD τ).loc main_arg8)
      (ix3 ⟨(rowOf t r).val / 4096, by have := (rowOf t r).isLt; omega⟩ n e) := by
  obtain ⟨e0, e1, e2⟩ := ix_8 t
  rw [← V_main_arg8 m c]
  refine congrArg (V m c main_arg8) (funext fun a => Fin.ext ?_)
  match a with
  | ⟨0, _⟩ => show win0_8.index t 0 * 1 + 1 * 0 = (t.val * 256 + r.val) / 4096; omega
  | ⟨1, _⟩ => show win0_8.index t 1 * 3 + 1 * n.val = n.val; omega
  | ⟨2, _⟩ => show win0_8.index t 2 * 2048 + 1 * e.val = e.val; omega

theorem blk9 (c : Dev nD) (t : Fin cfg0.N) (e : Fin 2048) :
    (iblk m c 9 t (ix2 0 e : S1x2048.Idx) : EReal) = m ((c : Thread nD τ).loc main_arg9) (ix1 e) := by
  obtain ⟨e0, e1⟩ := ix_9 t
  rw [← V_v3 m c 0]
  refine congrArg (V m c main_v3) (funext fun a => Fin.ext ?_)
  match a with
  | ⟨0, _⟩ => show win0_9.index t 0 * 1 + 1 * 0 = 0; omega
  | ⟨1, _⟩ => show win0_9.index t 1 * 2048 + 1 * e.val = e.val; omega

/-! ## The result array -/

/-- The result array's function at the argument arrays as launched. -/
abbrev Gm (c : Dev nD) : Vec Ideal S16384x2048 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A place of point `t`'s output block is this place of the array. -/
theorem emb10 (t : Fin cfg0.N) (r : Fin 256) (e : Fin 2048) :
    ((cfg0.win 10).blk t).view.emb (ix2 r e : S256x2048.Idx) = (ix2 (rowOf t r) e : S16384x2048.Idx) := by
  obtain ⟨e0, e1⟩ := ix_10 t
  funext a; apply Fin.ext
  match a with
  | ⟨0, _⟩ => show win0_10.index t 0 * 256 + 1 * r.val = t.val * 256 + r.val; omega
  | ⟨1, _⟩ => show win0_10.index t 1 * 2048 + 1 * e.val = e.val; omega

/-- What point `t` writes back is its block of the result's function. -/
theorem flushed_eq (c : Dev nD) (t : Fin cfg0.N) :
    (dats m 0 c).flushed 10 t = ((cfg0.win 10).blk t).view.read (Elt Ideal) (Gm m c) := by
  rw [flushed10_A]
  funext j
  obtain ⟨r, e, rfl⟩ : ∃ (r : Fin 256) (e : Fin 2048), j = (ix2 r e : S256x2048.Idx) := ⟨j 0, j 1, eq_ix2 j⟩
  show _ = Gm m c (((cfg0.win 10).blk t).view.emb (ix2 r e : S256x2048.Idx))
  rw [emb10]
  refine (out_apply c (grid0.coords t) _ _ _ _ _ _ _ _ _ _ _ _ _ _ _ _ _ _ _ _ _ _ (iblk m c 0 t) (iblk m c 1 t) (iblk m c 2 t)
    (iblk m c 3 t) (X0_4 m c t) (iblk m c 5 t) (iblk m c 6 t) (iblk m c 7 t) (iblk m c 8 t) (iblk m c 9 t) r e).trans ?_
  show _ = outAt _ _ _ _ _ _ _ _ _ _ (rowOf t r) e
  simp only [blk0, blk1, blk2, blk3, blk4, blk5, blk6, blk7, blk8 m c t r, blk9]
  rfl

/-- Every place of the result array is in some point's block. -/
theorem covered (i : S16384x2048.Idx) : ∃ t : Fin cfg0.N, (cfg0.win 10).flush t = true ∧ i ∈ ((cfg0.win 10).blk t).view.set := by
  have h0 : (i 0).val < 16384 := (i 0).isLt
  have ht : (i 0).val / 256 < 64 := by omega
  refine ⟨⟨(i 0).val / 256, ht⟩, flush0_10 _, ?_⟩
  have he : ((cfg0.win 10).blk ⟨(i 0).val / 256, ht⟩).view.emb (ix2 ⟨(i 0).val % 256, by omega⟩ (i 1) : S256x2048.Idx) = i := by
    refine (emb10 ⟨(i 0).val / 256, ht⟩ ⟨(i 0).val % 256, by omega⟩ (i 1)).trans ?_
    funext a; apply Fin.ext
    match a with
    | ⟨0, _⟩ => show (i 0).val / 256 * 256 + (i 0).val % 256 = (i 0).val; omega
    | ⟨1, _⟩ => rfl
  exact Eq.mp (congrArg (fun z => z ∈ ((cfg0.win 10).blk ⟨(i 0).val / 256, ht⟩).view.set) he) (View.emb_mem_set _ _)

theorem final (c : Dev nD) : (dats m 0 c).arrAt 10 cfg0.N = Gm m c :=
  (dats m 0 c).arrAt_eq_of_cover 10 (Gm m c) (fun t _ => flushed_eq m c t) covered

end Cert.Proof.Merge

end
-- ==== Proof.MergeRef.lean ====
/- Hand-written, untrusted: the merge reference's result array is the same function of the argument arrays, read a place
   at a time. -/
module

public import proofs.«01_k».proof.Proof.Gen.Reference3Ideal.Read
public import proofs.«01_k».proof.Proof.MergeRow

@[expose] public section

set_option maxRecDepth 16384

noncomputable section

namespace Cert.Proof.MergeRef

open Cert.Reference3Ideal Cert.Reference3Ideal.Value Cert.Reference3Ideal.Read Idealize.ShloMosaic Idealize.ShloMosaic.TcCoe Idealize.SL.Sem Cert.Proof.Merge

variable (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32)
    (fg : Vec Ideal S2048 .f32)

/-- The row of the flat sequence that position `s` of sequence `b` is. -/
def flat (b : Fin 4) (s : Fin 4096) : Fin 16384 := ⟨b.val * 4096 + s.val, by omega⟩

theorem gate (b : Fin 4) (s : Fin 4096) (n : Fin 4) (e : Fin 2048) :
    (val_main_v15 (F := Ideal) p (ix4 b s n e) : EReal) = Ideal.logistic (p (ix2 (flat b s) ⟨n.val * 2048 + e.val, by omega⟩)) := by
  pointwise [val_main_v15, val_main_v14, val_main_v13, val_main_v12, val_main_v11, val_main_v10, val_main_v9, val_main_v8, val_main_cst, val_main_cst_0, flat, Ideal.logistic]

theorem br0 (b : Fin 4) (s : Fin 4096) (e : Fin 2048) :
    (val_main_v20 (F := Ideal) y0 wb (ix3 b s e) : EReal) = ∑ k : Fin 512, y0 (ix2 (flat b s) k) * wb (ix4 3 0 k e) := by
  pointwise [val_main_v20, val_main_v19, val_main_v18, val_main_v1, val_main_v0, flat]

theorem br1 (b : Fin 4) (s : Fin 4096) (e : Fin 2048) :
    (val_main_v28 (F := Ideal) y1 wb (ix3 b s e) : EReal) = ∑ k : Fin 512, y1 (ix2 (flat b s) k) * wb (ix4 3 1 k e) := by
  pointwise [val_main_v28, val_main_v27, val_main_v26, val_main_v3, val_main_v2, flat]

theorem br2 (b : Fin 4) (s : Fin 4096) (e : Fin 2048) :
    (val_main_v35 (F := Ideal) y2 wb (ix3 b s e) : EReal) = ∑ k : Fin 512, y2 (ix2 (flat b s) k) * wb (ix4 3 2 k e) := by
  pointwise [val_main_v35, val_main_v34, val_main_v33, val_main_v5, val_main_v4, flat]

theorem br3 (b : Fin 4) (s : Fin 4096) (e : Fin 2048) :
    (val_main_v42 (F := Ideal) y3 wb (ix3 b s e) : EReal) = ∑ k : Fin 512, y3 (ix2 (flat b s) k) * wb (ix4 3 3 k e) := by
  pointwise [val_main_v42, val_main_v41, val_main_v40, val_main_v7, val_main_v6, flat]

theorem gate0 (b : Fin 4) (s : Fin 4096) (e : Fin 2048) :
    (val_main_v17 (F := Ideal) p (ix3 b s e) : EReal) = Ideal.logistic (p (ix2 (flat b s) ⟨0 + e.val, by omega⟩)) := by
  have h : (val_main_v17 (F := Ideal) p (ix3 b s e) : EReal) = val_main_v15 (F := Ideal) p (ix4 b s 0 e) := by
    unfold val_main_v17 val_main_v16
    generalize val_main_v15 (F := Ideal) p = g
    pointwise
  rw [h, gate]
  congr 3

theorem gate1 (b : Fin 4) (s : Fin 4096) (e : Fin 2048) :
    (val_main_v25 (F := Ideal) p (ix3 b s e) : EReal) = Ideal.logistic (p (ix2 (flat b s) ⟨2048 + e.val, by omega⟩)) := by
  have h : (val_main_v25 (F := Ideal) p (ix3 b s e) : EReal) = val_main_v15 (F := Ideal) p (ix4 b s 1 e) := by
    unfold val_main_v25 val_main_v24
    generalize val_main_v15 (F := Ideal) p = g
    pointwise
  rw [h, gate]
  congr 3

theorem gate2 (b : Fin 4) (s : Fin 4096) (e : Fin 2048) :
    (val_main_v32 (F := Ideal) p (ix3 b s e) : EReal) = Ideal.logistic (p (ix2 (flat b s) ⟨4096 + e.val, by omega⟩)) := by
  have h : (val_main_v32 (F := Ideal) p (ix3 b s e) : EReal) = val_main_v15 (F := Ideal) p (ix4 b s 2 e) := by
    unfold val_main_v32 val_main_v31
    generalize val_main_v15 (F := Ideal) p = g
    pointwise
  rw [h, gate]
  congr 3

theorem gate3 (b : Fin 4) (s : Fin 4096) (e : Fin 2048) :
    (val_main_v39 (F := Ideal) p (ix3 b s e) : EReal) = Ideal.logistic (p (ix2 (flat b s) ⟨6144 + e.val, by omega⟩)) := by
  have h : (val_main_v39 (F := Ideal) p (ix3 b s e) : EReal) = val_main_v15 (F := Ideal) p (ix4 b s 3 e) := by
    unfold val_main_v39 val_main_v38
    generalize val_main_v15 (F := Ideal) p = g
    pointwise
  rw [h, gate]
  congr 3

theorem mixed (b : Fin 4) (s : Fin 4096) (e : Fin 2048) :
    (val_main_v44 (F := Ideal) y0 y1 y2 y3 p wb (ix3 b s e) : EReal)
      = mix (fun e => p (ix2 (flat b s) ⟨0 + e.val, by omega⟩)) (fun e => p (ix2 (flat b s) ⟨2048 + e.val, by omega⟩))
          (fun e => p (ix2 (flat b s) ⟨4096 + e.val, by omega⟩)) (fun e => p (ix2 (flat b s) ⟨6144 + e.val, by omega⟩))
          (fun k => y0 (ix2 (flat b s) k)) (fun k => y1 (ix2 (flat b s) k)) (fun k => y2 (ix2 (flat b s) k))
          (fun k => y3 (ix2 (flat b s) k)) (fun k e => wb (ix4 3 0 k e)) (fun k e => wb (ix4 3 1 k e))
          (fun k e => wb (ix4 3 2 k e)) (fun k e => wb (ix4 3 3 k e)) e := by
  have hz : (val_main_v22 (F := Ideal) (ix3 b s e) : EReal) = 0 := by pointwise [val_main_v22, val_main_cst_1]
  show (((val_main_v22 (F := Ideal) (ix3 b s e) : EReal) + val_main_v17 (F := Ideal) p (ix3 b s e) * val_main_v20 (F := Ideal) y0 wb (ix3 b s e))
    + val_main_v25 (F := Ideal) p (ix3 b s e) * val_main_v28 (F := Ideal) y1 wb (ix3 b s e)
    + val_main_v32 (F := Ideal) p (ix3 b s e) * val_main_v35 (F := Ideal) y2 wb (ix3 b s e)
    + val_main_v39 (F := Ideal) p (ix3 b s e) * val_main_v42 (F := Ideal) y3 wb (ix3 b s e) : EReal) = _
  rw [hz, gate0, gate1, gate2, gate3, br0, br1, br2, br3, zero_add]
  rfl

theorem residual (b : Fin 4) (s : Fin 4096) (e : Fin 2048) :
    (val_main_v53 (F := Ideal) y0 y1 y2 y3 p wb wo x md (ix3 b s e) : EReal)
      = resid (fun e => x (ix3 b s e)) (fun e => md (ix3 b 2 e)) (fun k e => wo (ix3 3 k e))
          (fun k => val_main_v44 (F := Ideal) y0 y1 y2 y3 p wb (ix3 b s k)) e := by
  have h1 : (val_main_v50 (F := Ideal) y0 y1 y2 y3 p wb wo (ix3 b s e) : EReal)
      = ∑ k : Fin 2048, val_main_v44 (F := Ideal) y0 y1 y2 y3 p wb (ix3 b s k) * wo (ix3 3 k e) := by
    unfold val_main_v50
    generalize val_main_v44 (F := Ideal) y0 y1 y2 y3 p wb = g
    pointwise [val_main_v49, val_main_v48]
  have h2 : (val_main_v51 (F := Ideal) md (ix3 b s e) : EReal) = md (ix3 b 2 e) := by
    pointwise [val_main_v51, val_main_v47, val_main_v46, val_main_v45]
  show (x (ix3 b s e) + val_main_v51 (F := Ideal) md (ix3 b s e) * val_main_v50 (F := Ideal) y0 y1 y2 y3 p wb wo (ix3 b s e) : EReal) = _
  rw [h1, h2]
  rfl

theorem normalised (b : Fin 4) (s : Fin 4096) (e : Fin 2048) :
    (val_main_v66 (F := Ideal) y0 y1 y2 y3 p wb wo x md fg (ix3 b s e) : EReal)
      = normed (fun e => val_main_v53 (F := Ideal) y0 y1 y2 y3 p wb wo x md (ix3 b s e)) (fun e => fg (ix1 e)) e := by
  unfold val_main_v66 val_main_v63 val_main_v62 val_main_v61 val_main_v60 val_main_v58 val_main_v56 val_main_v55 val_main_v54
  generalize val_main_v53 (F := Ideal) y0 y1 y2 y3 p wb wo x md = g
  pointwise [val_main_v65, val_main_v64, val_main_v59, val_main_v57, val_main_cst_2, val_main_cst_3, val_main_cst_4, normed]

end Cert.Proof.MergeRef

end
-- ==== Proof.Merge.lean ====
/- Hand-written, untrusted: the merge's value claim — kernel and reference leave the same array, `Merge.G` of the
   arguments. -/
module

public import proofs.«01_k».proof.Defs
public import proofs.«01_k».proof.Proof.MergeKernel
public import proofs.«01_k».proof.Proof.MergeRef
public import proofs.«01_k».proof.Proof.Gen.Reference3Ideal.Run

@[expose] public section

set_option maxRecDepth 16384

noncomputable section

namespace Cert.Proof.Merge

open Idealize.ShloMosaic Idealize.ShloMosaic.TcCoe Idealize.SL.Sem

/-- The reference's result array is the kernel's function of the arguments. -/
theorem ref_eq (y0 y1 y2 y3 : Vec Ideal Cert.Kernel3Ideal.S16384x512 .bf16) (p : Vec Ideal Cert.Kernel3Ideal.S16384x16128 .f32)
    (wb : Vec Ideal Cert.Kernel3Ideal.S4x4x512x2048 .f32) (wo : Vec Ideal Cert.Kernel3Ideal.S4x2048x2048 .f32)
    (x : Vec Ideal Cert.Kernel3Ideal.S4x4096x2048 .f32) (md : Vec Ideal Cert.Kernel3Ideal.S4x3x2048 .f32)
    (fg : Vec Ideal Cert.Kernel3Ideal.S2048 .f32) :
    Cert.Reference3Ideal.Read.val_main_v67 (F := Ideal) y0 y1 y2 y3 p wb wo x md fg = G y0 y1 y2 y3 p wb wo x md fg := by
  funext i
  obtain ⟨R, e, rfl⟩ : ∃ (R : Fin 16384) (e : Fin 2048), i = (ix2 R e : Cert.Kernel3Ideal.S16384x2048.Idx) := ⟨i 0, i 1, eq_ix2 i⟩
  have h : Cert.Reference3Ideal.Read.val_main_v67 (F := Ideal) y0 y1 y2 y3 p wb wo x md fg (ix2 R e)
      = Cert.Reference3Ideal.Read.val_main_v66 (F := Ideal) y0 y1 y2 y3 p wb wo x md fg
          (ix3 ⟨R.val / 4096, by omega⟩ ⟨R.val % 4096, by omega⟩ e) := by
    unfold Cert.Reference3Ideal.Read.val_main_v67
    generalize Cert.Reference3Ideal.Read.val_main_v66 (F := Ideal) y0 y1 y2 y3 p wb wo x md fg = g
    pointwise
  rw [h, MergeRef.normalised]
  simp only [MergeRef.residual, MergeRef.mixed]
  have hR : MergeRef.flat ⟨R.val / 4096, by omega⟩ ⟨R.val % 4096, by omega⟩ = R :=
    Fin.ext (by show R.val / 4096 * 4096 + R.val % 4096 = R.val; omega)
  show _ = outAt y0 y1 y2 y3 p wb wo x md fg R e
  unfold outAt
  rw [hR]
  simp only [Nat.zero_add]

theorem claim : Cert.algebraic_Kernel3Ideal_Reference3Ideal (hKernel3Ideal := Cert.Kernel3Ideal.Gen.facts)
    (hReference3Ideal := Cert.Reference3Ideal.Gen.facts) := by
  intro m g m' g' _ hag
  refine ⟨fun c => Gm m c, (θ_run Cert.Kernel3Ideal.defs _ _).mono (fun r h c => ⟨(h c).1.trans (final m c), (h c).2⟩)
    (Cert.Kernel3Ideal.Value.run_blocks m g), (θ_run Cert.Reference3Ideal.defs _ _).mono (fun r h c => ⟨(h c).1.trans ?_, (h c).2⟩)
    (Cert.Reference3Ideal.Value.run m' g')⟩
  obtain ⟨h0, h1, h2, h3, h4, h5, h6, h7, h8, h9⟩ := hag c
  rw [Cert.Reference3Ideal.Read.val_main_v67_eq, h0, h1, h2, h3, h4, h5, h6, h7, h8, h9]
  exact ref_eq _ _ _ _ _ _ _ _ _ _

end Cert.Proof.Merge

end
-- ==== Proof.Merge4Block.lean ====
/- Hand-written, untrusted: what the merge kernel without the final norm's body leaves in its output block, row by row: the row function of the
   input blocks' own rows. -/
module

public import proofs.«01_k».proof.Proof.Gen.Kernel4Ideal.Value
public import proofs.«01_k».proof.Proof.MergeRow

@[expose] public section

set_option maxRecDepth 16384

noncomputable section

namespace Cert.Proof.Merge4

open Cert.Proof.Merge Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- The four gated projections, read at a place of the block. -/
theorem pay2_apply (v0 : Vec Ideal S256x2048 .f32) (v2 : Vec Ideal S256x512 .bf16) (v3 : Vec Ideal S1x1x512x2048 .bf16)
    (v7 : Vec Ideal S256x2048 .f32) (v9 : Vec Ideal S256x512 .bf16) (v10 : Vec Ideal S1x1x512x2048 .bf16)
    (v15 : Vec Ideal S256x2048 .f32) (v17 : Vec Ideal S256x512 .bf16) (v18 : Vec Ideal S1x1x512x2048 .bf16)
    (r : Fin 256) (e : Fin 2048) :
    k0_pay2 v0 v2 v3 v7 v9 v10 v15 v17 v18 (ix2 r e)
      = Ideal.logistic (v0 (ix2 r e)) * (∑ k : Fin 512, v2 (ix2 r k) * v3 (ix4 0 0 k e))
        + Ideal.logistic (v7 (ix2 r e)) * (∑ k : Fin 512, v9 (ix2 r k) * v10 (ix4 0 0 k e))
        + Ideal.logistic (v15 (ix2 r e)) * (∑ k : Fin 512, v17 (ix2 r k) * v18 (ix4 0 0 k e)) := by
  pointwise [k0_pay2]

/-- The whole body's result from the values it loads, at a place of the block. -/
theorem pay1_apply (v22 v24 : Vec Ideal S256x2048 .f32) (v25 : Vec Ideal S256x512 .bf16) (v26 : Vec Ideal S1x1x512x2048 .bf16)
    (v31 : Vec Ideal S256x2048 .f32) (v33 : Vec Ideal S1x1x2048 .f32) (v36 : Vec Ideal S1x2048x2048 .bf16) (r : Fin 256) (e : Fin 2048) :
    k0_pay1 v22 v24 v25 v26 v31 v33 v36 (ix2 r e)
      = resid (fun e => v31 (ix2 r e)) (fun e => v33 (ix3 0 0 e)) (fun k e => v36 (ix3 0 k e))
          (fun e => v22 (ix2 r e) + v24 (ix2 r e) * ∑ k : Fin 512, v25 (ix2 r k) * v26 (ix4 0 0 k e)) e := by
  pointwise [k0_pay1, resid]

/-- What the body leaves in the output block, read at a place: the row function of the input blocks' rows. -/
theorem out_apply (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x8192 .f32) (harg5 : arg5.IsWhole) (arg6 : Memref sig .tc .vmem S1x4x512x2048 .bf16) (harg6 : arg6.IsWhole) (arg7 : Memref sig .tc .vmem S1x2048x2048 .bf16) (harg7 : arg7.IsWhole) (arg8 : Memref sig .tc .vmem S256x2048 .f32) (harg8 : arg8.IsWhole) (arg9 : Memref sig .tc .vmem S1x3x2048 .f32) (harg9 : arg9.IsWhole) (arg10 : Memref sig .tc .vmem S1x2048 .f32) (harg10 : arg10.IsWhole) (arg11 : Memref sig .tc .vmem S256x2048 .f32) (harg11 : arg11.IsWhole)
    (x0 : Vec Ideal S256x512 .bf16) (x1 : Vec Ideal S256x512 .bf16) (x2 : Vec Ideal S256x512 .bf16) (x3 : Vec Ideal S256x512 .bf16) (x4 : Vec Ideal S256x8192 .f32) (x5 : Vec Ideal S1x4x512x2048 .bf16) (x6 : Vec Ideal S1x2048x2048 .bf16) (x7 : Vec Ideal S256x2048 .f32) (x8 : Vec Ideal S1x3x2048 .f32) (x9 : Vec Ideal S1x2048 .f32)
    (r : Fin 256) (e : Fin 2048) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r e)
      = resid (fun e => x7 (ix2 r e)) (fun e => x8 (ix3 0 2 e)) (fun k e => x6 (ix3 0 k e))
          (mix (fun e => x4 (ix2 r ⟨e.val, by omega⟩)) (fun e => x4 (ix2 r ⟨2048 + e.val, by omega⟩))
            (fun e => x4 (ix2 r ⟨4096 + e.val, by omega⟩)) (fun e => x4 (ix2 r ⟨6144 + e.val, by omega⟩))
            (fun k => x0 (ix2 r k)) (fun k => x1 (ix2 r k)) (fun k => x2 (ix2 r k)) (fun k => x3 (ix2 r k))
            (fun k e => x5 (ix4 0 0 k e)) (fun k e => x5 (ix4 0 1 k e)) (fun k e => x5 (ix4 0 2 k e))
            (fun k e => x5 (ix4 0 3 k e))) e := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  rw [View.canon_unit_zero hz, pay1_apply]
  sl_unfold_words
  simp only [View.readAt_eq_ld, harg1.read_unread, harg2.read_unread, harg3.read_unread, harg4.read_unread, harg5.read_unread, harg6.read_unread, harg7.read_unread, harg8.read_unread, harg9.read_unread]
  pointwise [mix, k0_pay3, pay2_apply]
  rfl

end Cert.Proof.Merge4

end
-- ==== Proof.Merge4Kernel.lean ====
/- Hand-written, untrusted: the result array of the merge kernel without the final norm, row by row, as a function of the argument arrays: each grid
   point's input blocks are read off the arrays, and the 64 output blocks tile the result. -/
module

public import proofs.«01_k».proof.Proof.Merge4Block

@[expose] public section

set_option maxRecDepth 16384

noncomputable section

namespace Cert.Proof.Merge4

open Cert.Proof.Merge Cert.Kernel4Ideal Cert.Kernel4Ideal.Gen Cert.Kernel4Ideal.Value Idealize.ShloMosaic Idealize.ShloMosaic.TcCoe Idealize.SL.Sem

/-- The merged row `R` of the sequence laid flat, at column `e`, from the argument arrays. -/
def outAt (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32) (R : Fin 16384) (e : Fin 2048) : EReal :=
  resid (fun e => x (ix3 ⟨R.val / 4096, by omega⟩ ⟨R.val % 4096, by omega⟩ e))
      (fun e => md (ix3 ⟨R.val / 4096, by omega⟩ 2 e)) (fun k e => wo (ix3 2 k e))
      (mix (fun e => p (ix2 R ⟨e.val, by omega⟩)) (fun e => p (ix2 R ⟨2048 + e.val, by omega⟩))
        (fun e => p (ix2 R ⟨4096 + e.val, by omega⟩)) (fun e => p (ix2 R ⟨6144 + e.val, by omega⟩))
        (fun k => y0 (ix2 R k)) (fun k => y1 (ix2 R k)) (fun k => y2 (ix2 R k)) (fun k => y3 (ix2 R k))
        (fun k e => wb (ix4 2 0 k e)) (fun k e => wb (ix4 2 1 k e)) (fun k e => wb (ix4 2 2 k e))
        (fun k e => wb (ix4 2 3 k e))) e

/-- The result array: every row merged. -/
def G (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32) : Vec Ideal S16384x2048 .f32 :=
  fun i => outAt y0 y1 y2 y3 p wb wo x md (i 0) (i 1)

variable (m : (ℓ : Loc nD τ sig) → Buf (Elt Ideal) ℓ) (ρ : Dev nD → PrngReg)

/-! ## The block indices -/

theorem ix_0 : ∀ t : Fin cfg0.N, win0_0.index t 0 = t.val ∧ win0_0.index t 1 = 0 := (by decide +kernel : ∀ t : Fin grid0.N, _)
theorem ix_1 : ∀ t : Fin cfg0.N, win0_1.index t 0 = t.val ∧ win0_1.index t 1 = 0 := (by decide +kernel : ∀ t : Fin grid0.N, _)
theorem ix_2 : ∀ t : Fin cfg0.N, win0_2.index t 0 = t.val ∧ win0_2.index t 1 = 0 := (by decide +kernel : ∀ t : Fin grid0.N, _)
theorem ix_3 : ∀ t : Fin cfg0.N, win0_3.index t 0 = t.val ∧ win0_3.index t 1 = 0 := (by decide +kernel : ∀ t : Fin grid0.N, _)
theorem ix_4 : ∀ t : Fin cfg0.N, win0_4.index t 0 = t.val ∧ win0_4.index t 1 = 0 := (by decide +kernel : ∀ t : Fin grid0.N, _)
theorem ix_5 : ∀ t : Fin cfg0.N, win0_5.index t 0 = 2 ∧ win0_5.index t 1 = 0 ∧ win0_5.index t 2 = 0 ∧ win0_5.index t 3 = 0 :=
  (by decide +kernel : ∀ t : Fin grid0.N, _)
theorem ix_6 : ∀ t : Fin cfg0.N, win0_6.index t 0 = 2 ∧ win0_6.index t 1 = 0 ∧ win0_6.index t 2 = 0 :=
  (by decide +kernel : ∀ t : Fin grid0.N, _)
theorem ix_7 : ∀ t : Fin cfg0.N, win0_7.index t 0 = t.val ∧ win0_7.index t 1 = 0 := (by decide +kernel : ∀ t : Fin grid0.N, _)
theorem ix_8 : ∀ t : Fin cfg0.N, win0_8.index t 0 = t.val / 16 ∧ win0_8.index t 1 = 0 ∧ win0_8.index t 2 = 0 :=
  (by decide +kernel : ∀ t : Fin grid0.N, _)
theorem ix_10 : ∀ t : Fin cfg0.N, win0_10.index t 0 = t.val ∧ win0_10.index t 1 = 0 := (by decide +kernel : ∀ t : Fin grid0.N, _)

theorem t_lt (t : Fin cfg0.N) : t.val < 64 := t.isLt

/-- The row of the flat sequence that row `r` of point `t`'s block is. -/
def rowOf (t : Fin cfg0.N) (r : Fin 256) : Fin 16384 := ⟨t.val * 256 + r.val, by have := t_lt t; omega⟩

/-! ## The host's arrays -/

theorem V_v0 (c : Dev nD) (i : S4x4x512x2048.Idx) : (V m c main_v0 i : EReal) = m ((c : Thread nD τ).loc main_arg5) i := by
  show StableHlo.after hostOps0 (fun b => m (c, b)) main_v0 i = _
  rw [hostOps0]; after_results_simp; rfl
theorem V_v1 (c : Dev nD) (i : S4x2048x2048.Idx) : (V m c main_v1 i : EReal) = m ((c : Thread nD τ).loc main_arg6) i := by
  show StableHlo.after hostOps0 (fun b => m (c, b)) main_v1 i = _
  rw [hostOps0]; after_results_simp; rfl
theorem V_v2 (c : Dev nD) (R : Fin 16384) (e : Fin 2048) : (V m c main_v2 (ix2 R e) : EReal)
    = m ((c : Thread nD τ).loc main_arg7) (ix3 ⟨R.val / 4096, by omega⟩ ⟨R.val % 4096, by omega⟩ e) := by
  show StableHlo.after hostOps0 (fun b => m (c, b)) main_v2 (ix2 R e) = _
  rw [hostOps0]; after_results_simp
  pointwise

/-! ## The input blocks -/

theorem blk0 (c : Dev nD) (t : Fin cfg0.N) (r : Fin 256) (k : Fin 512) :
    (iblk m c 0 t (ix2 r k : S256x512.Idx) : EReal) = m ((c : Thread nD τ).loc main_arg0) (ix2 (rowOf t r) k) := by
  obtain ⟨e0, e1⟩ := ix_0 t
  rw [← V_main_arg0 m c]
  refine congrArg (V m c main_arg0) (funext fun a => Fin.ext ?_)
  match a with
  | ⟨0, _⟩ => show win0_0.index t 0 * 256 + 1 * r.val = t.val * 256 + r.val; omega
  | ⟨1, _⟩ => show win0_0.index t 1 * 512 + 1 * k.val = k.val; omega

theorem blk4 (c : Dev nD) (t : Fin cfg0.N) (r : Fin 256) (k : Fin 8192) :
    (X0_4 m c t (ix2 r k : S256x8192.Idx) : EReal) = m ((c : Thread nD τ).loc main_arg4) (ix2 (rowOf t r) ⟨k.val, by omega⟩) := by
  obtain ⟨e0, e1⟩ := ix_4 t
  rw [← V_main_arg4 m c]
  unfold X0_4 Pipeline.Window.fill
  rw [dif_pos (moved0_4 t _)]
  refine congrArg (V m c main_arg4) (funext fun a => Fin.ext ?_)
  match a with
  | ⟨0, _⟩ => show win0_4.index t 0 * 256 + 1 * r.val = t.val * 256 + r.val; omega
  | ⟨1, _⟩ => show win0_4.index t 1 * 8192 + 1 * k.val = k.val; omega

theorem blk5 (c : Dev nD) (t : Fin cfg0.N) (n : Fin 4) (k : Fin 512) (e : Fin 2048) :
    (iblk m c 5 t (ix4 0 n k e : S1x4x512x2048.Idx) : EReal) = m ((c : Thread nD τ).loc main_arg5) (ix4 2 n k e) := by
  obtain ⟨e0, e1, e2, e3⟩ := ix_5 t
  rw [← V_v0 m c]
  refine congrArg (V m c main_v0) (funext fun a => Fin.ext ?_)
  match a with
  | ⟨0, _⟩ => show win0_5.index t 0 * 1 + 1 * 0 = 2; omega
  | ⟨1, _⟩ => show win0_5.index t 1 * 4 + 1 * n.val = n.val; omega
  | ⟨2, _⟩ => show win0_5.index t 2 * 512 + 1 * k.val = k.val; omega
  | ⟨3, _⟩ => show win0_5.index t 3 * 2048 + 1 * e.val = e.val; omega

theorem blk1 (c : Dev nD) (t : Fin cfg0.N) (r : Fin 256) (k : Fin 512) :
    (iblk m c 1 t (ix2 r k : S256x512.Idx) : EReal) = m ((c : Thread nD τ).loc main_arg1) (ix2 (rowOf t r) k) := by
  obtain ⟨e0, e1⟩ := ix_1 t
  rw [← V_main_arg1 m c]
  refine congrArg (V m c main_arg1) (funext fun a => Fin.ext ?_)
  match a with
  | ⟨0, _⟩ => show win0_1.index t 0 * 256 + 1 * r.val = t.val * 256 + r.val; omega
  | ⟨1, _⟩ => show win0_1.index t 1 * 512 + 1 * k.val = k.val; omega

theorem blk2 (c : Dev nD) (t : Fin cfg0.N) (r : Fin 256) (k : Fin 512) :
    (iblk m c 2 t (ix2 r k : S256x512.Idx) : EReal) = m ((c : Thread nD τ).loc main_arg2) (ix2 (rowOf t r) k) := by
  obtain ⟨e0, e1⟩ := ix_2 t
  rw [← V_main_arg2 m c]
  refine congrArg (V m c main_arg2) (funext fun a => Fin.ext ?_)
  match a with
  | ⟨0, _⟩ => show win0_2.index t 0 * 256 + 1 * r.val = t.val * 256 + r.val; omega
  | ⟨1, _⟩ => show win0_2.index t 1 * 512 + 1 * k.val = k.val; omega

theorem blk3 (c : Dev nD) (t : Fin cfg0.N) (r : Fin 256) (k : Fin 512) :
    (iblk m c 3 t (ix2 r k : S256x512.Idx) : EReal) = m ((c : Thread nD τ).loc main_arg3) (ix2 (rowOf t r) k) := by
  obtain ⟨e0, e1⟩ := ix_3 t
  rw [← V_main_arg3 m c]
  refine congrArg (V m c main_arg3) (funext fun a => Fin.ext ?_)
  match a with
  | ⟨0, _⟩ => show win0_3.index t 0 * 256 + 1 * r.val = t.val * 256 + r.val; omega
  | ⟨1, _⟩ => show win0_3.index t 1 * 512 + 1 * k.val = k.val; omega

theorem blk6 (c : Dev nD) (t : Fin cfg0.N) (k e : Fin 2048) :
    (iblk m c 6 t (ix3 0 k e : S1x2048x2048.Idx) : EReal) = m ((c : Thread nD τ).loc main_arg6) (ix3 2 k e) := by
  obtain ⟨e0, e1, e2⟩ := ix_6 t
  rw [← V_v1 m c]
  refine congrArg (V m c main_v1) (funext fun a => Fin.ext ?_)
  match a with
  | ⟨0, _⟩ => show win0_6.index t 0 * 1 + 1 * 0 = 2; omega
  | ⟨1, _⟩ => show win0_6.index t 1 * 2048 + 1 * k.val = k.val; omega
  | ⟨2, _⟩ => show win0_6.index t 2 * 2048 + 1 * e.val = e.val; omega

theorem blk7 (c : Dev nD) (t : Fin cfg0.N) (r : Fin 256) (e : Fin 2048) :
    (iblk m c 7 t (ix2 r e : S256x2048.Idx) : EReal) = m ((c : Thread nD τ).loc main_arg7)
      (ix3 ⟨(rowOf t r).val / 4096, by have := (rowOf t r).isLt; omega⟩ ⟨(rowOf t r).val % 4096, by omega⟩ e) := by
  obtain ⟨e0, e1⟩ := ix_7 t
  rw [← V_v2 m c]
  refine congrArg (V m c main_v2) (funext fun a => Fin.ext ?_)
  match a with
  | ⟨0, _⟩ => show win0_7.index t 0 * 256 + 1 * r.val = t.val * 256 + r.val; omega
  | ⟨1, _⟩ => show win0_7.index t 1 * 2048 + 1 * e.val = e.val; omega

theorem blk8 (c : Dev nD) (t : Fin cfg0.N) (r : Fin 256) (n : Fin 3) (e : Fin 2048) :
    (iblk m c 8 t (ix3 0 n e : S1x3x2048.Idx) : EReal) = m ((c : Thread nD τ).loc main_arg8)
      (ix3 ⟨(rowOf t r).val / 4096, by have := (rowOf t r).isLt; omega⟩ n e) := by
  obtain ⟨e0, e1, e2⟩ := ix_8 t
  rw [← V_main_arg8 m c]
  refine congrArg (V m c main_arg8) (funext fun a => Fin.ext ?_)
  match a with
  | ⟨0, _⟩ => show win0_8.index t 0 * 1 + 1 * 0 = (t.val * 256 + r.val) / 4096; omega
  | ⟨1, _⟩ => show win0_8.index t 1 * 3 + 1 * n.val = n.val; omega
  | ⟨2, _⟩ => show win0_8.index t 2 * 2048 + 1 * e.val = e.val; omega

/-! ## The result array -/

/-- The result array's function at the argument arrays as launched. -/
abbrev Gm (c : Dev nD) : Vec Ideal S16384x2048 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A place of point `t`'s output block is this place of the array. -/
theorem emb10 (t : Fin cfg0.N) (r : Fin 256) (e : Fin 2048) :
    ((cfg0.win 10).blk t).view.emb (ix2 r e : S256x2048.Idx) = (ix2 (rowOf t r) e : S16384x2048.Idx) := by
  obtain ⟨e0, e1⟩ := ix_10 t
  funext a; apply Fin.ext
  match a with
  | ⟨0, _⟩ => show win0_10.index t 0 * 256 + 1 * r.val = t.val * 256 + r.val; omega
  | ⟨1, _⟩ => show win0_10.index t 1 * 2048 + 1 * e.val = e.val; omega

/-- What point `t` writes back is its block of the result's function. -/
theorem flushed_eq (c : Dev nD) (t : Fin cfg0.N) :
    (dats m 0 c).flushed 10 t = ((cfg0.win 10).blk t).view.read (Elt Ideal) (Gm m c) := by
  rw [flushed10_A]
  funext j
  obtain ⟨r, e, rfl⟩ : ∃ (r : Fin 256) (e : Fin 2048), j = (ix2 r e : S256x2048.Idx) := ⟨j 0, j 1, eq_ix2 j⟩
  show _ = Gm m c (((cfg0.win 10).blk t).view.emb (ix2 r e : S256x2048.Idx))
  rw [emb10]
  refine (out_apply c (grid0.coords t) _ _ _ _ _ _ _ _ _ _ _ _ _ _ _ _ _ _ _ _ _ _ (iblk m c 0 t) (iblk m c 1 t) (iblk m c 2 t)
    (iblk m c 3 t) (X0_4 m c t) (iblk m c 5 t) (iblk m c 6 t) (iblk m c 7 t) (iblk m c 8 t) (iblk m c 9 t) r e).trans ?_
  show _ = outAt _ _ _ _ _ _ _ _ _ (rowOf t r) e
  simp only [blk0, blk1, blk2, blk3, blk4, blk5, blk6, blk7, blk8 m c t r]
  rfl

/-- Every place of the result array is in some point's block. -/
theorem covered (i : S16384x2048.Idx) : ∃ t : Fin cfg0.N, (cfg0.win 10).flush t = true ∧ i ∈ ((cfg0.win 10).blk t).view.set := by
  have h0 : (i 0).val < 16384 := (i 0).isLt
  have ht : (i 0).val / 256 < 64 := by omega
  refine ⟨⟨(i 0).val / 256, ht⟩, flush0_10 _, ?_⟩
  have he : ((cfg0.win 10).blk ⟨(i 0).val / 256, ht⟩).view.emb (ix2 ⟨(i 0).val % 256, by omega⟩ (i 1) : S256x2048.Idx) = i := by
    refine (emb10 ⟨(i 0).val / 256, ht⟩ ⟨(i 0).val % 256, by omega⟩ (i 1)).trans ?_
    funext a; apply Fin.ext
    match a with
    | ⟨0, _⟩ => show (i 0).val / 256 * 256 + (i 0).val % 256 = (i 0).val; omega
    | ⟨1, _⟩ => rfl
  exact Eq.mp (congrArg (fun z => z ∈ ((cfg0.win 10).blk ⟨(i 0).val / 256, ht⟩).view.set) he) (View.emb_mem_set _ _)

theorem final (c : Dev nD) : (dats m 0 c).arrAt 10 cfg0.N = Gm m c :=
  (dats m 0 c).arrAt_eq_of_cover 10 (Gm m c) (fun t _ => flushed_eq m c t) covered

end Cert.Proof.Merge4

end
-- ==== Proof.Merge4Ref.lean ====
/- Hand-written, untrusted: the result array of the merge reference without the final norm is the same function of the argument arrays, read a place
   at a time. -/
module

public import proofs.«01_k».proof.Proof.Gen.Reference4Ideal.Read
public import proofs.«01_k».proof.Proof.MergeRow

@[expose] public section

set_option maxRecDepth 16384

noncomputable section

namespace Cert.Proof.Merge4Ref

open Cert.Reference4Ideal Cert.Reference4Ideal.Value Cert.Reference4Ideal.Read Idealize.ShloMosaic Idealize.ShloMosaic.TcCoe Idealize.SL.Sem Cert.Proof.Merge

variable (y0 y1 y2 y3 : Vec Ideal S16384x512 .bf16) (p : Vec Ideal S16384x16128 .f32) (wb : Vec Ideal S4x4x512x2048 .f32)
    (wo : Vec Ideal S4x2048x2048 .f32) (x : Vec Ideal S4x4096x2048 .f32) (md : Vec Ideal S4x3x2048 .f32)

/-- The row of the flat sequence that position `s` of sequence `b` is. -/
def flat (b : Fin 4) (s : Fin 4096) : Fin 16384 := ⟨b.val * 4096 + s.val, by omega⟩

theorem gate (b : Fin 4) (s : Fin 4096) (n : Fin 4) (e : Fin 2048) :
    (val_main_v15 (F := Ideal) p (ix4 b s n e) : EReal) = Ideal.logistic (p (ix2 (flat b s) ⟨n.val * 2048 + e.val, by omega⟩)) := by
  pointwise [val_main_v15, val_main_v14, val_main_v13, val_main_v12, val_main_v11, val_main_v10, val_main_v9, val_main_v8, val_main_cst, val_main_cst_0, flat, Ideal.logistic]

theorem br0 (b : Fin 4) (s : Fin 4096) (e : Fin 2048) :
    (val_main_v20 (F := Ideal) y0 wb (ix3 b s e) : EReal) = ∑ k : Fin 512, y0 (ix2 (flat b s) k) * wb (ix4 2 0 k e) := by
  pointwise [val_main_v20, val_main_v19, val_main_v18, val_main_v1, val_main_v0, flat]

theorem br1 (b : Fin 4) (s : Fin 4096) (e : Fin 2048) :
    (val_main_v28 (F := Ideal) y1 wb (ix3 b s e) : EReal) = ∑ k : Fin 512, y1 (ix2 (flat b s) k) * wb (ix4 2 1 k e) := by
  pointwise [val_main_v28, val_main_v27, val_main_v26, val_main_v3, val_main_v2, flat]

theorem br2 (b : Fin 4) (s : Fin 4096) (e : Fin 2048) :
    (val_main_v35 (F := Ideal) y2 wb (ix3 b s e) : EReal) = ∑ k : Fin 512, y2 (ix2 (flat b s) k) * wb (ix4 2 2 k e) := by
  pointwise [val_main_v35, val_main_v34, val_main_v33, val_main_v5, val_main_v4, flat]

theorem br3 (b : Fin 4) (s : Fin 4096) (e : Fin 2048) :
    (val_main_v42 (F := Ideal) y3 wb (ix3 b s e) : EReal) = ∑ k : Fin 512, y3 (ix2 (flat b s) k) * wb (ix4 2 3 k e) := by
  pointwise [val_main_v42, val_main_v41, val_main_v40, val_main_v7, val_main_v6, flat]

theorem gate0 (b : Fin 4) (s : Fin 4096) (e : Fin 2048) :
    (val_main_v17 (F := Ideal) p (ix3 b s e) : EReal) = Ideal.logistic (p (ix2 (flat b s) ⟨0 + e.val, by omega⟩)) := by
  have h : (val_main_v17 (F := Ideal) p (ix3 b s e) : EReal) = val_main_v15 (F := Ideal) p (ix4 b s 0 e) := by
    unfold val_main_v17 val_main_v16
    generalize val_main_v15 (F := Ideal) p = g
    pointwise
  rw [h, gate]
  congr 3

theorem gate1 (b : Fin 4) (s : Fin 4096) (e : Fin 2048) :
    (val_main_v25 (F := Ideal) p (ix3 b s e) : EReal) = Ideal.logistic (p (ix2 (flat b s) ⟨2048 + e.val, by omega⟩)) := by
  have h : (val_main_v25 (F := Ideal) p (ix3 b s e) : EReal) = val_main_v15 (F := Ideal) p (ix4 b s 1 e) := by
    unfold val_main_v25 val_main_v24
    generalize val_main_v15 (F := Ideal) p = g
    pointwise
  rw [h, gate]
  congr 3

theorem gate2 (b : Fin 4) (s : Fin 4096) (e : Fin 2048) :
    (val_main_v32 (F := Ideal) p (ix3 b s e) : EReal) = Ideal.logistic (p (ix2 (flat b s) ⟨4096 + e.val, by omega⟩)) := by
  have h : (val_main_v32 (F := Ideal) p (ix3 b s e) : EReal) = val_main_v15 (F := Ideal) p (ix4 b s 2 e) := by
    unfold val_main_v32 val_main_v31
    generalize val_main_v15 (F := Ideal) p = g
    pointwise
  rw [h, gate]
  congr 3

theorem gate3 (b : Fin 4) (s : Fin 4096) (e : Fin 2048) :
    (val_main_v39 (F := Ideal) p (ix3 b s e) : EReal) = Ideal.logistic (p (ix2 (flat b s) ⟨6144 + e.val, by omega⟩)) := by
  have h : (val_main_v39 (F := Ideal) p (ix3 b s e) : EReal) = val_main_v15 (F := Ideal) p (ix4 b s 3 e) := by
    unfold val_main_v39 val_main_v38
    generalize val_main_v15 (F := Ideal) p = g
    pointwise
  rw [h, gate]
  congr 3

theorem mixed (b : Fin 4) (s : Fin 4096) (e : Fin 2048) :
    (val_main_v44 (F := Ideal) y0 y1 y2 y3 p wb (ix3 b s e) : EReal)
      = mix (fun e => p (ix2 (flat b s) ⟨0 + e.val, by omega⟩)) (fun e => p (ix2 (flat b s) ⟨2048 + e.val, by omega⟩))
          (fun e => p (ix2 (flat b s) ⟨4096 + e.val, by omega⟩)) (fun e => p (ix2 (flat b s) ⟨6144 + e.val, by omega⟩))
          (fun k => y0 (ix2 (flat b s) k)) (fun k => y1 (ix2 (flat b s) k)) (fun k => y2 (ix2 (flat b s) k))
          (fun k => y3 (ix2 (flat b s) k)) (fun k e => wb (ix4 2 0 k e)) (fun k e => wb (ix4 2 1 k e))
          (fun k e => wb (ix4 2 2 k e)) (fun k e => wb (ix4 2 3 k e)) e := by
  have hz : (val_main_v22 (F := Ideal) (ix3 b s e) : EReal) = 0 := by pointwise [val_main_v22, val_main_cst_1]
  show (((val_main_v22 (F := Ideal) (ix3 b s e) : EReal) + val_main_v17 (F := Ideal) p (ix3 b s e) * val_main_v20 (F := Ideal) y0 wb (ix3 b s e))
    + val_main_v25 (F := Ideal) p (ix3 b s e) * val_main_v28 (F := Ideal) y1 wb (ix3 b s e)
    + val_main_v32 (F := Ideal) p (ix3 b s e) * val_main_v35 (F := Ideal) y2 wb (ix3 b s e)
    + val_main_v39 (F := Ideal) p (ix3 b s e) * val_main_v42 (F := Ideal) y3 wb (ix3 b s e) : EReal) = _
  rw [hz, gate0, gate1, gate2, gate3, br0, br1, br2, br3, zero_add]
  rfl

theorem residual (b : Fin 4) (s : Fin 4096) (e : Fin 2048) :
    (val_main_v53 (F := Ideal) y0 y1 y2 y3 p wb wo x md (ix3 b s e) : EReal)
      = resid (fun e => x (ix3 b s e)) (fun e => md (ix3 b 2 e)) (fun k e => wo (ix3 2 k e))
          (fun k => val_main_v44 (F := Ideal) y0 y1 y2 y3 p wb (ix3 b s k)) e := by
  have h1 : (val_main_v50 (F := Ideal) y0 y1 y2 y3 p wb wo (ix3 b s e) : EReal)
      = ∑ k : Fin 2048, val_main_v44 (F := Ideal) y0 y1 y2 y3 p wb (ix3 b s k) * wo (ix3 2 k e) := by
    unfold val_main_v50
    generalize val_main_v44 (F := Ideal) y0 y1 y2 y3 p wb = g
    pointwise [val_main_v49, val_main_v48]
  have h2 : (val_main_v51 (F := Ideal) md (ix3 b s e) : EReal) = md (ix3 b 2 e) := by
    pointwise [val_main_v51, val_main_v47, val_main_v46, val_main_v45]
  show (x (ix3 b s e) + val_main_v51 (F := Ideal) md (ix3 b s e) * val_main_v50 (F := Ideal) y0 y1 y2 y3 p wb wo (ix3 b s e) : EReal) = _
  rw [h1, h2]
  rfl

end Cert.Proof.Merge4Ref

end
-- ==== Proof.Merge4.lean ====
/- Hand-written, untrusted: the value claim of the merge without the final norm — kernel and reference leave the same array, `Merge4.G` of the
   arguments. -/
module

public import proofs.«01_k».proof.Defs
public import proofs.«01_k».proof.Proof.Merge4Kernel
public import proofs.«01_k».proof.Proof.Merge4Ref
public import proofs.«01_k».proof.Proof.Gen.Reference4Ideal.Run

@[expose] public section

set_option maxRecDepth 16384

noncomputable section

namespace Cert.Proof.Merge4

open Idealize.ShloMosaic Idealize.ShloMosaic.TcCoe Idealize.SL.Sem

/-- The reference's result array is the kernel's function of the arguments. -/
theorem ref_eq (y0 y1 y2 y3 : Vec Ideal Cert.Kernel4Ideal.S16384x512 .bf16) (p : Vec Ideal Cert.Kernel4Ideal.S16384x16128 .f32)
    (wb : Vec Ideal Cert.Kernel4Ideal.S4x4x512x2048 .f32) (wo : Vec Ideal Cert.Kernel4Ideal.S4x2048x2048 .f32)
    (x : Vec Ideal Cert.Kernel4Ideal.S4x4096x2048 .f32) (md : Vec Ideal Cert.Kernel4Ideal.S4x3x2048 .f32) :
    Cert.Reference4Ideal.Read.val_main_v54 (F := Ideal) y0 y1 y2 y3 p wb wo x md = G y0 y1 y2 y3 p wb wo x md := by
  funext i
  obtain ⟨R, e, rfl⟩ : ∃ (R : Fin 16384) (e : Fin 2048), i = (ix2 R e : Cert.Kernel4Ideal.S16384x2048.Idx) := ⟨i 0, i 1, eq_ix2 i⟩
  have h : Cert.Reference4Ideal.Read.val_main_v54 (F := Ideal) y0 y1 y2 y3 p wb wo x md (ix2 R e)
      = Cert.Reference4Ideal.Read.val_main_v53 (F := Ideal) y0 y1 y2 y3 p wb wo x md
          (ix3 ⟨R.val / 4096, by omega⟩ ⟨R.val % 4096, by omega⟩ e) := by
    unfold Cert.Reference4Ideal.Read.val_main_v54
    generalize Cert.Reference4Ideal.Read.val_main_v53 (F := Ideal) y0 y1 y2 y3 p wb wo x md = g
    pointwise
  rw [h, Merge4Ref.residual]
  simp only [Merge4Ref.mixed]
  have hR : Merge4Ref.flat ⟨R.val / 4096, by omega⟩ ⟨R.val % 4096, by omega⟩ = R :=
    Fin.ext (by show R.val / 4096 * 4096 + R.val % 4096 = R.val; omega)
  show _ = outAt y0 y1 y2 y3 p wb wo x md R e
  unfold outAt
  rw [hR]
  simp only [Nat.zero_add]

theorem claim : Cert.algebraic_Kernel4Ideal_Reference4Ideal (hKernel4Ideal := Cert.Kernel4Ideal.Gen.facts)
    (hReference4Ideal := Cert.Reference4Ideal.Gen.facts) := by
  intro m g m' g' _ hag
  refine ⟨fun c => Gm m c, (θ_run Cert.Kernel4Ideal.defs _ _).mono (fun r h c => ⟨(h c).1.trans (final m c), (h c).2⟩)
    (Cert.Kernel4Ideal.Value.run_blocks m g), (θ_run Cert.Reference4Ideal.defs _ _).mono (fun r h c => ⟨(h c).1.trans ?_, (h c).2⟩)
    (Cert.Reference4Ideal.Value.run m' g')⟩
  obtain ⟨h0, h1, h2, h3, h4, h5, h6, h7, h8, h9⟩ := hag c
  rw [Cert.Reference4Ideal.Read.val_main_v54_eq, h0, h1, h2, h3, h4, h5, h6, h7, h8]
  exact ref_eq _ _ _ _ _ _ _ _ _

end Cert.Proof.Merge4

end
-- ==== Proof.Proj5Block.lean ====
/- Hand-written, untrusted: what the body of the context projection kernel leaves in its output block and in the scratch it carries
   along the columns, row by row. -/
module

public import proofs.«01_k».proof.Proof.Gen.Kernel5Ideal.Value
public import proofs.«01_k».proof.Proof.ProjRow

@[expose] public section

set_option maxRecDepth 16384

noncomputable section

namespace Cert.Proof.Proj5

open Cert.Proof.Proj Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl

theorem pay1_apply (v6 : Vec Ideal S1024x2048 .f32) (v18 : Vec Ideal S1x2048 .f32) (v22 v28 : Vec Ideal S1x1x2048 .f32)
    (r : Fin 1024) (e : Fin 2048) :
    k0_pay1 v6 v18 v22 v28 (ix2 r e)
      = hrow (fun e => v6 (ix2 r e)) (fun e => v18 (ix2 0 e)) (fun e => v22 (ix3 0 0 e)) (fun e => v28 (ix3 0 0 e)) e := by
  pointwise [k0_pay1, hrow]

theorem pay2_apply (v6 : Vec Ideal S1024x2048 .f32) (v18 : Vec Ideal S1x2048 .f32) (v22 v28 : Vec Ideal S1x1x2048 .f32)
    (r : Fin 1024) (e : Fin 2048) :
    k0_pay2 v6 v18 v22 v28 (ix2 r e)
      = hrow (fun e => v6 (ix2 r e)) (fun e => v18 (ix2 0 e)) (fun e => v22 (ix3 0 0 e)) (fun e => v28 (ix3 0 0 e)) e := by
  unfold k0_pay2
  rw [shapeCast_self, pay1_apply]

theorem pay4_apply (v6 : Vec Ideal S1024x2048 .bf16) (v7 : Vec Ideal S1x1792x2048 .bf16) (r : Fin 1024) (j : Fin 1792) :
    k0_pay4 v6 v7 (ix2 r j) = ∑ k : Fin 2048, v6 (ix2 r k) * v7 (ix3 0 j k) := by
  pointwise [k0_pay4]

theorem pay3_apply (v6 : Vec Ideal S1024x2048 .f32) (v18 : Vec Ideal S1x2048 .f32) (v22 v28 : Vec Ideal S1x1x2048 .f32)
    (v36 : Vec Ideal S1x1792x2048 .bf16) (r : Fin 1024) (j : Fin 1792) :
    k0_pay3 v6 v18 v22 v28 v36 (ix2 r j)
      = ∑ k : Fin 2048, hrow (fun e => v6 (ix2 r e)) (fun e => v18 (ix2 0 e)) (fun e => v22 (ix3 0 0 e)) (fun e => v28 (ix3 0 0 e)) k
          * v36 (ix3 0 j k) := by
  have h : k0_pay3 v6 v18 v22 v28 v36 = k0_pay4 (k0_pay1 v6 v18 v22 v28) v36 := rfl
  rw [h, pay4_apply]
  simp only [pay1_apply]

/-- At a block's first column the body projects the row it normalises there. -/
theorem outA_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x3x2048 .f32) (x2 : Vec Ideal S1x2048 .f32) (x3 : Vec Ideal S1x1792x2048 .bf16) (r : Fin 1024) (j : Fin 1792) :
    out0_A_4 c i arg2 harg2 arg3 harg3 arg4 harg4 arg5 harg5 arg6 harg6 arg7 harg7 hc0 hc1 x0 x1 x2 x3 (ix2 r j)
      = ∑ k : Fin 2048, hrow (fun e => x0 (ix2 r e)) (fun e => x2 (ix2 0 e)) (fun e => x1 (ix3 0 1 e)) (fun e => x1 (ix3 0 0 e)) k
          * x3 (ix3 0 j k) := by
  unfold out0_A_4
  rw [View.read_writes_eq_canon _ _ _ (cover0_A_4 c i arg2 harg2 arg3 harg3 arg4 harg4 arg5 harg5 arg6 harg6 arg7 harg7 hc0 hc1 x0 x1 x2 x3)]
  unfold kernelRun0_A
  dsimp only
  sl_unfold_words
  rw [View.canon_unit_zero hz, pay3_apply]
  simp only [View.readAt_eq_ld, harg2.read_unread, harg3.read_unread, harg4.read_unread, harg5.read_unread]
  pointwise

/-- … and keeps that row in the scratch. -/
theorem soutA_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x3x2048 .f32) (x2 : Vec Ideal S1x2048 .f32) (x3 : Vec Ideal S1x1792x2048 .bf16) (r : Fin 1024) (j : Fin 2048) :
    sout0_A_0 c i arg2 harg2 arg3 harg3 arg4 harg4 arg5 harg5 arg6 harg6 arg7 harg7 hc0 hc1 x0 x1 x2 x3 (ix2 r j)
      = hrow (fun e => x0 (ix2 r e)) (fun e => x2 (ix2 0 e)) (fun e => x1 (ix3 0 1 e)) (fun e => x1 (ix3 0 0 e)) j := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_unit_zero hz, pay2_apply]
  simp only [View.readAt_eq_ld, harg2.read_unread, harg3.read_unread, harg4.read_unread, harg5.read_unread]
  pointwise

/-- At a later column it projects the row the scratch holds. -/
theorem outB_apply (c : Dev nD) (i : grid0.Coords) (arg2 : Memref sig .tc .vmem S1024x2048 .f32) (harg2 : arg2.IsWhole) (arg3 : Memref sig .tc .vmem S1x3x2048 .f32) (harg3 : arg3.IsWhole) (arg4 : Memref sig .tc .vmem S1x2048 .f32) (harg4 : arg4.IsWhole) (arg5 : Memref sig .tc .vmem S1x1792x2048 .bf16) (harg5 : arg5.IsWhole) (arg6 : Memref sig .tc .vmem S1024x1792 .f32) (harg6 : arg6.IsWhole) (arg7 : Memref sig .tc .vmem S1024x2048 .bf16) (harg7 : arg7.IsWhole) (hc0 : ¬cond0_0 i) (hc1 : cond0_1 i)
    (x0 : Vec Ideal S1024x2048 .f32) (x1 : Vec Ideal S1x3x2048 .f32) (x2 : Vec Ideal S1x2048 .f32) (x3 : Vec Ideal S1x1792x2048 .bf16) (xs0 : Vec Ideal S1024x2048 .bf16) (r : Fin 1024) (j : Fin 1792) :
    out0_B_4 c i arg2 harg2 arg3 harg3 arg4 harg4 arg5 harg5 arg6 harg6 arg7 harg7 hc0 hc1 x0 x1 x2 x3 xs0 (ix2 r j)
      = ∑ k : Fin 2048, xs0 (ix2 r k) * x3 (ix3 0 j k) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero hz, pay4_apply]
  simp only [View.readAt_eq_ld, harg5.read_unread, harg7.read_unread]
  pointwise

end Cert.Proof.Proj5

end
-- ==== Proof.Proj5Cat.lean ====
/- Hand-written, untrusted: five pieces laid side by side along one axis, read at a place (the packed weights, in the context projection). -/
module

public import proofs.«01_k».proof.Proof.Gen.Kernel5Ideal.Value
public import Idealize.ShloMosaic.Lib.Pipeline.Value
public import proofs.«01_k».proof.Proof.ProjRow

@[expose] public section

set_option maxRecDepth 16384

noncomputable section

namespace Cert.Proof.Proj5

open Cert.Proof.Proj Cert.Kernel5Ideal Idealize.ShloMosaic Idealize.ShloMosaic.TcCoe Idealize.SL.Sem

/-- Five pieces laid side by side along one axis, read at a place. -/
theorem cat_rows (x0 : S4x8192x2048.Idx → EReal) (x1 : S4x3072x2048.Idx → EReal) (x2 : S4x4608x2048.Idx → EReal) (x3 : S4x16x2048.Idx → EReal) (x4 : S4x240x2048.Idx → EReal)
    (h : Shape.Concatenates [S4x8192x2048, S4x3072x2048, S4x4608x2048, S4x16x2048, S4x240x2048] S4x16128x2048 1) (l : Fin 4) (j : Fin 16128) (k : Fin 2048) :
    concatenate S4x16128x2048 1 [⟨S4x8192x2048, x0⟩, ⟨S4x3072x2048, x1⟩, ⟨S4x4608x2048, x2⟩, ⟨S4x16x2048, x3⟩, ⟨S4x240x2048, x4⟩] h (ix3 l j k)
      = if h0 : j.val < 8192 then x0 (ix3 l ⟨j.val - 0, by omega⟩ k) else if h1 : j.val < 11264 then x1 (ix3 l ⟨j.val - 8192, by omega⟩ k) else if h2 : j.val < 15872 then x2 (ix3 l ⟨j.val - 11264, by omega⟩ k) else if h3 : j.val < 15888 then x3 (ix3 l ⟨j.val - 15872, by omega⟩ k) else x4 (ix3 l ⟨j.val - 15888, by omega⟩ k) := by
  have hj := j.isLt
  by_cases h0 : j.val < 8192
  · rw [dif_pos h0]
    refine concatenate_apply_piece 1 [⟨S4x8192x2048, x0⟩, ⟨S4x3072x2048, x1⟩, ⟨S4x4608x2048, x2⟩, ⟨S4x16x2048, x3⟩, ⟨S4x240x2048, x4⟩] h (ix3 l j k) 0 (by show _ < 5; decide) S4x8192x2048 x0 rfl rfl 0 rfl (ix3 l ⟨j.val - 0, by omega⟩ k : S4x8192x2048.Idx) (fun a ha => ?_) ?_
    · match a, ha with
      | ⟨0, _⟩, _ => rfl
      | ⟨1, _⟩, ha => exact absurd rfl ha
      | ⟨2, _⟩, _ => rfl
    · show 0 + (j.val - 0) = j.val; omega
  by_cases h1 : j.val < 11264
  · rw [dif_neg h0, dif_pos h1]
    refine concatenate_apply_piece 1 [⟨S4x8192x2048, x0⟩, ⟨S4x3072x2048, x1⟩, ⟨S4x4608x2048, x2⟩, ⟨S4x16x2048, x3⟩, ⟨S4x240x2048, x4⟩] h (ix3 l j k) 1 (by show _ < 5; decide) S4x3072x2048 x1 rfl rfl 8192 rfl (ix3 l ⟨j.val - 8192, by omega⟩ k : S4x3072x2048.Idx) (fun a ha => ?_) ?_
    · match a, ha with
      | ⟨0, _⟩, _ => rfl
      | ⟨1, _⟩, ha => exact absurd rfl ha
      | ⟨2, _⟩, _ => rfl
    · show 8192 + (j.val - 8192) = j.val; omega
  by_cases h2 : j.val < 15872
  · rw [dif_neg h0, dif_neg h1, dif_pos h2]
    refine concatenate_apply_piece 1 [⟨S4x8192x2048, x0⟩, ⟨S4x3072x2048, x1⟩, ⟨S4x4608x2048, x2⟩, ⟨S4x16x2048, x3⟩, ⟨S4x240x2048, x4⟩] h (ix3 l j k) 2 (by show _ < 5; decide) S4x4608x2048 x2 rfl rfl 11264 rfl (ix3 l ⟨j.val - 11264, by omega⟩ k : S4x4608x2048.Idx) (fun a ha => ?_) ?_
    · match a, ha with
      | ⟨0, _⟩, _ => rfl
      | ⟨1, _⟩, ha => exact absurd rfl ha
      | ⟨2, _⟩, _ => rfl
    · show 11264 + (j.val - 11264) = j.val; omega
  by_cases h3 : j.val < 15888
  · rw [dif_neg h0, dif_neg h1, dif_neg h2, dif_pos h3]
    refine concatenate_apply_piece 1 [⟨S4x8192x2048, x0⟩, ⟨S4x3072x2048, x1⟩, ⟨S4x4608x2048, x2⟩, ⟨S4x16x2048, x3⟩, ⟨S4x240x2048, x4⟩] h (ix3 l j k) 3 (by show _ < 5; decide) S4x16x2048 x3 rfl rfl 15872 rfl (ix3 l ⟨j.val - 15872, by omega⟩ k : S4x16x2048.Idx) (fun a ha => ?_) ?_
    · match a, ha with
      | ⟨0, _⟩, _ => rfl
      | ⟨1, _⟩, ha => exact absurd rfl ha
      | ⟨2, _⟩, _ => rfl
    · show 15872 + (j.val - 15872) = j.val; omega
  rw [dif_neg h0, dif_neg h1, dif_neg h2, dif_neg h3]
  refine concatenate_apply_piece 1 [⟨S4x8192x2048, x0⟩, ⟨S4x3072x2048, x1⟩, ⟨S4x4608x2048, x2⟩, ⟨S4x16x2048, x3⟩, ⟨S4x240x2048, x4⟩] h (ix3 l j k) 4 (by show _ < 5; decide) S4x240x2048 x4 rfl rfl 15888 rfl (ix3 l ⟨j.val - 15888, by omega⟩ k : S4x240x2048.Idx) (fun a ha => ?_) ?_
  · match a, ha with
    | ⟨0, _⟩, _ => rfl
    | ⟨1, _⟩, ha => exact absurd rfl ha
    | ⟨2, _⟩, _ => rfl
  · show 15888 + (j.val - 15888) = j.val; omega

end Cert.Proof.Proj5

end
-- ==== Proof.Proj5Kernel.lean ====
/- Hand-written, untrusted: the context projection kernel's result array as a function of the argument arrays: the scratch holds
   the normalised row of the current block of rows, and every output block is that row against a block of packed columns. -/
module

public import proofs.«01_k».proof.Proof.Proj5Block
public import proofs.«01_k».proof.Proof.Proj5Cat

@[expose] public section

set_option maxRecDepth 16384

noncomputable section

namespace Cert.Proof.Proj5

open Cert.Proof.Proj Cert.Kernel5Ideal Cert.Kernel5Ideal.Gen Cert.Kernel5Ideal.Value Idealize.ShloMosaic Idealize.ShloMosaic.TcCoe Idealize.SL.Sem

/-- The normalised and modulated row `R` of the flat sequence. -/
def hAt (x : Vec Ideal S4x256x2048 .f32) (md : Vec Ideal S1x3x2048 .f32) (ng : Vec Ideal S4x2048 .f32) (R : Fin 1024)
    (e : Fin 2048) : EReal :=
  hrow (fun e => x (ix3 ⟨R.val / 256, by omega⟩ ⟨R.val % 256, by omega⟩ e)) (fun e => ng (ix2 3 e))
    (fun e => md (ix3 0 1 e)) (fun e => md (ix3 0 0 e)) e

/-- The packed projection: every row against every packed column. -/
def G (x : Vec Ideal S4x256x2048 .f32) (md : Vec Ideal S1x3x2048 .f32) (ng : Vec Ideal S4x2048 .f32)
    (w : Vec Ideal S4x2048x15888 .f32) : Vec Ideal S1024x16128 .f32 :=
  fun i => prow (hAt x md ng (i 0)) (fun k n => w (ix3 3 k n)) (i 1)

variable (m : (ℓ : Loc nD τ sig) → Buf (Elt Ideal) ℓ) (ρ : Dev nD → PrngReg)

theorem ix_0 : ∀ t : Fin cfg0.N, win0_0.index t 0 = t.val / 9 ∧ win0_0.index t 1 = 0 := (by decide +kernel : ∀ t : Fin grid0.N, _)
theorem ix_1 : ∀ t : Fin cfg0.N, win0_1.index t 0 = 0 ∧ win0_1.index t 1 = 0 ∧ win0_1.index t 2 = 0 :=
  (by decide +kernel : ∀ t : Fin grid0.N, _)
theorem ix_2 : ∀ t : Fin cfg0.N, win0_2.index t 0 = 0 ∧ win0_2.index t 1 = 0 := (by decide +kernel : ∀ t : Fin grid0.N, _)
theorem ix_3 : ∀ t : Fin cfg0.N, win0_3.index t 0 = 3 ∧ win0_3.index t 1 = t.val % 9 ∧ win0_3.index t 2 = 0 :=
  (by decide +kernel : ∀ t : Fin grid0.N, _)
theorem ix_4 : ∀ t : Fin cfg0.N, win0_4.index t 0 = t.val / 9 ∧ win0_4.index t 1 = t.val % 9 := (by decide +kernel : ∀ t : Fin grid0.N, _)

theorem t_lt (t : Fin cfg0.N) : t.val < 9 := t.isLt

/-- The row of the flat sequence that row `r` of the block of rows at position `n` is. -/
def rowOf (n : Nat) (hn : n < 9) (r : Fin 1024) : Fin 1024 := ⟨n / 9 * 1024 + r.val, by omega⟩

/-- The packed column that column `j` of point `t`'s block is. -/
def colOf (t : Fin cfg0.N) (j : Fin 1792) : Fin 16128 := ⟨t.val % 9 * 1792 + j.val, by omega⟩

/-! ## The host's arrays -/

theorem V_v10 (c : Dev nD) (l : Fin 4) (j : Fin 16128) (k : Fin 2048) :
    (V m c main_v10 (ix3 l j k) : EReal) = packed (fun n => m ((c : Thread nD τ).loc main_arg3) (ix3 l k n)) j := by
  show StableHlo.after hostOps0 (fun b => m (c, b)) main_v10 (ix3 l j k) = _
  rw [hostOps0]; after_results_simp
  refine (cat_rows _ _ _ _ _ _ l j k).trans ?_
  unfold packed
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  refine dite_congr rfl (fun _ => ?_) (fun _ => ?_)
  · simp only [Matrix.cons_val]
    after_results_simp
    pointwise
  simp only [Matrix.cons_val]
  after_results_simp
  pointwise

theorem V_v11 (c : Dev nD) (R : Fin 1024) (e : Fin 2048) : (V m c main_v11 (ix2 R e) : EReal)
    = m ((c : Thread nD τ).loc main_arg0) (ix3 ⟨R.val / 256, by omega⟩ ⟨R.val % 256, by omega⟩ e) := by
  show StableHlo.after hostOps0 (fun b => m (c, b)) main_v11 (ix2 R e) = _
  rw [hostOps0]; after_results_simp
  pointwise
theorem V_v14 (c : Dev nD) (z : Fin 1) (e : Fin 2048) : (V m c main_v14 (ix2 z e) : EReal) = m ((c : Thread nD τ).loc main_arg2) (ix2 3 e) := by
  show StableHlo.after hostOps0 (fun b => m (c, b)) main_v14 (ix2 z e) = _
  rw [hostOps0]; after_results_simp
  pointwise

/-! ## The input blocks -/

theorem blk0 (c : Dev nD) (t : Fin cfg0.N) (r : Fin 1024) (e : Fin 2048) :
    (iblk m c 0 t (ix2 r e : S1024x2048.Idx) : EReal) = m ((c : Thread nD τ).loc main_arg0)
      (ix3 ⟨(rowOf t.val t.isLt r).val / 256, by have := (rowOf t.val t.isLt r).isLt; omega⟩ ⟨(rowOf t.val t.isLt r).val % 256, by omega⟩ e) := by
  obtain ⟨e0, e1⟩ := ix_0 t
  rw [← V_v11 m c]
  refine congrArg (V m c main_v11) (funext fun a => Fin.ext ?_)
  match a with
  | ⟨0, _⟩ => show win0_0.index t 0 * 1024 + 1 * r.val = t.val / 9 * 1024 + r.val; omega
  | ⟨1, _⟩ => show win0_0.index t 1 * 2048 + 1 * e.val = e.val; omega

theorem blk1 (c : Dev nD) (t : Fin cfg0.N) (n : Fin 3) (e : Fin 2048) :
    (iblk m c 1 t (ix3 0 n e : S1x3x2048.Idx) : EReal) = m ((c : Thread nD τ).loc main_arg1) (ix3 0 n e) := by
  obtain ⟨e0, e1, e2⟩ := ix_1 t
  rw [← V_main_arg1 m c]
  refine congrArg (V m c main_arg1) (funext fun a => Fin.ext ?_)
  match a with
  | ⟨0, _⟩ => show win0_1.index t 0 * 1 + 1 * 0 = 0; omega
  | ⟨1, _⟩ => show win0_1.index t 1 * 3 + 1 * n.val = n.val; omega
  | ⟨2, _⟩ => show win0_1.index t 2 * 2048 + 1 * e.val = e.val; omega

theorem blk2 (c : Dev nD) (t : Fin cfg0.N) (e : Fin 2048) :
    (iblk m c 2 t (ix2 0 e : S1x2048.Idx) : EReal) = m ((c : Thread nD τ).loc main_arg2) (ix2 3 e) := by
  obtain ⟨e0, e1⟩ := ix_2 t
  rw [← V_v14 m c 0]
  refine congrArg (V m c main_v14) (funext fun a => Fin.ext ?_)
  match a with
  | ⟨0, _⟩ => show win0_2.index t 0 * 1 + 1 * 0 = 0; omega
  | ⟨1, _⟩ => show win0_2.index t 1 * 2048 + 1 * e.val = e.val; omega

theorem blk3 (c : Dev nD) (t : Fin cfg0.N) (j : Fin 1792) (k : Fin 2048) :
    (iblk m c 3 t (ix3 0 j k : S1x1792x2048.Idx) : EReal)
      = packed (fun n => m ((c : Thread nD τ).loc main_arg3) (ix3 3 k n)) (colOf t j) := by
  obtain ⟨e0, e1, e2⟩ := ix_3 t
  rw [← V_v10 m c]
  refine congrArg (V m c main_v10) (funext fun a => Fin.ext ?_)
  match a with
  | ⟨0, _⟩ => show win0_3.index t 0 * 1 + 1 * 0 = 3; omega
  | ⟨1, _⟩ => show win0_3.index t 1 * 1792 + 1 * j.val = t.val % 9 * 1792 + j.val; omega
  | ⟨2, _⟩ => show win0_3.index t 2 * 2048 + 1 * k.val = k.val; omega

/-! ## The scratch and the result array -/

/-- The normalised row of the arrays as launched. -/
abbrev hm (c : Dev nD) : Fin 1024 → Fin 2048 → EReal :=
  hAt (m ((c : Thread nD τ).loc main_arg0)) (m ((c : Thread nD τ).loc main_arg1)) (m ((c : Thread nD τ).loc main_arg2))

/-- The row the body normalises at a point is the row of its block of rows. -/
theorem row_eq (c : Dev nD) (t : Fin cfg0.N) (r : Fin 1024) (k : Fin 2048) :
    hrow (fun e => iblk m c 0 t (ix2 r e : S1024x2048.Idx)) (fun e => iblk m c 2 t (ix2 0 e : S1x2048.Idx))
      (fun e => iblk m c 1 t (ix3 0 1 e : S1x3x2048.Idx)) (fun e => iblk m c 1 t (ix3 0 0 e : S1x3x2048.Idx)) k
      = hm m c (rowOf t.val t.isLt r) k := by
  simp only [blk0, blk1 m c t, blk2]
  rfl

theorem scratchA (c : Dev nD) (t : Fin cfg0.N) (h0 : t.val % 9 = 0) (r : Fin 1024) (k : Fin 2048) :
    ((outsAt0 m c t.val t.isLt).2 (ix2 r k) : EReal) = hm m c (rowOf t.val t.isLt r) k := by
  rw [outsAt0_A m c t h0 (by have := t_lt t; omega)]
  dsimp only
  exact (soutA_apply c _ _ _ _ _ _ _ _ _ _ _ _ _ _ _ (iblk m c 0 t) (iblk m c 1 t) (iblk m c 2 t) (iblk m c 3 t) r k).trans (row_eq m c t r k)

theorem scratchB (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0 (by omega)]
  rfl

/-- After every point the scratch holds the rows of the current block of rows. -/
theorem scratch (c : Dev nD) : ∀ (n : Nat) (hn : n < cfg0.N) (r : Fin 1024) (k : Fin 2048),
    ((outsAt0 m c n hn).2 (ix2 r k) : EReal) = hm m c (rowOf n hn r) k := by
  intro n
  induction n with
  | zero => exact fun hn r k => scratchA m c ⟨0, hn⟩ rfl r k
  | succ n ih =>
    intro hn r k
    by_cases h0 : (n + 1) % 9 = 0
    · exact scratchA m c ⟨n + 1, hn⟩ h0 r k
    · have hr : rowOf n (Nat.lt_of_succ_lt hn) r = rowOf (n + 1) hn r :=
        Fin.ext (by show n / 9 * 1024 + r.val = (n + 1) / 9 * 1024 + r.val; omega)
      exact (congrFun (scratchB m c ⟨n + 1, hn⟩ h0) _).trans ((ih (Nat.lt_of_succ_lt hn) r k).trans (by rw [hr]))

/-- The result array's function at the argument arrays as launched. -/
abbrev Gm (c : Dev nD) : Vec Ideal S1024x16128 .f32 :=
  G (m ((c : Thread nD τ).loc main_arg0)) (m ((c : Thread nD τ).loc main_arg1)) (m ((c : Thread nD τ).loc main_arg2))
    (m ((c : Thread nD τ).loc main_arg3))

theorem emb4 (t : Fin cfg0.N) (r : Fin 1024) (j : Fin 1792) :
    ((cfg0.win 4).blk t).view.emb (ix2 r j : S1024x1792.Idx) = (ix2 (rowOf t.val t.isLt r) (colOf t j) : S1024x16128.Idx) := by
  obtain ⟨e0, e1⟩ := ix_4 t
  funext a; apply Fin.ext
  match a with
  | ⟨0, _⟩ => show win0_4.index t 0 * 1024 + 1 * r.val = t.val / 9 * 1024 + r.val; omega
  | ⟨1, _⟩ => show win0_4.index t 1 * 1792 + 1 * j.val = t.val % 9 * 1792 + j.val; omega

theorem flushed_eq' (c : Dev nD) (t : Fin cfg0.N) :
    (dats m 0 c).flushed 4 t = ((cfg0.win 4).blk t).view.read (Elt Ideal) (Gm m c) := by
  have key : ∀ (r : Fin 1024) (j : Fin 1792), ((dats m 0 c).flushed 4 t (ix2 r j : S1024x1792.Idx) : EReal)
      = ∑ k : Fin 2048, hm m c (rowOf t.val t.isLt r) k * packed (fun n => m ((c : Thread nD τ).loc main_arg3) (ix3 3 k n)) (colOf t j) := by
    intro r j
    by_cases h0 : t.val % 9 = 0
    · rw [flushed4_A m c t h0 (by have := t_lt t; omega)]
      refine (outA_apply c _ _ _ _ _ _ _ _ _ _ _ _ _ _ _ (iblk m c 0 t) (iblk m c 1 t) (iblk m c 2 t) (iblk m c 3 t) r j).trans ?_
      exact Finset.sum_congr rfl fun k _ => congrArg₂ (· * ·) (row_eq m c t r k) (blk3 m c t j k)
    · rw [flushed4_B m c t h0 (by omega)]
      refine (outB_apply c _ _ _ _ _ _ _ _ _ _ _ _ _ _ _ (iblk m c 0 t) (iblk m c 1 t) (iblk m c 2 t) (iblk m c 3 t) _ r j).trans ?_
      refine Finset.sum_congr rfl fun k _ => congrArg₂ (· * ·) ((scratch m c _ _ r k).trans ?_) (blk3 m c t j k)
      have ht := t_lt t
      have hr : rowOf (t.val - 1) (by omega) r = rowOf t.val t.isLt r :=
        Fin.ext (by show (t.val - 1) / 9 * 1024 + r.val = t.val / 9 * 1024 + r.val; omega)
      rw [hr]
  funext i
  obtain ⟨r, j, rfl⟩ : ∃ (r : Fin 1024) (j : Fin 1792), i = (ix2 r j : S1024x1792.Idx) := ⟨i 0, i 1, eq_ix2 i⟩
  refine (key r j).trans ?_
  show _ = Gm m c (((cfg0.win 4).blk t).view.emb (ix2 r j : S1024x1792.Idx))
  rw [emb4]
  rfl

/-- Every place of the result array is in some point's block. -/
theorem covered (i : S1024x16128.Idx) : ∃ t : Fin cfg0.N, (cfg0.win 4).flush t = true ∧ i ∈ ((cfg0.win 4).blk t).view.set := by
  have h0 : (i 0).val < 1024 := (i 0).isLt
  have h1 : (i 1).val < 16128 := (i 1).isLt
  have ht : (i 0).val / 1024 * 9 + (i 1).val / 1792 < 9 := by omega
  refine ⟨⟨(i 0).val / 1024 * 9 + (i 1).val / 1792, ht⟩, flush0_4 _, ?_⟩
  have he : ((cfg0.win 4).blk ⟨(i 0).val / 1024 * 9 + (i 1).val / 1792, ht⟩).view.emb
      (ix2 ⟨(i 0).val % 1024, by omega⟩ ⟨(i 1).val % 1792, by omega⟩ : S1024x1792.Idx) = i := by
    refine (emb4 ⟨(i 0).val / 1024 * 9 + (i 1).val / 1792, ht⟩ ⟨(i 0).val % 1024, by omega⟩ ⟨(i 1).val % 1792, by omega⟩).trans ?_
    funext a; apply Fin.ext
    match a with
    | ⟨0, _⟩ => show ((i 0).val / 1024 * 9 + (i 1).val / 1792) / 9 * 1024 + (i 0).val % 1024 = (i 0).val; omega
    | ⟨1, _⟩ => show ((i 0).val / 1024 * 9 + (i 1).val / 1792) % 9 * 1792 + (i 1).val % 1792 = (i 1).val; omega
  exact Eq.mp (congrArg (fun z => z ∈ ((cfg0.win 4).blk ⟨(i 0).val / 1024 * 9 + (i 1).val / 1792, ht⟩).view.set) he) (View.emb_mem_set _ _)

theorem final (c : Dev nD) : (dats m 0 c).arrAt 4 cfg0.N = Gm m c :=
  (dats m 0 c).arrAt_eq_of_cover 4 (Gm m c) (fun t _ => flushed_eq' m c t) covered

end Cert.Proof.Proj5

end
-- ==== Proof.Proj5RefCat.lean ====
/- Hand-written, untrusted: five pieces laid side by side along one axis, read at a place (the context reference's columns). -/
module

public import proofs.«01_k».proof.Proof.Gen.Reference5Ideal.Read
public import Idealize.ShloMosaic.Lib.Pipeline.Value
public import proofs.«01_k».proof.Proof.ProjRow

@[expose] public section

set_option maxRecDepth 16384

noncomputable section

namespace Cert.Proof.Proj5Ref

open Cert.Reference5Ideal Idealize.ShloMosaic Idealize.ShloMosaic.TcCoe Idealize.SL.Sem

/-- Five pieces laid side by side along one axis, read at a place. -/
theorem cat_cols (x0 : S4x256x8192.Idx → EReal) (x1 : S4x256x3072.Idx → EReal) (x2 : S4x256x4608.Idx → EReal) (x3 : S4x256x16.Idx → EReal) (x4 : S4x256x240.Idx → EReal)
    (h : Shape.Concatenates [S4x256x8192, S4x256x3072, S4x256x4608, S4x256x16, S4x256x240] S4x256x16128 2) (b : Fin 4) (s : Fin 256) (j : Fin 16128) :
    concatenate S4x256x16128 2 [⟨S4x256x8192, x0⟩, ⟨S4x256x3072, x1⟩, ⟨S4x256x4608, x2⟩, ⟨S4x256x16, x3⟩, ⟨S4x256x240, x4⟩] h (ix3 b s j)
      = if h0 : j.val < 8192 then x0 (ix3 b s ⟨j.val - 0, by omega⟩) else if h1 : j.val < 11264 then x1 (ix3 b s ⟨j.val - 8192, by omega⟩) else if h2 : j.val < 15872 then x2 (ix3 b s ⟨j.val - 11264, by omega⟩) else if h3 : j.val < 15888 then x3 (ix3 b s ⟨j.val - 15872, by omega⟩) else x4 (ix3 b s ⟨j.val - 15888, by omega⟩) := by
  have hj := j.isLt
  by_cases h0 : j.val < 8192
  · rw [dif_pos h0]
    refine concatenate_apply_piece 2 [⟨S4x256x8192, x0⟩, ⟨S4x256x3072, x1⟩, ⟨S4x256x4608, x2⟩, ⟨S4x256x16, x3⟩, ⟨S4x256x240, x4⟩] h (ix3 b s j) 0 (by show _ < 5; decide) S4x256x8192 x0 rfl rfl 0 rfl (ix3 b s ⟨j.val - 0, by omega⟩ : S4x256x8192.Idx) (fun a ha => ?_) ?_
    · match a, ha with
      | ⟨0, _⟩, _ => rfl
      | ⟨1, _⟩, _ => rfl
      | ⟨2, _⟩, ha => exact absurd rfl ha
    · show 0 + (j.val - 0) = j.val; omega
  by_cases h1 : j.val < 11264
  · rw [dif_neg h0, dif_pos h1]
    refine concatenate_apply_piece 2 [⟨S4x256x8192, x0⟩, ⟨S4x256x3072, x1⟩, ⟨S4x256x4608, x2⟩, ⟨S4x256x16, x3⟩, ⟨S4x256x240, x4⟩] h (ix3 b s j) 1 (by show _ < 5; decide) S4x256x3072 x1 rfl rfl 8192 rfl (ix3 b s ⟨j.val - 8192, by omega⟩ : S4x256x3072.Idx) (fun a ha => ?_) ?_
    · match a, ha with
      | ⟨0, _⟩, _ => rfl
      | ⟨1, _⟩, _ => rfl
      | ⟨2, _⟩, ha => exact absurd rfl ha
    · show 8192 + (j.val - 8192) = j.val; omega
  by_cases h2 : j.val < 15872
  · rw [dif_neg h0, dif_neg h1, dif_pos h2]
    refine concatenate_apply_piece 2 [⟨S4x256x8192, x0⟩, ⟨S4x256x3072, x1⟩, ⟨S4x256x4608, x2⟩, ⟨S4x256x16, x3⟩, ⟨S4x256x240, x4⟩] h (ix3 b s j) 2 (by show _ < 5; decide) S4x256x4608 x2 rfl rfl 11264 rfl (ix3 b s ⟨j.val - 11264, by omega⟩ : S4x256x4608.Idx) (fun a ha => ?_) ?_
    · match a, ha with
      | ⟨0, _⟩, _ => rfl
      | ⟨1, _⟩, _ => rfl
      | ⟨2, _⟩, ha => exact absurd rfl ha
    · show 11264 + (j.val - 11264) = j.val; omega
  by_cases h3 : j.val < 15888
  · rw [dif_neg h0, dif_neg h1, dif_neg h2, dif_pos h3]
    refine concatenate_apply_piece 2 [⟨S4x256x8192, x0⟩, ⟨S4x256x3072, x1⟩, ⟨S4x256x4608, x2⟩, ⟨S4x256x16, x3⟩, ⟨S4x256x240, x4⟩] h (ix3 b s j) 3 (by show _ < 5; decide) S4x256x16 x3 rfl rfl 15872 rfl (ix3 b s ⟨j.val - 15872, by omega⟩ : S4x256x16.Idx) (fun a ha => ?_) ?_
    · match a, ha with
      | ⟨0, _⟩, _ => rfl
      | ⟨1, _⟩, _ => rfl
      | ⟨2, _⟩, ha => exact absurd rfl ha
    · show 15872 + (j.val - 15872) = j.val; omega
  rw [dif_neg h0, dif_neg h1, dif_neg h2, dif_neg h3]
  refine concatenate_apply_piece 2 [⟨S4x256x8192, x0⟩, ⟨S4x256x3072, x1⟩, ⟨S4x256x4608, x2⟩, ⟨S4x256x16, x3⟩, ⟨S4x256x240, x4⟩] h (ix3 b s j) 4 (by show _ < 5; decide) S4x256x240 x4 rfl rfl 15888 rfl (ix3 b s ⟨j.val - 15888, by omega⟩ : S4x256x240.Idx) (fun a ha => ?_) ?_
  · match a, ha with
    | ⟨0, _⟩, _ => rfl
    | ⟨1, _⟩, _ => rfl
    | ⟨2, _⟩, ha => exact absurd rfl ha
  · show 15888 + (j.val - 15888) = j.val; omega

end Cert.Proof.Proj5Ref

end
-- ==== Proof.Proj5Ref.lean ====
/- Hand-written, untrusted: the context projection reference's result array is the same function of the argument arrays. -/
module

public import proofs.«01_k».proof.Proof.Proj5RefCat

@[expose] public section

set_option maxRecDepth 16384

noncomputable section

namespace Cert.Proof.Proj5Ref

open Cert.Reference5Ideal Cert.Reference5Ideal.Value Cert.Reference5Ideal.Read Idealize.ShloMosaic Idealize.ShloMosaic.TcCoe Idealize.SL.Sem Cert.Proof.Proj

variable (x : Vec Ideal S4x256x2048 .f32) (md : Vec Ideal S1x3x2048 .f32) (ng : Vec Ideal S4x2048 .f32)
    (w : Vec Ideal S4x2048x15888 .f32)

theorem row (b : Fin 4) (s : Fin 256) (e : Fin 2048) :
    (val_main_v26 (F := Ideal) x md ng (ix3 b s e) : EReal)
      = hrow (fun e => x (ix3 b s e)) (fun e => ng (ix2 3 e)) (fun e => md (ix3 0 1 e)) (fun e => md (ix3 0 0 e)) e := by
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_cst_2, val_main_v21, val_main_v22, val_main_v23, val_main_v24, val_main_v25, val_main_v26, hrow]

theorem weight (k : Fin 2048) (n : Fin 15888) :
    (val_main_v28 (F := Ideal) w (ix2 k n) : EReal) = w (ix3 3 k n) := by
  pointwise [val_main_v28, val_main_v27]

theorem product (b : Fin 4) (s : Fin 256) (n : Fin 15888) :
    (val_main_v29 (F := Ideal) x md ng w (ix3 b s n) : EReal)
      = ∑ k : Fin 2048, hrow (fun e => x (ix3 b s e)) (fun e => ng (ix2 3 e)) (fun e => md (ix3 0 1 e)) (fun e => md (ix3 0 0 e)) k
          * w (ix3 3 k n) := by
  have h : (val_main_v29 (F := Ideal) x md ng w (ix3 b s n) : EReal)
      = ∑ k : Fin 2048, val_main_v26 (F := Ideal) x md ng (ix3 b s k) * val_main_v28 (F := Ideal) w (ix2 k n) := by
    unfold val_main_v29
    generalize val_main_v26 (F := Ideal) x md ng = g
    generalize val_main_v28 (F := Ideal) w = g'
    pointwise
  rw [h]
  exact Finset.sum_congr rfl fun k _ => congrArg₂ (· * ·) (row x md ng b s k) (weight w k n)

theorem packed_product (b : Fin 4) (s : Fin 256) (j : Fin 16128) :
    (val_main_v35 (F := Ideal) x md ng w (ix3 b s j) : EReal)
      = packed (fun n => val_main_v29 (F := Ideal) x md ng w (ix3 b s n)) j := by
  unfold val_main_v35
  refine (cat_cols _ _ _ _ _ _ b s j).trans ?_
  unfold packed val_main_v30 val_main_v31 val_main_v32 val_main_v33
  generalize val_main_v29 (F := Ideal) x md ng w = g
  refine dite_congr rfl (fun _ => ?_) (fun _ => ?_)
  · pointwise
  refine dite_congr rfl (fun _ => ?_) (fun _ => ?_)
  · pointwise
  refine dite_congr rfl (fun _ => ?_) (fun _ => ?_)
  · pointwise
  refine dite_congr rfl (fun _ => ?_) (fun _ => ?_)
  · pointwise
  pointwise [val_main_v34, val_main_cst_3]

theorem result (R : Fin 1024) (j : Fin 16128) :
    (val_main_v36 (F := Ideal) x md ng w (ix2 R j) : EReal)
      = prow (fun e => hrow (fun e => x (ix3 ⟨R.val / 256, by omega⟩ ⟨R.val % 256, by omega⟩ e)) (fun e => ng (ix2 3 e))
          (fun e => md (ix3 0 1 e)) (fun e => md (ix3 0 0 e)) e)
          (fun k n => w (ix3 3 k n)) j := by
  have h : (val_main_v36 (F := Ideal) x md ng w (ix2 R j) : EReal)
      = val_main_v35 (F := Ideal) x md ng w (ix3 ⟨R.val / 256, by omega⟩ ⟨R.val % 256, by omega⟩ j) := by
    unfold val_main_v36
    generalize val_main_v35 (F := Ideal) x md ng w = g
    pointwise
  rw [h, packed_product]
  simp only [product]
  exact packed_sum _ _ _

end Cert.Proof.Proj5Ref

end
-- ==== Proof.Proj5.lean ====
/- Hand-written, untrusted: the context projection's value claim: the kernel and its reference leave the same result array. -/
module

public import proofs.«01_k».proof.Defs
public import proofs.«01_k».proof.Proof.Proj5Kernel
public import proofs.«01_k».proof.Proof.Proj5Ref
public import proofs.«01_k».proof.Proof.Gen.Reference5Ideal.Run

@[expose] public section

set_option maxRecDepth 16384

noncomputable section

namespace Cert.Proof.Proj5

open Idealize.ShloMosaic Idealize.ShloMosaic.TcCoe Idealize.SL.Sem

theorem ref_eq (x : Vec Ideal Cert.Kernel5Ideal.S4x256x2048 .f32) (md : Vec Ideal Cert.Kernel5Ideal.S1x3x2048 .f32)
    (ng : Vec Ideal Cert.Kernel5Ideal.S4x2048 .f32) (w : Vec Ideal Cert.Kernel5Ideal.S4x2048x15888 .f32) :
    Cert.Reference5Ideal.Read.val_main_v36 (F := Ideal) x md ng w = G x md ng w := by
  funext i
  obtain ⟨R, j, rfl⟩ : ∃ (R : Fin 1024) (j : Fin 16128), i = (ix2 R j : Cert.Kernel5Ideal.S1024x16128.Idx) := ⟨i 0, i 1, eq_ix2 i⟩
  exact Proj5Ref.result x md ng w R j

theorem claim : Cert.algebraic_Kernel5Ideal_Reference5Ideal (hKernel5Ideal := Cert.Kernel5Ideal.Gen.facts)
    (hReference5Ideal := Cert.Reference5Ideal.Gen.facts) := by
  intro m g m' g' _ hag
  refine ⟨fun c => Gm m c, (θ_run Cert.Kernel5Ideal.defs _ _).mono (fun r h c => ⟨(h c).1.trans (final m c), (h c).2⟩)
    (Cert.Kernel5Ideal.Value.run_blocks m g), (θ_run Cert.Reference5Ideal.defs _ _).mono (fun r h c => ⟨(h c).1.trans ?_, (h c).2⟩)
    (Cert.Reference5Ideal.Value.run m' g')⟩
  obtain ⟨h0, h1, h2, h3⟩ := hag c
  rw [Cert.Reference5Ideal.Read.val_main_v36_eq, h0, h1, h2, h3]
  exact ref_eq _ _ _ _

end Cert.Proof.Proj5

end
-- ==== Proof.AttnOps.lean ====
/- Hand-written, untrusted: the attention kernel's body as a few operations on blocks: scores of one block of keys, their
   column maxima, the exponentials, their column sums, the weighted values, and the final combination. The body's
   own payloads are these. -/
module

public import proofs.«01_k».proof.Proof.Gen.KernelIdeal.Value

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

/-- The scores of one block of keys against the block of queries, keys down the rows. -/
def scA (q : FVec Ideal S512x128 .bf16) (k : Vec Ideal S1x256x128 .bf16) : FVec Ideal S256x512 .f32 :=
  matmul (φ₁ := .bf16) dot_S256x128_S512x128_S256x512_1_1_0_0_n_n none (shapeCast S256x128 k shapeCasts_S1x256x128_S256x128) q
    (constant S256x512 .f32 0x00000000#32)

/-- The same, as kept in scratch. -/
def stA (q : FVec Ideal S512x128 .bf16) (k : Vec Ideal S1x256x128 .bf16) : FVec Ideal S1x1x256x512 .f32 :=
  shapeCast S1x1x256x512 (scA q k) shapeCasts_S256x512_S1x1x256x512

/-- The column maxima of a block of scores. -/
def bmA (s : FVec Ideal S256x512 .f32) : FVec Ideal S1x512 .f32 :=
  shapeCast S1x512 (multiReduction .maximumf [0] S512 s 0xFF800000#32 reduces_S256x512_S512 (.inl rfl) rfl) shapeCasts_S512_S1x512

/-- Two to the kept scores less the maxima. -/
def exA (M : FVec Ideal S1x512 .f32) (s : Vec Ideal S1x1x256x512 .f32) : FVec Ideal S256x512 .f32 :=
  exp2 (subf (shapeCast S256x512 s shapeCasts_S1x1x256x512_S256x512) (broadcastTo S256x512 M broadcasts_S1x512_S256x512))

/-- The column sums. -/
def lsA (e : FVec Ideal S256x512 .f32) : FVec Ideal S1x512 .f32 :=
  shapeCast S1x512 (multiReduction .add [0] S512 e 0x00000000#32 reduces_S256x512_S512 (.inl rfl) rfl) shapeCasts_S512_S1x512

/-- One block's values (transposed) times its weights. -/
def avA (v : Vec Ideal S1x128x256 .bf16) (e : FVec Ideal S256x512 .f32) : FVec Ideal S128x512 .f32 :=
  matmul (φ₁ := .bf16) dot_S128x256_S256x512_S128x512_1_0_0_1_n_n none (shapeCast S128x256 v shapeCasts_S1x128x256_S128x256)
    (truncf .bf16 e bitsLt_bf16_f32) (constant S128x512 .f32 0x00000000#32)

/-- The maximum of a run of blocks. -/
def mChain : (n : Nat) → (Fin (n + 1) → FVec Ideal S1x512 .f32) → FVec Ideal S1x512 .f32
  | 0, f => f 0
  | n + 1, f => maximumf (mChain n fun i => f i.castSucc) (f (Fin.last (n + 1)))

/-- The sum of a run of blocks onto a start, from the left. -/
def sChain {s : Shape} (z : FVec Ideal s .f32) : (n : Nat) → (Fin n → FVec Ideal s .f32) → FVec Ideal s .f32
  | 0, _ => z
  | n + 1, f => addf (sChain z n fun i => f i.castSucc) (f (Fin.last n))

/-- The maxima over all seventeen blocks. -/
def mxA (q : FVec Ideal S512x128 .bf16) (K : Fin 17 → Vec Ideal S1x256x128 .bf16) : FVec Ideal S1x512 .f32 :=
  mChain 16 fun j => bmA (scA q (K j))

/-- The sums over all seventeen blocks. -/
def lxA (M : FVec Ideal S1x512 .f32) (s : Fin 17 → Vec Ideal S1x1x256x512 .f32) : FVec Ideal S1x512 .f32 :=
  sChain k0_pay52 17 fun j => lsA (exA M (s j))

/-- The weighted values over all seventeen blocks. -/
def axA (M : FVec Ideal S1x512 .f32) (s : Fin 17 → Vec Ideal S1x1x256x512 .f32) (V : Fin 17 → Vec Ideal S1x128x256 .bf16) :
    FVec Ideal S128x512 .f32 :=
  sChain k0_pay54 17 fun j => avA (V j) (exA M (s j))

/-- The two maps' results combined, before the norm. -/
def dfA (l0 : FVec Ideal S1x512 .f32) (a0 : FVec Ideal S128x512 .f32) (l1 : FVec Ideal S1x512 .f32) (a1 : FVec Ideal S128x512 .f32)
    (lam : Ideal .f32) : FVec Ideal S128x512 .f32 :=
  subf (mulf a0 (broadcastTo S128x512 (divf (broadcast S1x512 (Scalar.ofBits (F := Ideal) .f32 0x3F800000#32)) l0) broadcasts_S1x512_S128x512))
    (mulf a1 (broadcastTo S128x512 (mulf (broadcast S1x512 lam) (divf (broadcast S1x512 (Scalar.ofBits (F := Ideal) .f32 0x3F800000#32)) l1)) broadcasts_S1x512_S128x512))

/-- The norm, gain, scale and gate. -/
def fnA (x : FVec Ideal S128x512 .f32) (v803 : Vec Ideal S1x128 .f32) (v809 : Vec Ideal S512x128 .f32) : FVec Ideal S512x128 .bf16 :=
  have v792 : FVec Ideal S512x128 .f32 := transpose S512x128 [1, 0] x transposes_S128x512_p1_0_S512x128
  have v793 : FVec Ideal S512x128 .f32 := mulf v792 v792
  have v794 : FVec Ideal S512 .f32 := multiReduction .add [1] S512 v793 0x00000000#32 reduces_S512x128_S512 (.inl rfl) rfl
  have v795 : FVec Ideal S512x1 .f32 := shapeCast S512x1 v794 shapeCasts_S512_S512x1
  have cst_615 : Ideal .f32 := Scalar.ofBits .f32 0x43000000#32
  have v796 : FVec Ideal S512x1 .f32 := broadcast S512x1 cst_615
  have v797 : FVec Ideal S512x1 .f32 := divf v795 v796
  have cst_616 : Ideal .f32 := Scalar.ofBits .f32 0x358637BD#32
  have v798 : FVec Ideal S512x1 .f32 := broadcast S512x1 cst_616
  have v799 : FVec Ideal S512x1 .f32 := addf v797 v798
  have v800 : FVec Ideal S512x1 .f32 := rsqrt v799
  have v801 : FVec Ideal S512x128 .f32 := broadcastTo S512x128 v800 broadcasts_S512x1_S512x128
  have v802 : FVec Ideal S512x128 .f32 := mulf v792 v801
  have v804 : FVec Ideal S1x128 .f32 := shapeCast S1x128 v803 shapeCasts_S1x128_S1x128
  have v805 : FVec Ideal S512x128 .f32 := broadcastTo S512x128 v804 broadcasts_S1x128_S512x128
  have v806 : FVec Ideal S512x128 .f32 := mulf v802 v805
  have cst_619 : Ideal .f32 := Scalar.ofBits .f32 0x3EE34C57#32
  have v807 : FVec Ideal S512x128 .f32 := broadcast S512x128 cst_619
  have v808 : FVec Ideal S512x128 .f32 := mulf v806 v807
  have v810 : FVec Ideal S512x128 .f32 := logistic v809
  have v811 : FVec Ideal S512x128 .f32 := mulf v809 v810
  have v812 : FVec Ideal S512x128 .f32 := mulf v808 v811
  truncf .bf16 v812 bitsLt_bf16_f32

/-- The block the body writes, from the two masked queries, the kept keys and values, the weight, the gain and the gate. -/
def outA (q0 q1 : FVec Ideal S512x128 .bf16) (K : Fin 17 → Vec Ideal S1x256x128 .bf16) (V : Fin 17 → Vec Ideal S1x128x256 .bf16)
    (lam : Ideal .f32) (g : Vec Ideal S1x128 .f32) (z : Vec Ideal S512x128 .f32) : FVec Ideal S512x128 .bf16 :=
  fnA (dfA (lxA (mxA q0 K) fun j => stA q0 (K j)) (axA (mxA q0 K) (fun j => stA q0 (K j)) V)
    (lxA (mxA q1 K) fun j => stA q1 (K j)) (axA (mxA q1 K) (fun j => stA q1 (K j)) V) lam) g z

section
variable (q0 q1 : FVec Ideal S512x128 .bf16) (M0 M1 : FVec Ideal S1x512 .f32)
  (K : Fin 17 → Vec Ideal S1x256x128 .bf16) (V : Fin 17 → Vec Ideal S1x128x256 .bf16) (s0 s1 : Fin 17 → Vec Ideal S1x1x256x512 .f32)

theorem pay_m0 : (k0_pay97 q0 (k0_pay91 q0 (k0_pay84 q0 (k0_pay77 q0 (k0_pay70 q0 (k0_pay62 q0 (K 0) (K 1) (K 2)) (k0_pay63 (K 3)) (K 4) (K 5)) (k0_pay71 q0 (K 6)) (K 7) (K 8)) (k0_pay78 q0 (K 9)) (K 10) (K 11)) (k0_pay85 q0 (K 12)) (K 13) (K 14)) (k0_pay94 q0 (K 15)) (K 16)) = mxA q0 K := rfl

theorem pay_m1 : (k0_pay173 (k0_pay167 q1 (k0_pay162 q1 (k0_pay152 q1 (k0_pay146 q1 (k0_pay135 q1 (k0_pay129 q1 (k0_pay124 q1 (k0_pay113 q1 (k0_pay109 q1 (k0_pay102 q1 (K 0) (K 1)) (K 2) (K 3) (K 4)) (K 5)) (K 6) (K 7)) (K 8)) (K 9)) (k0_pay141 q1 (K 10)) (K 11)) (K 12)) (k0_pay156 q1 (K 13)) (K 14)) (K 15)) (k0_pay171 q1 (K 16))) = mxA q1 K := rfl

theorem pay_l0 : (k0_pay181 M0 (k0_pay176 M0 (k0_pay169 M0 (k0_pay164 M0 (k0_pay154 M0 (k0_pay148 M0 (k0_pay137 M0 (k0_pay131 M0 (k0_pay120 M0 (k0_pay115 k0_pay52 M0 (s0 0) (s0 1)) (s0 2)) (s0 3) (s0 4)) (s0 5)) (s0 6) (s0 7)) (s0 8)) (s0 9) (s0 10)) (s0 11)) (s0 12) (s0 13)) (k0_pay178 M0 (s0 14)) (s0 15) (s0 16)) = lxA M0 s0 := rfl

theorem pay_a0 : (k0_pay182 M0 (k0_pay177 M0 (k0_pay170 M0 (k0_pay159 M0 (k0_pay155 M0 (k0_pay143 M0 (k0_pay138 M0 (k0_pay126 M0 (k0_pay121 M0 (k0_pay116 k0_pay54 M0 (s0 0) (V 0) (s0 1) (V 1)) (s0 2) (V 2)) (s0 3) (V 3)) (k0_pay132 M0 (s0 4) (V 4)) (s0 5) (V 5)) (s0 6) (V 6)) (k0_pay147 M0 (s0 7)) (k0_pay149 (V 7)) (s0 8) (V 8)) (s0 9) (V 9)) (k0_pay163 M0 (s0 10)) (V 10) (s0 11) (V 11)) (s0 12) (V 12) (s0 13) (V 13)) (k0_pay178 M0 (s0 14)) (V 14) (s0 15) (V 15) (s0 16) (V 16)) = axA M0 s0 V := rfl

/-- The last payload, with the last block of the second map in it. -/
theorem pay_out (l0 : FVec Ideal S1x512 .f32) (a0 : FVec Ideal S128x512 .f32) (lam : Ideal .f32) (g : Vec Ideal S1x128 .f32)
    (z : Vec Ideal S512x128 .f32) :
    k0_pay217 l0 a0 (k0_pay213 M1 (k0_pay210 M1 (k0_pay204 M1 (k0_pay197 M1 (k0_pay194 M1 (k0_pay187 k0_pay53 M1 (s1 0) (s1 1) (s1 2)) (s1 3) (s1 4) (s1 5)) (s1 6) (s1 7)) (k0_pay199 (s1 8)) (k0_pay200 M1) (s1 9) (s1 10)) (s1 11) (s1 12) (s1 13)) (s1 14) (s1 15)) (k0_pay214 M1 (k0_pay208 M1 (k0_pay205 M1 (k0_pay198 M1 (k0_pay192 M1 (k0_pay185 k0_pay55 M1 (s1 0) (V 0) (s1 1) (V 1)) (k0_pay188 (V 2)) (k0_pay189 M1 (s1 2)) (s1 3) (V 3) (s1 4) (V 4)) (k0_pay193 M1 (s1 5)) (V 5) (s1 6) (V 6) (s1 7) (V 7)) (k0_pay199 (s1 8)) (k0_pay200 M1) (V 8) (s1 9) (V 9) (s1 10) (V 10)) (s1 11) (V 11) (s1 12) (V 12)) (k0_pay209 M1 (s1 13)) ((V 13)) (s1 14) (V 14) (s1 15) (V 15)) (k0_pay215 M1 (s1 16)) (k0_pay216 M1 (s1 16)) (V 16) lam g z = fnA (dfA l0 a0 (lxA M1 s1) (axA M1 s1 V) lam) g z := rfl

end

end Cert.Proof.Attn

end
-- ==== Proof.AttnFold.lean ====
/- Hand-written, untrusted: the attention body's payloads over its kept keys, values and scores, as the operations of
   AttnOps. -/
module

public import proofs.«01_k».proof.Proof.AttnOps
public import Idealize.ShloMosaic.Lib.Pipeline.ReadBack
public import Idealize.ShloMosaic.Lib.Pointwise

@[expose] public section

set_option maxRecDepth 65536
set_option maxHeartbeats 4000000

noncomputable section

namespace Cert.Proof.Attn

open Cert.KernelIdeal Cert.KernelIdeal.Gen Cert.KernelIdeal.Value Idealize.ShloMosaic Idealize.ShloMosaic.TcCoe Idealize.SL.Sem

theorem hz : (![0, 0] : Fin 2 → Nat) = fun _ => 0 := funext fun a => by fin_cases a <;> rfl
theorem hz1 : (![0] : Fin 1 → Nat) = fun _ => 0 := funext fun a => by fin_cases a <;> rfl

theorem kInb (j : Fin 17) : ∀ a, (![j.val, 0, 0] : Fin 3 → Nat) a + S1x256x128.size a ≤ S17x256x128.size a := by
  intro a; fin_cases a
  · show j.val + 1 ≤ 17; omega
  · show 0 + 256 ≤ 256; omega
  · show 0 + 128 ≤ 128; omega

theorem vInb (j : Fin 17) : ∀ a, (![j.val, 0, 0] : Fin 3 → Nat) a + S1x128x256.size a ≤ S17x128x256.size a := by
  intro a; fin_cases a
  · show j.val + 1 ≤ 17; omega
  · show 0 + 128 ≤ 128; omega
  · show 0 + 256 ≤ 256; omega

/-- A load of one block of the kept scores does not see a store of another. -/
theorem scSkip {sg : RefSig} {κ : Kind} {sp : Space} (v : View sg κ sp S2x17x256x512 .f32) (m j m' j' : Nat)
    (inb : ∀ a, (![m, j, 0, 0] : Fin 4 → Nat) a + (![1, 1, 256, 512] : Fin 4 → Nat) a ≤ S2x17x256x512.size a)
    (inb' : ∀ a, (![m', j', 0, 0] : Fin 4 → Nat) a + (![1, 1, 256, 512] : Fin 4 → Nat) a ≤ S2x17x256x512.size a)
    (w : (Rect.unit (s := S2x17x256x512) ![m, j, 0, 0] ![1, 1, 256, 512] inb).shape.Idx → Ideal .f32)
    (L : List (View.Piece (Elt Ideal) S2x17x256x512 .f32)) (h : m ≠ m' ∨ j ≠ j') :
    v.readCov (Val := Elt Ideal) (⟨Rect.unit ![m, j, 0, 0] ![1, 1, 256, 512] inb, w⟩ :: L)
        (Rect.unit ![m', j', 0, 0] ![1, 1, 256, 512] inb').toLoadRect
      = v.readCov L (Rect.unit ![m', j', 0, 0] ![1, 1, 256, 512] inb').toLoadRect := by
  have hd : ∃ a : Fin 4, (![1, 1, 256, 512] : Fin 4 → Nat) a = 0 ∨ (![1, 1, 256, 512] : Fin 4 → Nat) a = 0
      ∨ (![m, j, 0, 0] : Fin 4 → Nat) a + 1 * ((![1, 1, 256, 512] : Fin 4 → Nat) a - 1) < (![m', j', 0, 0] : Fin 4 → Nat) a
      ∨ (![m', j', 0, 0] : Fin 4 → Nat) a + 1 * ((![1, 1, 256, 512] : Fin 4 → Nat) a - 1) < (![m, j, 0, 0] : Fin 4 → Nat) a := by
    rcases h with h | h
    · exact ⟨0, .inr (.inr (by show m + 1 * (1 - 1) < m' ∨ m' + 1 * (1 - 1) < m; omega))⟩
    · exact ⟨1, .inr (.inr (by show j + 1 * (1 - 1) < j' ∨ j' + 1 * (1 - 1) < j; omega))⟩
  have hd' : LoadRect.disj (Rect.unit (s := S2x17x256x512) ![m, j, 0, 0] ![1, 1, 256, 512] inb)
      (Rect.unit (s := S2x17x256x512) ![m', j', 0, 0] ![1, 1, 256, 512] inb').toLoadRect = true := by
    unfold LoadRect.disj
    exact decide_eq_true hd
  rw [View.readCov_skip v _ w L _ hd']

/-- Block `j` of the kept keys. -/
def kld (X : Vec Ideal S17x256x128 .bf16) (j : Fin 17) : Vec Ideal S1x256x128 .bf16 :=
  View.ld X (Rect.unit ![j.val, 0, 0] S1x256x128.size (kInb j))

/-- Block `j` of the kept values. -/
def vld (X : Vec Ideal S17x128x256 .bf16) (j : Fin 17) : Vec Ideal S1x128x256 .bf16 :=
  View.ld X (Rect.unit ![j.val, 0, 0] S1x128x256.size (vInb j))

/-- The one place of a one-place array. -/
theorem idx1 (x : Vec Ideal S1 .f32) (a : S1.Idx) : x a = x (ix1 0) :=
  congrArg x (funext fun k => by fin_cases k; exact Subsingleton.elim (α := Fin 1) _ _)

theorem st0 (q : FVec Ideal S512x128 .bf16) (k : Vec Ideal S1x256x128 .bf16) : k0_pay101 q k = stA q k := rfl

theorem st1 (q : FVec Ideal S512x128 .bf16) (k : Vec Ideal S1x256x128 .bf16) : k0_pay104 q k = stA q k := rfl

theorem st2 (q : FVec Ideal S512x128 .bf16) (k : Vec Ideal S1x256x128 .bf16) : k0_pay106 q k = stA q k := rfl

theorem st3 (q : FVec Ideal S512x128 .bf16) (k : Vec Ideal S1x256x128 .bf16) : k0_pay108 q k = stA q k := rfl

theorem st4 (q : FVec Ideal S512x128 .bf16) (k : Vec Ideal S1x256x128 .bf16) : k0_pay112 q k = stA q k := rfl

theorem st5 (q : FVec Ideal S512x128 .bf16) (k : Vec Ideal S1x256x128 .bf16) : k0_pay118 q k = stA q k := rfl

theorem st6 (q : FVec Ideal S512x128 .bf16) (k : Vec Ideal S1x256x128 .bf16) : k0_pay123 q k = stA q k := rfl

theorem st7 (q : FVec Ideal S512x128 .bf16) (k : Vec Ideal S1x256x128 .bf16) : k0_pay128 q k = stA q k := rfl

theorem st8 (q : FVec Ideal S512x128 .bf16) (k : Vec Ideal S1x256x128 .bf16) : k0_pay134 q k = stA q k := rfl

theorem st9 (q : FVec Ideal S512x128 .bf16) (k : Vec Ideal S1x256x128 .bf16) : k0_pay140 q k = stA q k := rfl

theorem st10 (q : FVec Ideal S512x128 .bf16) (k : Vec Ideal S1x256x128 .bf16) : k0_pay145 q k = stA q k := rfl

theorem st11 (q : FVec Ideal S512x128 .bf16) (k : Vec Ideal S1x256x128 .bf16) : k0_pay151 q k = stA q k := rfl

theorem st12 (q : FVec Ideal S512x128 .bf16) (k : Vec Ideal S1x256x128 .bf16) : k0_pay157 q k = stA q k := rfl

theorem st13 (q : FVec Ideal S512x128 .bf16) (k : Vec Ideal S1x256x128 .bf16) : k0_pay161 q k = stA q k := rfl

theorem st14 (q : FVec Ideal S512x128 .bf16) (k : Vec Ideal S1x256x128 .bf16) : k0_pay166 q k = stA q k := rfl

theorem st15 (q : FVec Ideal S512x128 .bf16) (k : Vec Ideal S1x256x128 .bf16) : k0_pay172 (k0_pay171 q k) = stA q k := rfl

theorem st16 (q : FVec Ideal S512x128 .bf16) (k : Vec Ideal S1x256x128 .bf16) : k0_pay57 q k = stA q k := rfl

theorem st17 (q : FVec Ideal S512x128 .bf16) (k : Vec Ideal S1x256x128 .bf16) : k0_pay59 q k = stA q k := rfl

theorem st18 (q : FVec Ideal S512x128 .bf16) (k : Vec Ideal S1x256x128 .bf16) : k0_pay61 q k = stA q k := rfl

theorem st19 (q : FVec Ideal S512x128 .bf16) (k : Vec Ideal S1x256x128 .bf16) : k0_pay65 q (k0_pay63 k) = stA q k := rfl

theorem st20 (q : FVec Ideal S512x128 .bf16) (k : Vec Ideal S1x256x128 .bf16) : k0_pay67 q k = stA q k := rfl

theorem st21 (q : FVec Ideal S512x128 .bf16) (k : Vec Ideal S1x256x128 .bf16) : k0_pay69 q k = stA q k := rfl

theorem st22 (q : FVec Ideal S512x128 .bf16) (k : Vec Ideal S1x256x128 .bf16) : k0_pay72 (k0_pay71 q k) = stA q k := rfl

theorem st23 (q : FVec Ideal S512x128 .bf16) (k : Vec Ideal S1x256x128 .bf16) : k0_pay74 q k = stA q k := rfl

theorem st24 (q : FVec Ideal S512x128 .bf16) (k : Vec Ideal S1x256x128 .bf16) : k0_pay76 q k = stA q k := rfl

theorem st25 (q : FVec Ideal S512x128 .bf16) (k : Vec Ideal S1x256x128 .bf16) : k0_pay79 (k0_pay78 q k) = stA q k := rfl

theorem st26 (q : FVec Ideal S512x128 .bf16) (k : Vec Ideal S1x256x128 .bf16) : k0_pay81 q k = stA q k := rfl

theorem st27 (q : FVec Ideal S512x128 .bf16) (k : Vec Ideal S1x256x128 .bf16) : k0_pay83 q k = stA q k := rfl

theorem st28 (q : FVec Ideal S512x128 .bf16) (k : Vec Ideal S1x256x128 .bf16) : k0_pay86 q k = stA q k := rfl

theorem st29 (q : FVec Ideal S512x128 .bf16) (k : Vec Ideal S1x256x128 .bf16) : k0_pay88 q k = stA q k := rfl

theorem st30 (q : FVec Ideal S512x128 .bf16) (k : Vec Ideal S1x256x128 .bf16) : k0_pay90 q k = stA q k := rfl

theorem st31 (q : FVec Ideal S512x128 .bf16) (k : Vec Ideal S1x256x128 .bf16) : k0_pay93 q k = stA q k := rfl

theorem st32 (q : FVec Ideal S512x128 .bf16) (k : Vec Ideal S1x256x128 .bf16) : k0_pay96 q k = stA q k := rfl

theorem st33 (q : FVec Ideal S512x128 .bf16) (k : Vec Ideal S1x256x128 .bf16) : k0_pay99 q k = stA q k := rfl

section
variable (q0 q1 : FVec Ideal S512x128 .bf16) (M0 M1 : FVec Ideal S1x512 .f32)
  (K : Fin 17 → Vec Ideal S1x256x128 .bf16) (V : Fin 17 → Vec Ideal S1x128x256 .bf16)

theorem pay_l0' : (k0_pay181 M0 (k0_pay176 M0 (k0_pay169 M0 (k0_pay164 M0 (k0_pay154 M0 (k0_pay148 M0 (k0_pay137 M0 (k0_pay131 M0 (k0_pay120 M0 (k0_pay115 k0_pay52 M0 (stA q0 (K 0)) (stA q0 (K 1))) (stA q0 (K 2))) (stA q0 (K 3)) (stA q0 (K 4))) (stA q0 (K 5))) (stA q0 (K 6)) (stA q0 (K 7))) (stA q0 (K 8))) (stA q0 (K 9)) (stA q0 (K 10))) (stA q0 (K 11))) (stA q0 (K 12)) (stA q0 (K 13))) (k0_pay178 M0 (stA q0 (K 14))) (stA q0 (K 15)) (stA q0 (K 16))) = lxA M0 fun j => stA q0 (K j) :=
  pay_l0 M0 fun j => stA q0 (K j)

theorem pay_a0' : (k0_pay182 M0 (k0_pay177 M0 (k0_pay170 M0 (k0_pay159 M0 (k0_pay155 M0 (k0_pay143 M0 (k0_pay138 M0 (k0_pay126 M0 (k0_pay121 M0 (k0_pay116 k0_pay54 M0 (stA q0 (K 0)) (V 0) (stA q0 (K 1)) (V 1)) (stA q0 (K 2)) (V 2)) (stA q0 (K 3)) (V 3)) (k0_pay132 M0 (stA q0 (K 4)) (V 4)) (stA q0 (K 5)) (V 5)) (stA q0 (K 6)) (V 6)) (k0_pay147 M0 (stA q0 (K 7))) (k0_pay149 (V 7)) (stA q0 (K 8)) (V 8)) (stA q0 (K 9)) (V 9)) (k0_pay163 M0 (stA q0 (K 10))) (V 10) (stA q0 (K 11)) (V 11)) (stA q0 (K 12)) (V 12) (stA q0 (K 13)) (V 13)) (k0_pay178 M0 (stA q0 (K 14))) (V 14) (stA q0 (K 15)) (V 15) (stA q0 (K 16)) (V 16)) = axA M0 (fun j => stA q0 (K j)) V :=
  pay_a0 M0 V fun j => stA q0 (K j)

theorem pay_out' (l0 : FVec Ideal S1x512 .f32) (a0 : FVec Ideal S128x512 .f32) (lam : Ideal .f32) (g : Vec Ideal S1x128 .f32)
    (z : Vec Ideal S512x128 .f32) :
    k0_pay217 l0 a0 (k0_pay213 M1 (k0_pay210 M1 (k0_pay204 M1 (k0_pay197 M1 (k0_pay194 M1 (k0_pay187 k0_pay53 M1 (stA q1 (K 0)) (stA q1 (K 1)) (stA q1 (K 2))) (stA q1 (K 3)) (stA q1 (K 4)) (stA q1 (K 5))) (stA q1 (K 6)) (stA q1 (K 7))) (k0_pay199 (stA q1 (K 8))) (k0_pay200 M1) (stA q1 (K 9)) (stA q1 (K 10))) (stA q1 (K 11)) (stA q1 (K 12)) (stA q1 (K 13))) (stA q1 (K 14)) (stA q1 (K 15))) (k0_pay214 M1 (k0_pay208 M1 (k0_pay205 M1 (k0_pay198 M1 (k0_pay192 M1 (k0_pay185 k0_pay55 M1 (stA q1 (K 0)) (V 0) (stA q1 (K 1)) (V 1)) (k0_pay188 (V 2)) (k0_pay189 M1 (stA q1 (K 2))) (stA q1 (K 3)) (V 3) (stA q1 (K 4)) (V 4)) (k0_pay193 M1 (stA q1 (K 5))) (V 5) (stA q1 (K 6)) (V 6) (stA q1 (K 7)) (V 7)) (k0_pay199 (stA q1 (K 8))) (k0_pay200 M1) (V 8) (stA q1 (K 9)) (V 9) (stA q1 (K 10)) (V 10)) (stA q1 (K 11)) (V 11) (stA q1 (K 12)) (V 12)) (k0_pay209 M1 (stA q1 (K 13))) ((V 13)) (stA q1 (K 14)) (V 14) (stA q1 (K 15)) (V 15)) (k0_pay215 M1 (stA q1 (K 16))) (k0_pay216 M1 (stA q1 (K 16))) (V 16) lam g z
      = fnA (dfA l0 a0 (lxA M1 fun j => stA q1 (K j)) (axA M1 (fun j => stA q1 (K j)) V) lam) g z :=
  pay_out M1 V (fun j => stA q1 (K j)) l0 a0 lam g z

end

theorem kCov0 {sg : RefSig} {κ : Kind} {sp : Space} (v : View sg κ sp S17x256x128 .bf16)
    (L : List (View.Piece (Elt Ideal) S17x256x128 .bf16)) :
    v.readCov (Val := Elt Ideal) L (Rect.unit (s := S17x256x128) ![0, 0, 0] ![1, 256, 128] inb_S17x256x128_S1x256x128_0_0_0).toLoadRect = kld (View.canon L) 0 :=
  View.readCov_eq_canon' v L _

theorem vCov0 {sg : RefSig} {κ : Kind} {sp : Space} (v : View sg κ sp S17x128x256 .bf16)
    (L : List (View.Piece (Elt Ideal) S17x128x256 .bf16)) :
    v.readCov (Val := Elt Ideal) L (Rect.unit (s := S17x128x256) ![0, 0, 0] ![1, 128, 256] inb_S17x128x256_S1x128x256_0_0_0).toLoadRect = vld (View.canon L) 0 :=
  View.readCov_eq_canon' v L _

theorem kCov1 {sg : RefSig} {κ : Kind} {sp : Space} (v : View sg κ sp S17x256x128 .bf16)
    (L : List (View.Piece (Elt Ideal) S17x256x128 .bf16)) :
    v.readCov (Val := Elt Ideal) L (Rect.unit (s := S17x256x128) ![1, 0, 0] ![1, 256, 128] inb_S17x256x128_S1x256x128_1_0_0).toLoadRect = kld (View.canon L) 1 :=
  View.readCov_eq_canon' v L _

theorem vCov1 {sg : RefSig} {κ : Kind} {sp : Space} (v : View sg κ sp S17x128x256 .bf16)
    (L : List (View.Piece (Elt Ideal) S17x128x256 .bf16)) :
    v.readCov (Val := Elt Ideal) L (Rect.unit (s := S17x128x256) ![1, 0, 0] ![1, 128, 256] inb_S17x128x256_S1x128x256_1_0_0).toLoadRect = vld (View.canon L) 1 :=
  View.readCov_eq_canon' v L _

theorem kCov2 {sg : RefSig} {κ : Kind} {sp : Space} (v : View sg κ sp S17x256x128 .bf16)
    (L : List (View.Piece (Elt Ideal) S17x256x128 .bf16)) :
    v.readCov (Val := Elt Ideal) L (Rect.unit (s := S17x256x128) ![2, 0, 0] ![1, 256, 128] inb_S17x256x128_S1x256x128_2_0_0).toLoadRect = kld (View.canon L) 2 :=
  View.readCov_eq_canon' v L _

theorem vCov2 {sg : RefSig} {κ : Kind} {sp : Space} (v : View sg κ sp S17x128x256 .bf16)
    (L : List (View.Piece (Elt Ideal) S17x128x256 .bf16)) :
    v.readCov (Val := Elt Ideal) L (Rect.unit (s := S17x128x256) ![2, 0, 0] ![1, 128, 256] inb_S17x128x256_S1x128x256_2_0_0).toLoadRect = vld (View.canon L) 2 :=
  View.readCov_eq_canon' v L _

theorem kCov3 {sg : RefSig} {κ : Kind} {sp : Space} (v : View sg κ sp S17x256x128 .bf16)
    (L : List (View.Piece (Elt Ideal) S17x256x128 .bf16)) :
    v.readCov (Val := Elt Ideal) L (Rect.unit (s := S17x256x128) ![3, 0, 0] ![1, 256, 128] inb_S17x256x128_S1x256x128_3_0_0).toLoadRect = kld (View.canon L) 3 :=
  View.readCov_eq_canon' v L _

theorem vCov3 {sg : RefSig} {κ : Kind} {sp : Space} (v : View sg κ sp S17x128x256 .bf16)
    (L : List (View.Piece (Elt Ideal) S17x128x256 .bf16)) :
    v.readCov (Val := Elt Ideal) L (Rect.unit (s := S17x128x256) ![3, 0, 0] ![1, 128, 256] inb_S17x128x256_S1x128x256_3_0_0).toLoadRect = vld (View.canon L) 3 :=
  View.readCov_eq_canon' v L _

theorem kCov4 {sg : RefSig} {κ : Kind} {sp : Space} (v : View sg κ sp S17x256x128 .bf16)
    (L : List (View.Piece (Elt Ideal) S17x256x128 .bf16)) :
    v.readCov (Val := Elt Ideal) L (Rect.unit (s := S17x256x128) ![4, 0, 0] ![1, 256, 128] inb_S17x256x128_S1x256x128_4_0_0).toLoadRect = kld (View.canon L) 4 :=
  View.readCov_eq_canon' v L _

theorem vCov4 {sg : RefSig} {κ : Kind} {sp : Space} (v : View sg κ sp S17x128x256 .bf16)
    (L : List (View.Piece (Elt Ideal) S17x128x256 .bf16)) :
    v.readCov (Val := Elt Ideal) L (Rect.unit (s := S17x128x256) ![4, 0, 0] ![1, 128, 256] inb_S17x128x256_S1x128x256_4_0_0).toLoadRect = vld (View.canon L) 4 :=
  View.readCov_eq_canon' v L _

theorem kCov5 {sg : RefSig} {κ : Kind} {sp : Space} (v : View sg κ sp S17x256x128 .bf16)
    (L : List (View.Piece (Elt Ideal) S17x256x128 .bf16)) :
    v.readCov (Val := Elt Ideal) L (Rect.unit (s := S17x256x128) ![5, 0, 0] ![1, 256, 128] inb_S17x256x128_S1x256x128_5_0_0).toLoadRect = kld (View.canon L) 5 :=
  View.readCov_eq_canon' v L _

theorem vCov5 {sg : RefSig} {κ : Kind} {sp : Space} (v : View sg κ sp S17x128x256 .bf16)
    (L : List (View.Piece (Elt Ideal) S17x128x256 .bf16)) :
    v.readCov (Val := Elt Ideal) L (Rect.unit (s := S17x128x256) ![5, 0, 0] ![1, 128, 256] inb_S17x128x256_S1x128x256_5_0_0).toLoadRect = vld (View.canon L) 5 :=
  View.readCov_eq_canon' v L _

theorem kCov6 {sg : RefSig} {κ : Kind} {sp : Space} (v : View sg κ sp S17x256x128 .bf16)
    (L : List (View.Piece (Elt Ideal) S17x256x128 .bf16)) :
    v.readCov (Val := Elt Ideal) L (Rect.unit (s := S17x256x128) ![6, 0, 0] ![1, 256, 128] inb_S17x256x128_S1x256x128_6_0_0).toLoadRect = kld (View.canon L) 6 :=
  View.readCov_eq_canon' v L _

theorem vCov6 {sg : RefSig} {κ : Kind} {sp : Space} (v : View sg κ sp S17x128x256 .bf16)
    (L : List (View.Piece (Elt Ideal) S17x128x256 .bf16)) :
    v.readCov (Val := Elt Ideal) L (Rect.unit (s := S17x128x256) ![6, 0, 0] ![1, 128, 256] inb_S17x128x256_S1x128x256_6_0_0).toLoadRect = vld (View.canon L) 6 :=
  View.readCov_eq_canon' v L _

theorem kCov7 {sg : RefSig} {κ : Kind} {sp : Space} (v : View sg κ sp S17x256x128 .bf16)
    (L : List (View.Piece (Elt Ideal) S17x256x128 .bf16)) :
    v.readCov (Val := Elt Ideal) L (Rect.unit (s := S17x256x128) ![7, 0, 0] ![1, 256, 128] inb_S17x256x128_S1x256x128_7_0_0).toLoadRect = kld (View.canon L) 7 :=
  View.readCov_eq_canon' v L _

theorem vCov7 {sg : RefSig} {κ : Kind} {sp : Space} (v : View sg κ sp S17x128x256 .bf16)
    (L : List (View.Piece (Elt Ideal) S17x128x256 .bf16)) :
    v.readCov (Val := Elt Ideal) L (Rect.unit (s := S17x128x256) ![7, 0, 0] ![1, 128, 256] inb_S17x128x256_S1x128x256_7_0_0).toLoadRect = vld (View.canon L) 7 :=
  View.readCov_eq_canon' v L _

theorem kCov8 {sg : RefSig} {κ : Kind} {sp : Space} (v : View sg κ sp S17x256x128 .bf16)
    (L : List (View.Piece (Elt Ideal) S17x256x128 .bf16)) :
    v.readCov (Val := Elt Ideal) L (Rect.unit (s := S17x256x128) ![8, 0, 0] ![1, 256, 128] inb_S17x256x128_S1x256x128_8_0_0).toLoadRect = kld (View.canon L) 8 :=
  View.readCov_eq_canon' v L _

theorem vCov8 {sg : RefSig} {κ : Kind} {sp : Space} (v : View sg κ sp S17x128x256 .bf16)
    (L : List (View.Piece (Elt Ideal) S17x128x256 .bf16)) :
    v.readCov (Val := Elt Ideal) L (Rect.unit (s := S17x128x256) ![8, 0, 0] ![1, 128, 256] inb_S17x128x256_S1x128x256_8_0_0).toLoadRect = vld (View.canon L) 8 :=
  View.readCov_eq_canon' v L _

theorem kCov9 {sg : RefSig} {κ : Kind} {sp : Space} (v : View sg κ sp S17x256x128 .bf16)
    (L : List (View.Piece (Elt Ideal) S17x256x128 .bf16)) :
    v.readCov (Val := Elt Ideal) L (Rect.unit (s := S17x256x128) ![9, 0, 0] ![1, 256, 128] inb_S17x256x128_S1x256x128_9_0_0).toLoadRect = kld (View.canon L) 9 :=
  View.readCov_eq_canon' v L _

theorem vCov9 {sg : RefSig} {κ : Kind} {sp : Space} (v : View sg κ sp S17x128x256 .bf16)
    (L : List (View.Piece (Elt Ideal) S17x128x256 .bf16)) :
    v.readCov (Val := Elt Ideal) L (Rect.unit (s := S17x128x256) ![9, 0, 0] ![1, 128, 256] inb_S17x128x256_S1x128x256_9_0_0).toLoadRect = vld (View.canon L) 9 :=
  View.readCov_eq_canon' v L _

theorem kCov10 {sg : RefSig} {κ : Kind} {sp : Space} (v : View sg κ sp S17x256x128 .bf16)
    (L : List (View.Piece (Elt Ideal) S17x256x128 .bf16)) :
    v.readCov (Val := Elt Ideal) L (Rect.unit (s := S17x256x128) ![10, 0, 0] ![1, 256, 128] inb_S17x256x128_S1x256x128_10_0_0).toLoadRect = kld (View.canon L) 10 :=
  View.readCov_eq_canon' v L _

theorem vCov10 {sg : RefSig} {κ : Kind} {sp : Space} (v : View sg κ sp S17x128x256 .bf16)
    (L : List (View.Piece (Elt Ideal) S17x128x256 .bf16)) :
    v.readCov (Val := Elt Ideal) L (Rect.unit (s := S17x128x256) ![10, 0, 0] ![1, 128, 256] inb_S17x128x256_S1x128x256_10_0_0).toLoadRect = vld (View.canon L) 10 :=
  View.readCov_eq_canon' v L _

theorem kCov11 {sg : RefSig} {κ : Kind} {sp : Space} (v : View sg κ sp S17x256x128 .bf16)
    (L : List (View.Piece (Elt Ideal) S17x256x128 .bf16)) :
    v.readCov (Val := Elt Ideal) L (Rect.unit (s := S17x256x128) ![11, 0, 0] ![1, 256, 128] inb_S17x256x128_S1x256x128_11_0_0).toLoadRect = kld (View.canon L) 11 :=
  View.readCov_eq_canon' v L _

theorem vCov11 {sg : RefSig} {κ : Kind} {sp : Space} (v : View sg κ sp S17x128x256 .bf16)
    (L : List (View.Piece (Elt Ideal) S17x128x256 .bf16)) :
    v.readCov (Val := Elt Ideal) L (Rect.unit (s := S17x128x256) ![11, 0, 0] ![1, 128, 256] inb_S17x128x256_S1x128x256_11_0_0).toLoadRect = vld (View.canon L) 11 :=
  View.readCov_eq_canon' v L _

theorem kCov12 {sg : RefSig} {κ : Kind} {sp : Space} (v : View sg κ sp S17x256x128 .bf16)
    (L : List (View.Piece (Elt Ideal) S17x256x128 .bf16)) :
    v.readCov (Val := Elt Ideal) L (Rect.unit (s := S17x256x128) ![12, 0, 0] ![1, 256, 128] inb_S17x256x128_S1x256x128_12_0_0).toLoadRect = kld (View.canon L) 12 :=
  View.readCov_eq_canon' v L _

theorem vCov12 {sg : RefSig} {κ : Kind} {sp : Space} (v : View sg κ sp S17x128x256 .bf16)
    (L : List (View.Piece (Elt Ideal) S17x128x256 .bf16)) :
    v.readCov (Val := Elt Ideal) L (Rect.unit (s := S17x128x256) ![12, 0, 0] ![1, 128, 256] inb_S17x128x256_S1x128x256_12_0_0).toLoadRect = vld (View.canon L) 12 :=
  View.readCov_eq_canon' v L _

theorem kCov13 {sg : RefSig} {κ : Kind} {sp : Space} (v : View sg κ sp S17x256x128 .bf16)
    (L : List (View.Piece (Elt Ideal) S17x256x128 .bf16)) :
    v.readCov (Val := Elt Ideal) L (Rect.unit (s := S17x256x128) ![13, 0, 0] ![1, 256, 128] inb_S17x256x128_S1x256x128_13_0_0).toLoadRect = kld (View.canon L) 13 :=
  View.readCov_eq_canon' v L _

theorem vCov13 {sg : RefSig} {κ : Kind} {sp : Space} (v : View sg κ sp S17x128x256 .bf16)
    (L : List (View.Piece (Elt Ideal) S17x128x256 .bf16)) :
    v.readCov (Val := Elt Ideal) L (Rect.unit (s := S17x128x256) ![13, 0, 0] ![1, 128, 256] inb_S17x128x256_S1x128x256_13_0_0).toLoadRect = vld (View.canon L) 13 :=
  View.readCov_eq_canon' v L _

theorem kCov14 {sg : RefSig} {κ : Kind} {sp : Space} (v : View sg κ sp S17x256x128 .bf16)
    (L : List (View.Piece (Elt Ideal) S17x256x128 .bf16)) :
    v.readCov (Val := Elt Ideal) L (Rect.unit (s := S17x256x128) ![14, 0, 0] ![1, 256, 128] inb_S17x256x128_S1x256x128_14_0_0).toLoadRect = kld (View.canon L) 14 :=
  View.readCov_eq_canon' v L _

theorem vCov14 {sg : RefSig} {κ : Kind} {sp : Space} (v : View sg κ sp S17x128x256 .bf16)
    (L : List (View.Piece (Elt Ideal) S17x128x256 .bf16)) :
    v.readCov (Val := Elt Ideal) L (Rect.unit (s := S17x128x256) ![14, 0, 0] ![1, 128, 256] inb_S17x128x256_S1x128x256_14_0_0).toLoadRect = vld (View.canon L) 14 :=
  View.readCov_eq_canon' v L _

theorem kCov15 {sg : RefSig} {κ : Kind} {sp : Space} (v : View sg κ sp S17x256x128 .bf16)
    (L : List (View.Piece (Elt Ideal) S17x256x128 .bf16)) :
    v.readCov (Val := Elt Ideal) L (Rect.unit (s := S17x256x128) ![15, 0, 0] ![1, 256, 128] inb_S17x256x128_S1x256x128_15_0_0).toLoadRect = kld (View.canon L) 15 :=
  View.readCov_eq_canon' v L _

theorem vCov15 {sg : RefSig} {κ : Kind} {sp : Space} (v : View sg κ sp S17x128x256 .bf16)
    (L : List (View.Piece (Elt Ideal) S17x128x256 .bf16)) :
    v.readCov (Val := Elt Ideal) L (Rect.unit (s := S17x128x256) ![15, 0, 0] ![1, 128, 256] inb_S17x128x256_S1x128x256_15_0_0).toLoadRect = vld (View.canon L) 15 :=
  View.readCov_eq_canon' v L _

theorem kCov16 {sg : RefSig} {κ : Kind} {sp : Space} (v : View sg κ sp S17x256x128 .bf16)
    (L : List (View.Piece (Elt Ideal) S17x256x128 .bf16)) :
    v.readCov (Val := Elt Ideal) L (Rect.unit (s := S17x256x128) ![16, 0, 0] ![1, 256, 128] inb_S17x256x128_S1x256x128_16_0_0).toLoadRect = kld (View.canon L) 16 :=
  View.readCov_eq_canon' v L _

theorem vCov16 {sg : RefSig} {κ : Kind} {sp : Space} (v : View sg κ sp S17x128x256 .bf16)
    (L : List (View.Piece (Elt Ideal) S17x128x256 .bf16)) :
    v.readCov (Val := Elt Ideal) L (Rect.unit (s := S17x128x256) ![16, 0, 0] ![1, 128, 256] inb_S17x128x256_S1x128x256_16_0_0).toLoadRect = vld (View.canon L) 16 :=
  View.readCov_eq_canon' v L _

end Cert.Proof.Attn

end
-- ==== Proof.AttnFill.lean ====
/- Hand-written, untrusted: what a first point keeps: the rotated keys and the transposed values, block by block. -/
module

public import proofs.«01_k».proof.Proof.AttnFold
public import Idealize.ShloMosaic.Lib.Pipeline.ReadBack
public import Idealize.ShloMosaic.Lib.Pointwise

@[expose] public section

set_option maxRecDepth 65536
set_option maxHeartbeats 4000000

noncomputable section

namespace Cert.Proof.Attn

open Cert.KernelIdeal Cert.KernelIdeal.Gen Cert.KernelIdeal.Value Idealize.ShloMosaic Idealize.ShloMosaic.TcCoe Idealize.SL.Sem

theorem kSkip {sg : RefSig} {κ : Kind} {sp : Space} (v : View sg κ sp S17x256x128 .bf16) (j j' : Nat)
    (inb : ∀ a, (![j, 0, 0] : Fin 3 → Nat) a + (![1, 256, 128] : Fin 3 → Nat) a ≤ S17x256x128.size a)
    (inb' : ∀ a, (![j', 0, 0] : Fin 3 → Nat) a + (![1, 256, 128] : Fin 3 → Nat) a ≤ S17x256x128.size a)
    (w : (Rect.unit (s := S17x256x128) ![j, 0, 0] ![1, 256, 128] inb).shape.Idx → Ideal .bf16)
    (L : List (View.Piece (Elt Ideal) S17x256x128 .bf16)) (h : j ≠ j') :
    v.readCov (Val := Elt Ideal) (⟨Rect.unit ![j, 0, 0] ![1, 256, 128] inb, w⟩ :: L)
        (Rect.unit ![j', 0, 0] ![1, 256, 128] inb').toLoadRect
      = v.readCov L (Rect.unit ![j', 0, 0] ![1, 256, 128] inb').toLoadRect := by
  have hd : ∃ a : Fin 3, (![1, 256, 128] : Fin 3 → Nat) a = 0 ∨ (![1, 256, 128] : Fin 3 → Nat) a = 0
      ∨ (![j, 0, 0] : Fin 3 → Nat) a + 1 * ((![1, 256, 128] : Fin 3 → Nat) a - 1) < (![j', 0, 0] : Fin 3 → Nat) a
      ∨ (![j', 0, 0] : Fin 3 → Nat) a + 1 * ((![1, 256, 128] : Fin 3 → Nat) a - 1) < (![j, 0, 0] : Fin 3 → Nat) a :=
    ⟨0, .inr (.inr (by show j + 1 * (1 - 1) < j' ∨ j' + 1 * (1 - 1) < j; omega))⟩
  have hd' : LoadRect.disj (Rect.unit (s := S17x256x128) ![j, 0, 0] ![1, 256, 128] inb)
      (Rect.unit (s := S17x256x128) ![j', 0, 0] ![1, 256, 128] inb').toLoadRect = true := by
    unfold LoadRect.disj
    exact decide_eq_true hd
  rw [View.readCov_skip v _ w L _ hd']

theorem vSkip {sg : RefSig} {κ : Kind} {sp : Space} (v : View sg κ sp S17x128x256 .bf16) (j j' : Nat)
    (inb : ∀ a, (![j, 0, 0] : Fin 3 → Nat) a + (![1, 128, 256] : Fin 3 → Nat) a ≤ S17x128x256.size a)
    (inb' : ∀ a, (![j', 0, 0] : Fin 3 → Nat) a + (![1, 128, 256] : Fin 3 → Nat) a ≤ S17x128x256.size a)
    (w : (Rect.unit (s := S17x128x256) ![j, 0, 0] ![1, 128, 256] inb).shape.Idx → Ideal .bf16)
    (L : List (View.Piece (Elt Ideal) S17x128x256 .bf16)) (h : j ≠ j') :
    v.readCov (Val := Elt Ideal) (⟨Rect.unit ![j, 0, 0] ![1, 128, 256] inb, w⟩ :: L)
        (Rect.unit ![j', 0, 0] ![1, 128, 256] inb').toLoadRect
      = v.readCov L (Rect.unit ![j', 0, 0] ![1, 128, 256] inb').toLoadRect := by
  have hd : ∃ a : Fin 3, (![1, 128, 256] : Fin 3 → Nat) a = 0 ∨ (![1, 128, 256] : Fin 3 → Nat) a = 0
      ∨ (![j, 0, 0] : Fin 3 → Nat) a + 1 * ((![1, 128, 256] : Fin 3 → Nat) a - 1) < (![j', 0, 0] : Fin 3 → Nat) a
      ∨ (![j', 0, 0] : Fin 3 → Nat) a + 1 * ((![1, 128, 256] : Fin 3 → Nat) a - 1) < (![j, 0, 0] : Fin 3 → Nat) a :=
    ⟨0, .inr (.inr (by show j + 1 * (1 - 1) < j' ∨ j' + 1 * (1 - 1) < j; omega))⟩
  have hd' : LoadRect.disj (Rect.unit (s := S17x128x256) ![j, 0, 0] ![1, 128, 256] inb)
      (Rect.unit (s := S17x128x256) ![j', 0, 0] ![1, 128, 256] inb').toLoadRect = true := by
    unfold LoadRect.disj
    exact decide_eq_true hd
  rw [View.readCov_skip v _ w L _ hd']

/-- Rows `256 j` onward of an array of 4096 rows. -/
def rows (X : Vec Ideal S4096x128 .f32) (o : Nat) (h : o + 256 ≤ 4096) : Vec Ideal S256x128 .f32 :=
  View.ld X (Rect.unit (s := S4096x128) ![o, 0] ![256, 128] (by
    intro a; fin_cases a
    · exact h
    · show 0 + 128 ≤ 128; omega))

theorem kfill (c : Dev nD) (i : grid0.Coords) (arg3 : Memref sig .tc .smem S1 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S256x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x128 .f32) (harg16 : arg16.IsWhole) (arg17 : Memref sig .tc .vmem S512x128 .bf16) (harg17 : arg17.IsWhole) (arg18 : Memref sig .tc .vmem S17x256x128 .bf16) (harg18 : arg18.IsWhole) (arg19 : Memref sig .tc .vmem S17x128x256 .bf16) (harg19 : arg19.IsWhole) (arg20 : Memref sig .tc .vmem S2x17x256x512 .f32) (harg20 : arg20.IsWhole) (hc0 : cond0_0 i)
    (x0 : Vec Ideal S1 .f32) (x1 : Vec Ideal S512x128 .f32) (x2 : Vec Ideal S4096x128 .f32) (x3 : Vec Ideal S256x128 .f32) (x4 : Vec Ideal S4096x128 .f32) (x5 : Vec Ideal S256x128 .f32) (x6 : Vec Ideal S512x128 .f32) (x7 : Vec Ideal S512x128 .f32) (x8 : Vec Ideal S512x128 .f32) (x9 : Vec Ideal S512x128 .f32) (x10 : Vec Ideal S4096x128 .f32) (x11 : Vec Ideal S4096x128 .f32) (x12 : Vec Ideal S4096x128 .f32) (x13 : Vec Ideal S1x128 .f32) :
    kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 0 = k0_pay1 (rows x2 0 (by omega)) (rows x10 0 (by omega)) (rows x11 0 (by omega)) (rows x12 0 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 1 = k0_pay1 (rows x2 256 (by omega)) (rows x10 256 (by omega)) (rows x11 256 (by omega)) (rows x12 256 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 2 = k0_pay1 (rows x2 512 (by omega)) (rows x10 512 (by omega)) (rows x11 512 (by omega)) (rows x12 512 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 3 = k0_pay1 (rows x2 768 (by omega)) (rows x10 768 (by omega)) (rows x11 768 (by omega)) (rows x12 768 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 4 = k0_pay1 (rows x2 1024 (by omega)) (rows x10 1024 (by omega)) (rows x11 1024 (by omega)) (rows x12 1024 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 5 = k0_pay1 (rows x2 1280 (by omega)) (rows x10 1280 (by omega)) (rows x11 1280 (by omega)) (rows x12 1280 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 6 = k0_pay1 (rows x2 1536 (by omega)) (rows x10 1536 (by omega)) (rows x11 1536 (by omega)) (rows x12 1536 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 7 = k0_pay1 (rows x2 1792 (by omega)) (rows x10 1792 (by omega)) (rows x11 1792 (by omega)) (rows x12 1792 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 8 = k0_pay1 (rows x2 2048 (by omega)) (rows x10 2048 (by omega)) (rows x11 2048 (by omega)) (rows x12 2048 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 9 = k0_pay1 (rows x2 2304 (by omega)) (rows x10 2304 (by omega)) (rows x11 2304 (by omega)) (rows x12 2304 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 10 = k0_pay1 (rows x2 2560 (by omega)) (rows x10 2560 (by omega)) (rows x11 2560 (by omega)) (rows x12 2560 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 11 = k0_pay1 (rows x2 2816 (by omega)) (rows x10 2816 (by omega)) (rows x11 2816 (by omega)) (rows x12 2816 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 12 = k0_pay1 (rows x2 3072 (by omega)) (rows x10 3072 (by omega)) (rows x11 3072 (by omega)) (rows x12 3072 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 13 = k0_pay1 (rows x2 3328 (by omega)) (rows x10 3328 (by omega)) (rows x11 3328 (by omega)) (rows x12 3328 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 14 = k0_pay1 (rows x2 3584 (by omega)) (rows x10 3584 (by omega)) (rows x11 3584 (by omega)) (rows x12 3584 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 15 = k0_pay1 (rows x2 3840 (by omega)) (rows x10 3840 (by omega)) (rows x11 3840 (by omega)) (rows x12 3840 (by omega))
    ∧ kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 16 = k0_pay46 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  have l : View.ld x3 (Rect.unit ![0, 0] ![256, 128] inb_S256x128_S256x128_0_0) = x3 := View.ld_unit_zero (S := S256x128) hz _ x3
  refine ⟨?_, ?_, ?_, ?_, ?_, ?_, ?_, ?_, ?_, ?_, ?_, ?_, ?_, ?_, ?_, ?_, ?_⟩
  · rw [← kCov0 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov1 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov2 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov3 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov4 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov5 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov6 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov7 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov8 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov9 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov10 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov11 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov12 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov13 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov14 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov15 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← kCov16 VS0_0]
    simp (decide := true) only [↓kSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, l]
    rfl

theorem vfill (c : Dev nD) (i : grid0.Coords) (arg3 : Memref sig .tc .smem S1 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S256x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x128 .f32) (harg16 : arg16.IsWhole) (arg17 : Memref sig .tc .vmem S512x128 .bf16) (harg17 : arg17.IsWhole) (arg18 : Memref sig .tc .vmem S17x256x128 .bf16) (harg18 : arg18.IsWhole) (arg19 : Memref sig .tc .vmem S17x128x256 .bf16) (harg19 : arg19.IsWhole) (arg20 : Memref sig .tc .vmem S2x17x256x512 .f32) (harg20 : arg20.IsWhole) (hc0 : cond0_0 i)
    (x0 : Vec Ideal S1 .f32) (x1 : Vec Ideal S512x128 .f32) (x2 : Vec Ideal S4096x128 .f32) (x3 : Vec Ideal S256x128 .f32) (x4 : Vec Ideal S4096x128 .f32) (x5 : Vec Ideal S256x128 .f32) (x6 : Vec Ideal S512x128 .f32) (x7 : Vec Ideal S512x128 .f32) (x8 : Vec Ideal S512x128 .f32) (x9 : Vec Ideal S512x128 .f32) (x10 : Vec Ideal S4096x128 .f32) (x11 : Vec Ideal S4096x128 .f32) (x12 : Vec Ideal S4096x128 .f32) (x13 : Vec Ideal S1x128 .f32) :
    vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 0 = k0_pay2 (rows x4 0 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 1 = k0_pay2 (rows x4 256 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 2 = k0_pay2 (rows x4 512 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 3 = k0_pay2 (rows x4 768 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 4 = k0_pay2 (rows x4 1024 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 5 = k0_pay2 (rows x4 1280 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 6 = k0_pay2 (rows x4 1536 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 7 = k0_pay2 (rows x4 1792 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 8 = k0_pay2 (rows x4 2048 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 9 = k0_pay2 (rows x4 2304 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 10 = k0_pay2 (rows x4 2560 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 11 = k0_pay2 (rows x4 2816 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 12 = k0_pay2 (rows x4 3072 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 13 = k0_pay2 (rows x4 3328 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 14 = k0_pay2 (rows x4 3584 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 15 = k0_pay2 (rows x4 3840 (by omega))
    ∧ vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13) 16 = k0_pay48 (k0_pay47 x5) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  have l : View.ld x5 (Rect.unit ![0, 0] ![256, 128] inb_S256x128_S256x128_0_0) = x5 := View.ld_unit_zero (S := S256x128) hz _ x5
  refine ⟨?_, ?_, ?_, ?_, ?_, ?_, ?_, ?_, ?_, ?_, ?_, ?_, ?_, ?_, ?_, ?_, ?_⟩
  · rw [← vCov0 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov1 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov2 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov3 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov4 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov5 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov6 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov7 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov8 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov9 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov10 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov11 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov12 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov13 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov14 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov15 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    rfl
  · rw [← vCov16 VS0_1]
    simp (decide := true) only [↓vSkip]
    rw [View.readCov_cons_toLoadRect]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, l]
    rfl

end Cert.Proof.Attn

end
-- ==== Proof.AttnRead.lean ====
/- Hand-written, untrusted: the attention kernel's block operations read one place at a time over the extended reals, and
   the whole block as sums over blocks of keys. -/
module

public import proofs.«01_k».proof.Proof.AttnFill
public import Idealize.ShloMosaic.Lib.Pointwise
public import Idealize.ShloMosaic.PureOps.Ideal.Laws

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

theorem scA_apply (q : FVec Ideal S512x128 .bf16) (k : Vec Ideal S1x256x128 .bf16) (κ : Fin 256) (r : Fin 512) :
    scA q k (ix2 κ r) = ∑ d : Fin 128, k (ix3 0 κ d) * q (ix2 r d) := by
  pointwise [scA]

theorem bmA_apply (s : FVec Ideal S256x512 .f32) (r : Fin 512) :
    bmA s (ix2 0 r) = Finset.fold max (Ideal.ofBits FTy.f32 4286578688#32) (fun x : Fin 256 => s (ix2 x r)) Finset.univ := by
  pointwise [bmA]

theorem exA_apply (M : FVec Ideal S1x512 .f32) (s : FVec Ideal S256x512 .f32) (κ : Fin 256) (r : Fin 512) :
    exA M (shapeCast S1x1x256x512 s shapeCasts_S256x512_S1x1x256x512) (ix2 κ r) = Ideal.exp2 (s (ix2 κ r) - M (ix2 0 r)) := by
  pointwise [exA]
  rfl

theorem lsA_apply (s : FVec Ideal S256x512 .f32) (r : Fin 512) : lsA s (ix2 0 r) = ∑ κ : Fin 256, s (ix2 κ r) := by
  pointwise [lsA]

theorem avA_apply (v : Vec Ideal S1x128x256 .bf16) (e : FVec Ideal S256x512 .f32) (d : Fin 128) (r : Fin 512) :
    avA v e (ix2 d r) = ∑ κ : Fin 256, v (ix3 0 d κ) * e (ix2 κ r) := by
  pointwise [avA]

theorem dfA_apply (l0 : FVec Ideal S1x512 .f32) (a0 : FVec Ideal S128x512 .f32) (l1 : FVec Ideal S1x512 .f32) (a1 : FVec Ideal S128x512 .f32)
    (lam : Ideal .f32) (d : Fin 128) (r : Fin 512) :
    dfA l0 a0 l1 a1 lam (ix2 d r) = a0 (ix2 d r) * Ideal.div 1 (l0 (ix2 0 r)) - a1 (ix2 d r) * (lam * Ideal.div 1 (l1 (ix2 0 r))) := by
  pointwise [dfA]

/-- A row divided by its root mean square, times the gain, the fixed scale and the gate. -/
def gated (x g z : Fin 128 → EReal) (d : Fin 128) : EReal :=
  x d * Ideal.rsqrt (Ideal.div (∑ e, x e * x e) (Ideal.ofBits FTy.f32 1124073472#32) + Ideal.ofBits FTy.f32 897988541#32) * g d
    * Ideal.ofBits FTy.f32 1055083607#32 * (z d * Ideal.logistic (z d))

theorem fnA_apply (x : FVec Ideal S128x512 .f32) (g : Vec Ideal S1x128 .f32) (z : Vec Ideal S512x128 .f32) (r : Fin 512) (d : Fin 128) :
    fnA x g z (ix2 r d) = gated (fun d => x (ix2 d r)) (fun d => g (ix2 0 d)) (fun d => z (ix2 r d)) d := by
  unfold gated
  pointwise [fnA]

/-- A row turned by the rotary tables: each place with its own, the one sixteen before and the one sixteen after. -/
def rope (x c u w : Fin 128 → EReal) (d : Fin 128) : EReal :=
  x d * c d + x ⟨(d.val + 128 - 16) % 128, Nat.mod_lt _ (by omega)⟩ * u d + x ⟨(d.val + 128 - 112) % 128, Nat.mod_lt _ (by omega)⟩ * w d

/-- The scale of the scores. -/
def scl : Ideal .f32 := Named.named (F := Ideal) κ (φ := .f32) "scale" 0x3E38AA3B#32

theorem lane_lt (d : Fin 128) (z : Ideal .f32) :
    Scalar.select (IntOp.cmpi CmpIPredicate.slt (BitVec.ofNat 32 d.val) 64#32) z (0 : EReal) = if d.val < 64 then z else (0 : EReal) := by
  have h : ∀ d : Fin 128, IntOp.cmpi CmpIPredicate.slt (BitVec.ofNat 32 d.val) 64#32 = if d.val < 64 then 1#1 else 0#1 := by decide
  rw [h d]; split_ifs <;> rfl

theorem lane_ge (d : Fin 128) (z : Ideal .f32) :
    Scalar.select (IntOp.cmpi CmpIPredicate.sge (BitVec.ofNat 32 d.val) 64#32) z (0 : EReal) = if 64 ≤ d.val then z else (0 : EReal) := by
  have h : ∀ d : Fin 128, IntOp.cmpi CmpIPredicate.sge (BitVec.ofNat 32 d.val) 64#32 = if 64 ≤ d.val then 1#1 else 0#1 := by decide
  rw [h d]; split_ifs <;> rfl

theorem q0_apply (v3 v4 v6 v8 : Vec Ideal S512x128 .f32) (r : Fin 512) (d : Fin 128) :
    k0_pay50 v3 v4 v6 v8 (ix2 r d) = if d.val < 64 then rope (fun d => v3 (ix2 r d)) (fun d => v4 (ix2 r d)) (fun d => v6 (ix2 r d)) (fun d => v8 (ix2 r d)) d * scl else (0 : EReal) := by
  rw [← lane_lt]
  unfold rope scl
  pointwise [k0_pay50, k0_pay49]

theorem q1_apply (v3 v4 v6 v8 : Vec Ideal S512x128 .f32) (r : Fin 512) (d : Fin 128) :
    k0_pay51 v3 v4 v6 v8 (ix2 r d) = if 64 ≤ d.val then rope (fun d => v3 (ix2 r d)) (fun d => v4 (ix2 r d)) (fun d => v6 (ix2 r d)) (fun d => v8 (ix2 r d)) d * scl else (0 : EReal) := by
  rw [← lane_ge]
  unfold rope scl
  pointwise [k0_pay51, k0_pay49]

theorem pay1_apply (v3 v4 v6 v8 : Vec Ideal S256x128 .f32) (κ : Fin 256) (d : Fin 128) :
    k0_pay1 v3 v4 v6 v8 (ix3 0 κ d) = rope (fun d => v3 (ix2 κ d)) (fun d => v4 (ix2 κ d)) (fun d => v6 (ix2 κ d)) (fun d => v8 (ix2 κ d)) d := by
  unfold rope
  pointwise [k0_pay1]

theorem pay2_apply (v : Vec Ideal S256x128 .f32) (κ : Fin 256) (d : Fin 128) : k0_pay2 v (ix3 0 d κ) = v (ix2 κ d) := by
  pointwise [k0_pay2]

theorem pay46_apply (v : Vec Ideal S256x128 .f32) (κ : Fin 256) (d : Fin 128) : k0_pay46 v (ix3 0 κ d) = v (ix2 κ d) := by
  pointwise [k0_pay46]

theorem pay48_apply (v : Vec Ideal S256x128 .f32) (κ : Fin 256) (d : Fin 128) : k0_pay48 (k0_pay47 v) (ix3 0 d κ) = v (ix2 κ d) := by
  pointwise [k0_pay48, k0_pay47]

theorem rows_apply (X : Vec Ideal S4096x128 .f32) (o : Nat) (h : o + 256 ≤ 4096) (κ : Fin 256) (d : Fin 128) :
    rows X o h (ix2 κ d) = X (ix2 ⟨o + κ.val, by omega⟩ d) := by
  unfold rows
  show X _ = X _
  refine congrArg X (funext fun a => Fin.ext ?_)
  match a with
  | ⟨0, _⟩ => show o + 1 * κ.val = o + κ.val; omega
  | ⟨1, _⟩ => show 0 + 1 * d.val = d.val; omega

theorem sChain_apply {s : Shape} (z : FVec Ideal s .f32) (i : s.Idx) : ∀ (n : Nat) (f : Fin n → FVec Ideal s .f32),
    sChain z n f i = (z i + ∑ j, f j i : EReal)
  | 0, f => by rw [sChain, Fin.sum_univ_zero, add_zero]
  | n + 1, f => by
    rw [Fin.sum_univ_castSucc, ← add_assoc, ← sChain_apply z i n]
    rfl

theorem z52_apply (i : S1x512.Idx) : k0_pay52 (F := Ideal) i = (0 : EReal) := by pointwise [k0_pay52]
theorem z54_apply (i : S128x512.Idx) : k0_pay54 (F := Ideal) i = (0 : EReal) := by pointwise [k0_pay54]

end Cert.Proof.Attn

end
-- ==== Proof.AttnRefCat.lean ====
/- Hand-written, untrusted: arrays laid side by side, read at a place (the attention's reference). -/
module

public import proofs.«01_k».proof.Proof.Gen.ReferenceIdeal.Read
public import Idealize.ShloMosaic.Lib.Pipeline.Value
public import Idealize.ShloMosaic.Lib.Pointwise
public import Idealize.ShloMosaic.PureOps.Ideal.Laws

@[expose] public section

set_option maxRecDepth 16384

noncomputable section

namespace Cert.Proof.AttnRef

open Cert.ReferenceIdeal Idealize.ShloMosaic Idealize.ShloMosaic.TcCoe Idealize.SL.Sem

theorem cat16 (x0 : S4x4096x4x2x16.Idx → EReal) (x1 : S4x4096x4x2x16.Idx → EReal)
    (h : Shape.Concatenates [S4x4096x4x2x16, S4x4096x4x2x16] S4x4096x4x2x32 4) (i0 : Fin 4) (i1 : Fin 4096) (i2 : Fin 4) (i3 : Fin 2) (i4 : Fin 32) :
    concatenate S4x4096x4x2x32 4 [⟨S4x4096x4x2x16, x0⟩, ⟨S4x4096x4x2x16, x1⟩] h (ix5 i0 i1 i2 i3 i4)
      = if h0 : i4.val < 16 then x0 (ix5 i0 i1 i2 i3 ⟨i4.val - 0, by omega⟩) else x1 (ix5 i0 i1 i2 i3 ⟨i4.val - 16, by omega⟩) := by
  have hj := i4.isLt
  by_cases h0 : i4.val < 16
  · rw [dif_pos h0]
    refine concatenate_apply_piece 4 [⟨S4x4096x4x2x16, x0⟩, ⟨S4x4096x4x2x16, x1⟩] h (ix5 i0 i1 i2 i3 i4) 0 (by show _ < 2; decide) S4x4096x4x2x16 x0 rfl rfl 0 rfl (ix5 i0 i1 i2 i3 ⟨i4.val - 0, by omega⟩ : S4x4096x4x2x16.Idx) (fun a ha => ?_) ?_
    · match a, ha with
      | ⟨0, _⟩, _ => rfl
      | ⟨1, _⟩, _ => rfl
      | ⟨2, _⟩, _ => rfl
      | ⟨3, _⟩, _ => rfl
      | ⟨4, _⟩, ha => exact absurd rfl ha
    · show 0 + (i4.val - 0) = i4.val; omega
  rw [dif_neg h0]
  refine concatenate_apply_piece 4 [⟨S4x4096x4x2x16, x0⟩, ⟨S4x4096x4x2x16, x1⟩] h (ix5 i0 i1 i2 i3 i4) 1 (by show _ < 2; decide) S4x4096x4x2x16 x1 rfl rfl 16 rfl (ix5 i0 i1 i2 i3 ⟨i4.val - 16, by omega⟩ : S4x4096x4x2x16.Idx) (fun a ha => ?_) ?_
  · match a, ha with
    | ⟨0, _⟩, _ => rfl
    | ⟨1, _⟩, _ => rfl
    | ⟨2, _⟩, _ => rfl
    | ⟨3, _⟩, _ => rfl
    | ⟨4, _⟩, ha => exact absurd rfl ha
  · show 16 + (i4.val - 16) = i4.val; omega

theorem cat32 (x0 : S4x4096x4x2x32.Idx → EReal) (x1 : S4x4096x4x2x32.Idx → EReal)
    (h : Shape.Concatenates [S4x4096x4x2x32, S4x4096x4x2x32] S4x4096x4x2x64 4) (i0 : Fin 4) (i1 : Fin 4096) (i2 : Fin 4) (i3 : Fin 2) (i4 : Fin 64) :
    concatenate S4x4096x4x2x64 4 [⟨S4x4096x4x2x32, x0⟩, ⟨S4x4096x4x2x32, x1⟩] h (ix5 i0 i1 i2 i3 i4)
      = if h0 : i4.val < 32 then x0 (ix5 i0 i1 i2 i3 ⟨i4.val - 0, by omega⟩) else x1 (ix5 i0 i1 i2 i3 ⟨i4.val - 32, by omega⟩) := by
  have hj := i4.isLt
  by_cases h0 : i4.val < 32
  · rw [dif_pos h0]
    refine concatenate_apply_piece 4 [⟨S4x4096x4x2x32, x0⟩, ⟨S4x4096x4x2x32, x1⟩] h (ix5 i0 i1 i2 i3 i4) 0 (by show _ < 2; decide) S4x4096x4x2x32 x0 rfl rfl 0 rfl (ix5 i0 i1 i2 i3 ⟨i4.val - 0, by omega⟩ : S4x4096x4x2x32.Idx) (fun a ha => ?_) ?_
    · match a, ha with
      | ⟨0, _⟩, _ => rfl
      | ⟨1, _⟩, _ => rfl
      | ⟨2, _⟩, _ => rfl
      | ⟨3, _⟩, _ => rfl
      | ⟨4, _⟩, ha => exact absurd rfl ha
    · show 0 + (i4.val - 0) = i4.val; omega
  rw [dif_neg h0]
  refine concatenate_apply_piece 4 [⟨S4x4096x4x2x32, x0⟩, ⟨S4x4096x4x2x32, x1⟩] h (ix5 i0 i1 i2 i3 i4) 1 (by show _ < 2; decide) S4x4096x4x2x32 x1 rfl rfl 32 rfl (ix5 i0 i1 i2 i3 ⟨i4.val - 32, by omega⟩ : S4x4096x4x2x32.Idx) (fun a ha => ?_) ?_
  · match a, ha with
    | ⟨0, _⟩, _ => rfl
    | ⟨1, _⟩, _ => rfl
    | ⟨2, _⟩, _ => rfl
    | ⟨3, _⟩, _ => rfl
    | ⟨4, _⟩, ha => exact absurd rfl ha
  · show 32 + (i4.val - 32) = i4.val; omega

theorem catK (x0 : S4x4096x4x2x64.Idx → EReal) (x1 : S4x256x4x2x64.Idx → EReal)
    (h : Shape.Concatenates [S4x4096x4x2x64, S4x256x4x2x64] S4x4352x4x2x64 1) (i0 : Fin 4) (i1 : Fin 4352) (i2 : Fin 4) (i3 : Fin 2) (i4 : Fin 64) :
    concatenate S4x4352x4x2x64 1 [⟨S4x4096x4x2x64, x0⟩, ⟨S4x256x4x2x64, x1⟩] h (ix5 i0 i1 i2 i3 i4)
      = if h0 : i1.val < 4096 then x0 (ix5 i0 ⟨i1.val - 0, by omega⟩ i2 i3 i4) else x1 (ix5 i0 ⟨i1.val - 4096, by omega⟩ i2 i3 i4) := by
  have hj := i1.isLt
  by_cases h0 : i1.val < 4096
  · rw [dif_pos h0]
    refine concatenate_apply_piece 1 [⟨S4x4096x4x2x64, x0⟩, ⟨S4x256x4x2x64, x1⟩] h (ix5 i0 i1 i2 i3 i4) 0 (by show _ < 2; decide) S4x4096x4x2x64 x0 rfl rfl 0 rfl (ix5 i0 ⟨i1.val - 0, by omega⟩ i2 i3 i4 : S4x4096x4x2x64.Idx) (fun a ha => ?_) ?_
    · match a, ha with
      | ⟨0, _⟩, _ => rfl
      | ⟨1, _⟩, ha => exact absurd rfl ha
      | ⟨2, _⟩, _ => rfl
      | ⟨3, _⟩, _ => rfl
      | ⟨4, _⟩, _ => rfl
    · show 0 + (i1.val - 0) = i1.val; omega
  rw [dif_neg h0]
  refine concatenate_apply_piece 1 [⟨S4x4096x4x2x64, x0⟩, ⟨S4x256x4x2x64, x1⟩] h (ix5 i0 i1 i2 i3 i4) 1 (by show _ < 2; decide) S4x256x4x2x64 x1 rfl rfl 4096 rfl (ix5 i0 ⟨i1.val - 4096, by omega⟩ i2 i3 i4 : S4x256x4x2x64.Idx) (fun a ha => ?_) ?_
  · match a, ha with
    | ⟨0, _⟩, _ => rfl
    | ⟨1, _⟩, ha => exact absurd rfl ha
    | ⟨2, _⟩, _ => rfl
    | ⟨3, _⟩, _ => rfl
    | ⟨4, _⟩, _ => rfl
  · show 4096 + (i1.val - 4096) = i1.val; omega

theorem catV (x0 : S4x4096x4x128.Idx → EReal) (x1 : S4x256x4x128.Idx → EReal)
    (h : Shape.Concatenates [S4x4096x4x128, S4x256x4x128] S4x4352x4x128 1) (i0 : Fin 4) (i1 : Fin 4352) (i2 : Fin 4) (i3 : Fin 128) :
    concatenate S4x4352x4x128 1 [⟨S4x4096x4x128, x0⟩, ⟨S4x256x4x128, x1⟩] h (ix4 i0 i1 i2 i3)
      = if h0 : i1.val < 4096 then x0 (ix4 i0 ⟨i1.val - 0, by omega⟩ i2 i3) else x1 (ix4 i0 ⟨i1.val - 4096, by omega⟩ i2 i3) := by
  have hj := i1.isLt
  by_cases h0 : i1.val < 4096
  · rw [dif_pos h0]
    refine concatenate_apply_piece 1 [⟨S4x4096x4x128, x0⟩, ⟨S4x256x4x128, x1⟩] h (ix4 i0 i1 i2 i3) 0 (by show _ < 2; decide) S4x4096x4x128 x0 rfl rfl 0 rfl (ix4 i0 ⟨i1.val - 0, by omega⟩ i2 i3 : S4x4096x4x128.Idx) (fun a ha => ?_) ?_
    · match a, ha with
      | ⟨0, _⟩, _ => rfl
      | ⟨1, _⟩, ha => exact absurd rfl ha
      | ⟨2, _⟩, _ => rfl
      | ⟨3, _⟩, _ => rfl
    · show 0 + (i1.val - 0) = i1.val; omega
  rw [dif_neg h0]
  refine concatenate_apply_piece 1 [⟨S4x4096x4x128, x0⟩, ⟨S4x256x4x128, x1⟩] h (ix4 i0 i1 i2 i3) 1 (by show _ < 2; decide) S4x256x4x128 x1 rfl rfl 4096 rfl (ix4 i0 ⟨i1.val - 4096, by omega⟩ i2 i3 : S4x256x4x128.Idx) (fun a ha => ?_) ?_
  · match a, ha with
    | ⟨0, _⟩, _ => rfl
    | ⟨1, _⟩, ha => exact absurd rfl ha
    | ⟨2, _⟩, _ => rfl
    | ⟨3, _⟩, _ => rfl
  · show 4096 + (i1.val - 4096) = i1.val; omega

end Cert.Proof.AttnRef

end
-- ==== Proof.AttnSpec.lean ====
/- Hand-written, untrusted: one row of the differential attention over the extended reals, once as the kernel forms it
   (block by block, two to the scores, the sums divided at the end) and once as the mathematics writes it (two softmax maps, their
   difference, the weighted sum of the values), and that the two agree when the numbers are finite. -/
module

public import Idealize.ShloMosaic.Lib.Pointwise
public import Idealize.ShloMosaic.PureOps.Ideal.Laws

@[expose] public section

noncomputable section

namespace Cert.Proof.AttnSpec

open Idealize.ShloMosaic

/-! ## The rotary turn -/

/-- The angle at a place of a head's row: the row's angles on the first half of each map, the column's on the second. -/
def ang (A C : Fin 16 → EReal) (d : Fin 128) : EReal :=
  if d.val % 64 < 32 then A ⟨d.val % 16, by omega⟩ else C ⟨d.val % 16, by omega⟩

def cosT (A C : Fin 16 → EReal) (d : Fin 128) : EReal := Ideal.cos (ang A C d)
def upT (A C : Fin 16 → EReal) (d : Fin 128) : EReal := if d.val % 32 < 16 then 0 else Ideal.sin (ang A C d)
def dnT (A C : Fin 16 → EReal) (d : Fin 128) : EReal := if d.val % 32 < 16 then -Ideal.sin (ang A C d) else 0

/-- A row turned by its angles, pair by pair. -/
def turn (x a : Fin 128 → EReal) (d : Fin 128) : EReal :=
  if d.val % 32 < 16 then x d * Ideal.cos (a d) - x ⟨(d.val + 16) % 128, by omega⟩ * Ideal.sin (a d)
  else x d * Ideal.cos (a d) + x ⟨(d.val + 112) % 128, by omega⟩ * Ideal.sin (a d)

/-- A row turned by the rotary tables: each place with its own, the one sixteen before and the one sixteen after. -/
def rope (x c u w : Fin 128 → EReal) (d : Fin 128) : EReal :=
  x d * c d + x ⟨(d.val + 128 - 16) % 128, Nat.mod_lt _ (by omega)⟩ * u d + x ⟨(d.val + 128 - 112) % 128, Nat.mod_lt _ (by omega)⟩ * w d

theorem rope_turn (x : Fin 128 → EReal) (A C : Fin 16 → EReal) : rope x (cosT A C) (upT A C) (dnT A C) = turn x (ang A C) := by
  funext d
  unfold rope turn cosT upT dnT
  split_ifs with h
  · rw [mul_zero, add_zero, mul_neg, sub_eq_add_neg]
    have e : (⟨(d.val + 128 - 112) % 128, Nat.mod_lt _ (by omega)⟩ : Fin 128) = ⟨(d.val + 16) % 128, by omega⟩ := Fin.ext (by dsimp only; omega)
    rw [e]
  · rw [mul_zero, add_zero]
    have e : (⟨(d.val + 128 - 16) % 128, Nat.mod_lt _ (by omega)⟩ : Fin 128) = ⟨(d.val + 112) % 128, by omega⟩ := Fin.ext (by dsimp only; omega)
    rw [e]

theorem turn_real (x a : Fin 128 → EReal) (hx : ∀ d, ∃ r : ℝ, x d = r) (ha : ∀ d, ∃ r : ℝ, a d = r) (d : Fin 128) :
    ∃ r : ℝ, turn x a d = r := by
  obtain ⟨θ, hθ⟩ := ha d
  obtain ⟨u, hu⟩ := hx d
  obtain ⟨v, hv⟩ := hx ⟨(d.val + 16) % 128, by omega⟩
  obtain ⟨w, hw⟩ := hx ⟨(d.val + 112) % 128, by omega⟩
  have hc : Ideal.cos (θ : EReal) = (Real.cos θ : ℝ) := rfl
  have hs : Ideal.sin (θ : EReal) = (Real.sin θ : ℝ) := rfl
  unfold turn
  rw [hθ, hu, hv, hw, hc, hs]
  split_ifs
  · exact ⟨u * Real.cos θ - v * Real.sin θ, by push_cast; rfl⟩
  · exact ⟨u * Real.cos θ + w * Real.sin θ, by push_cast; rfl⟩

/-! ## The two forms of a row -/

def kscore (q : Fin 128 → EReal) (K : Fin 256 → Fin 128 → EReal) (κ : Fin 256) : EReal := ∑ d : Fin 128, K κ d * q d

def mc : (n : Nat) → (Fin (n + 1) → EReal) → EReal
  | 0, f => f 0
  | n + 1, f => max (mc n fun i => f i.castSucc) (f (Fin.last (n + 1)))

def kmax (q : Fin 128 → EReal) (K : Fin 17 → Fin 256 → Fin 128 → EReal) : EReal :=
  mc 16 fun j => Finset.fold max (Ideal.ofBits FTy.f32 4286578688#32) (fun κ => kscore q (K j) κ) Finset.univ

def ksum (q : Fin 128 → EReal) (K : Fin 17 → Fin 256 → Fin 128 → EReal) : EReal :=
  0 + ∑ j, ∑ κ, Ideal.exp2 (kscore q (K j) κ - kmax q K)

def kval (q : Fin 128 → EReal) (K V : Fin 17 → Fin 256 → Fin 128 → EReal) (d : Fin 128) : EReal :=
  0 + ∑ j, ∑ κ, V j κ d * Ideal.exp2 (kscore q (K j) κ - kmax q K)

/-- The row as the kernel forms it, from the two masked queries. -/
def kdiff (q0 q1 : Fin 128 → EReal) (K V : Fin 17 → Fin 256 → Fin 128 → EReal) (lam : EReal) (d : Fin 128) : EReal :=
  kval q0 K V d * Ideal.div 1 (ksum q0 K) - kval q1 K V d * (lam * Ideal.div 1 (ksum q1 K))

/-- The score of a key in one of the two maps. -/
def rscore (q : Fin 128 → EReal) (K : Fin 4352 → Fin 128 → EReal) (m : Fin 2) (n : Fin 4352) : EReal :=
  (∑ e : Fin 64, q ⟨m.val * 64 + e.val, by omega⟩ * K n ⟨m.val * 64 + e.val, by omega⟩) * Ideal.ofBits FTy.f32 0x3E000000#32

def rmax (q : Fin 128 → EReal) (K : Fin 4352 → Fin 128 → EReal) (m : Fin 2) : EReal :=
  max (Ideal.ofBits FTy.f32 4286578688#32) (Finset.fold max (Ideal.ofBits FTy.f32 4286578688#32) (fun n => rscore q K m n) Finset.univ)

/-- The softmax of the scores. -/
def rmap (q : Fin 128 → EReal) (K : Fin 4352 → Fin 128 → EReal) (m : Fin 2) (n : Fin 4352) : EReal :=
  Ideal.div (Ideal.exp (rscore q K m n - rmax q K m)) (0 + ∑ n, Ideal.exp (rscore q K m n - rmax q K m))

/-- The row as the mathematics writes it. -/
def rdiff (q : Fin 128 → EReal) (K V : Fin 4352 → Fin 128 → EReal) (lam : EReal) (d : Fin 128) : EReal :=
  ∑ n, V n d * (rmap q K 0 n - lam * rmap q K 1 n)

/-! ## Finite numbers -/

theorem ninf : Ideal.ofBits FTy.f32 4286578688#32 = ⊥ := by simp [Ideal.ofBits, Ideal.ieee]

theorem eighth : Ideal.ofBits FTy.f32 0x3E000000#32 = ((1 / 8 : ℝ) : EReal) := by
  simp [Ideal.ofBits, Ideal.ieee]
  rw [← EReal.coe_mul]
  norm_num

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max' (a b : ℝ) : ((max a b : ℝ) : EReal) = max (a : EReal) b := by
  rcases le_total a b with h | h
  · rw [max_eq_right h, max_eq_right (EReal.coe_le_coe_iff.2 h)]
  · rw [max_eq_left h, max_eq_left (EReal.coe_le_coe_iff.2 h)]

theorem fold_real {ι : Type*} (s : Finset ι) (hs : s.Nonempty) (f : ι → EReal) (hf : ∀ i, ∃ r : ℝ, f i = r) :
    ∃ r : ℝ, Finset.fold max ⊥ f s = r := by
  classical
  induction hs using Finset.Nonempty.cons_induction with
  | singleton a => obtain ⟨r, h⟩ := hf a; exact ⟨r, by rw [Finset.fold_singleton, h, max_bot_right]⟩
  | cons a s ha hs ih =>
    obtain ⟨r, h⟩ := hf a
    obtain ⟨r', h'⟩ := ih
    exact ⟨max r r', by rw [Finset.fold_cons, h, h', ← coe_max']⟩

theorem mc_real : ∀ (n : Nat) (f : Fin (n + 1) → EReal), (∀ i, ∃ r : ℝ, f i = r) → ∃ r : ℝ, mc n f = r
  | 0, f, hf => hf 0
  | n + 1, f, hf => by
    obtain ⟨r, h⟩ := mc_real n (fun i => f i.castSucc) fun i => hf _
    obtain ⟨r', h'⟩ := hf (Fin.last (n + 1))
    exact ⟨max r r', by rw [mc, h, h', ← coe_max']⟩

/-- The key that place `κ` of block `j` is. -/
def key (j : Fin 17) (κ : Fin 256) : Fin 4352 := ⟨256 * j.val + κ.val, by omega⟩

theorem sum_key (f : Fin 4352 → ℝ) : ∑ j : Fin 17, ∑ κ : Fin 256, f (key j κ) = ∑ n, f n := by
  rw [← Fintype.sum_prod_type' (fun j κ => f (key j κ))]
  refine Fintype.sum_equiv (finProdFinEquiv (m := 17) (n := 256)) _ (fun n => f n) fun x => congrArg f (Fin.ext ?_)
  show 256 * x.1.val + x.2.val = x.2.val + 256 * x.1.val
  omega

theorem exp2_coe' (r : ℝ) : Ideal.exp2 (r : EReal) = ((Real.exp (Real.log 2 * r) : ℝ) : EReal) := by
  show ((Real.rpow 2 r : ℝ) : EReal) = _
  rw [Real.rpow_eq_pow, Real.rpow_def_of_pos (by norm_num)]

theorem exp_coe' (r : ℝ) : Ideal.exp (r : EReal) = ((Real.exp r : ℝ) : EReal) := rfl

section
variable (qr : Fin 128 → ℝ) (Kr Vr : Fin 4352 → Fin 128 → ℝ)

/-- The product of a query and a key in one of the two maps. -/
def dotr (m : Fin 2) (n : Fin 4352) : ℝ := ∑ e : Fin 64, qr ⟨m.val * 64 + e.val, by omega⟩ * Kr n ⟨m.val * 64 + e.val, by omega⟩

/-- The unnormalised weight. -/
def wr (m : Fin 2) (n : Fin 4352) : ℝ := Real.exp (dotr qr Kr m n * (1 / 8))

/-- The masked and scaled query of a map. -/
def qm (c : EReal) (m : Fin 2) (d : Fin 128) : EReal := if d.val / 64 = m.val then (qr d : EReal) * c else 0

theorem kscore_real (c : ℝ) (m : Fin 2) (j : Fin 17) (κ : Fin 256) :
    kscore (qm qr c m) (fun κ d => (Kr (key j κ) d : EReal)) κ = ((dotr qr Kr m (key j κ) * c : ℝ) : EReal) := by
  unfold kscore
  have h : ∀ d : Fin 128, (Kr (key j κ) d : EReal) * qm qr c m d
      = ((Kr (key j κ) d * (if d.val / 64 = m.val then qr d * c else 0) : ℝ) : EReal) := by
    intro d; unfold qm; split_ifs <;> push_cast <;> rfl
  rw [Finset.sum_congr rfl fun d _ => h d, sum_coe]
  congr 1
  generalize key j κ = n
  unfold dotr
  rw [Finset.sum_mul]
  refine (Fin.sum_univ_add (a := 64) (b := 64) (fun d : Fin 128 => Kr n d * (if d.val / 64 = m.val then qr d * c else 0))).trans ?_
  fin_cases m
  · rw [Finset.sum_eq_zero (s := Finset.univ) (f := fun i : Fin 64 => Kr n (Fin.natAdd 64 i) * _) (fun i _ => by
      rw [if_neg (by show ¬(64 + i.val) / 64 = 0; omega), mul_zero]), add_zero]
    refine Finset.sum_congr rfl fun e _ => ?_
    rw [if_pos (by show e.val / 64 = 0; omega)]
    have e1 : (Fin.castAdd 64 e : Fin 128) = ⟨0 * 64 + e.val, by omega⟩ := Fin.ext (by show e.val = 0 * 64 + e.val; omega)
    show Kr n (Fin.castAdd 64 e) * (qr (Fin.castAdd 64 e) * c) = qr ⟨0 * 64 + e.val, by omega⟩ * Kr n ⟨0 * 64 + e.val, by omega⟩ * c
    rw [e1]; ring
  · rw [Finset.sum_eq_zero (s := Finset.univ) (f := fun i : Fin 64 => Kr n (Fin.castAdd 64 i) * _) (fun i _ => by
      rw [if_neg (by show ¬i.val / 64 = 1; omega), mul_zero]), zero_add]
    refine Finset.sum_congr rfl fun e _ => ?_
    rw [if_pos (by show (64 + e.val) / 64 = 1; omega)]
    have e1 : (Fin.natAdd 64 e : Fin 128) = ⟨1 * 64 + e.val, by omega⟩ := Fin.ext (by show 64 + e.val = 1 * 64 + e.val; omega)
    show Kr n (Fin.natAdd 64 e) * (qr (Fin.natAdd 64 e) * c) = qr ⟨1 * 64 + e.val, by omega⟩ * Kr n ⟨1 * 64 + e.val, by omega⟩ * c
    rw [e1]; ring

theorem rscore_real (m : Fin 2) (n : Fin 4352) :
    rscore (fun d => (qr d : EReal)) (fun n d => (Kr n d : EReal)) m n = ((dotr qr Kr m n * (1 / 8) : ℝ) : EReal) := by
  unfold rscore dotr
  rw [eighth, EReal.coe_mul, ← sum_coe]
  congr 1

/-- The scale's value. -/
def sc : ℝ := (8 * Real.log 2)⁻¹

theorem log2_sc (x : ℝ) : Real.log 2 * (x * sc) = x * (1 / 8) := by
  have h : Real.log 2 ≠ 0 := (Real.log_pos (by norm_num)).ne'
  unfold sc
  field_simp

/-- The kernel's weights are the unnormalised weights times one positive number. -/
theorem kexp_real (m : Fin 2) : ∃ α : ℝ, 0 < α ∧ ∀ j κ,
    Ideal.exp2 (kscore (qm qr sc m) (fun κ d => (Kr (key j κ) d : EReal)) κ - kmax (qm qr sc m) fun j κ d => (Kr (key j κ) d : EReal))
      = ((wr qr Kr m (key j κ) * α : ℝ) : EReal) := by
  obtain ⟨M, hM⟩ : ∃ M : ℝ, kmax (qm qr sc m) (fun j κ d => (Kr (key j κ) d : EReal)) = M := by
    unfold kmax
    rw [ninf]
    exact mc_real _ _ fun j => fold_real _ ⟨0, Finset.mem_univ _⟩ _ fun κ => ⟨_, kscore_real qr Kr sc m j κ⟩
  refine ⟨Real.exp (-(Real.log 2 * M)), Real.exp_pos _, fun j κ => ?_⟩
  rw [hM, kscore_real, ← EReal.coe_sub, exp2_coe', mul_sub, log2_sc, sub_eq_add_neg, Real.exp_add]
  rfl

theorem rexp_real (m : Fin 2) : ∃ β : ℝ, 0 < β ∧ ∀ n,
    Ideal.exp (rscore (fun d => (qr d : EReal)) (fun n d => (Kr n d : EReal)) m n - rmax (fun d => (qr d : EReal)) (fun n d => (Kr n d : EReal)) m)
      = ((wr qr Kr m n * β : ℝ) : EReal) := by
  obtain ⟨M, hM⟩ : ∃ M : ℝ, rmax (fun d => (qr d : EReal)) (fun n d => (Kr n d : EReal)) m = M := by
    unfold rmax
    rw [ninf, max_bot_left]
    exact fold_real _ ⟨0, Finset.mem_univ _⟩ _ fun n => ⟨_, rscore_real qr Kr m n⟩
  refine ⟨Real.exp (-M), Real.exp_pos _, fun n => ?_⟩
  rw [hM, rscore_real, ← EReal.coe_sub, exp_coe', sub_eq_add_neg, Real.exp_add]
  rfl

theorem wsum_pos (m : Fin 2) : 0 < ∑ n, wr qr Kr m n :=
  Finset.sum_pos (fun n _ => Real.exp_pos _) ⟨0, Finset.mem_univ _⟩

/-- A value's weighted mean in one of the maps. -/
def mean (m : Fin 2) (d : Fin 128) : ℝ := (∑ n, Vr n d * wr qr Kr m n) / ∑ n, wr qr Kr m n

theorem kpart (m : Fin 2) (d : Fin 128) : ∃ a l : ℝ,
    kval (qm qr sc m) (fun j κ d => (Kr (key j κ) d : EReal)) (fun j κ d => (Vr (key j κ) d : EReal)) d = a
    ∧ Ideal.div 1 (ksum (qm qr sc m) fun j κ d => (Kr (key j κ) d : EReal)) = (l : EReal)
    ∧ a * l = mean qr Kr Vr m d := by
  obtain ⟨α, hα, h⟩ := kexp_real qr Kr m
  have hW := wsum_pos qr Kr m
  have hl : ksum (qm qr sc m) (fun j κ d => (Kr (key j κ) d : EReal)) = (((∑ n, wr qr Kr m n) * α : ℝ) : EReal) := by
    unfold ksum
    rw [zero_add]
    simp only [h, sum_coe]
    rw [sum_key (fun n => wr qr Kr m n * α), Finset.sum_mul]
  have ha : kval (qm qr sc m) (fun j κ d => (Kr (key j κ) d : EReal)) (fun j κ d => (Vr (key j κ) d : EReal)) d
      = (((∑ n, Vr n d * wr qr Kr m n) * α : ℝ) : EReal) := by
    unfold kval
    rw [zero_add]
    simp only [h, ← EReal.coe_mul, sum_coe]
    rw [sum_key (fun n => Vr n d * (wr qr Kr m n * α)), Finset.sum_mul]
    simp only [mul_assoc]
  refine ⟨_, 1 / ((∑ n, wr qr Kr m n) * α), ha, ?_, ?_⟩
  · rw [hl, Ideal.div_coe (mul_pos hW hα).ne', one_mul]
  · unfold mean
    have := hW.ne'
    have := hα.ne'
    field_simp

theorem rmap_real (m : Fin 2) (n : Fin 4352) : rmap (fun d => (qr d : EReal)) (fun n d => (Kr n d : EReal)) m n
    = ((wr qr Kr m n / ∑ n, wr qr Kr m n : ℝ) : EReal) := by
  obtain ⟨β, hβ, h⟩ := rexp_real qr Kr m
  have hW := wsum_pos qr Kr m
  unfold rmap
  rw [zero_add]
  simp only [h, sum_coe]
  rw [← Finset.sum_mul, Ideal.div_coe (mul_pos hW hβ).ne', ← EReal.coe_mul]
  congr 1
  have := hW.ne'
  have := hβ.ne'
  field_simp

theorem rdiff_real (lr : ℝ) (d : Fin 128) :
    rdiff (fun d => (qr d : EReal)) (fun n d => (Kr n d : EReal)) (fun n d => (Vr n d : EReal)) lr d
      = ((mean qr Kr Vr 0 d - lr * mean qr Kr Vr 1 d : ℝ) : EReal) := by
  unfold rdiff
  simp only [rmap_real, ← EReal.coe_mul, ← EReal.coe_sub, sum_coe]
  congr 1
  unfold mean
  rw [Finset.sum_div, Finset.sum_div, Finset.mul_sum, ← Finset.sum_sub_distrib]
  refine Finset.sum_congr rfl fun n _ => ?_
  ring

/-- The two forms agree on finite numbers. -/
theorem kdiff_eq (lr : ℝ) (d : Fin 128) :
    kdiff (qm qr sc 0) (qm qr sc 1) (fun j κ d => (Kr (key j κ) d : EReal)) (fun j κ d => (Vr (key j κ) d : EReal)) lr d
      = rdiff (fun d => (qr d : EReal)) (fun n d => (Kr n d : EReal)) (fun n d => (Vr n d : EReal)) lr d := by
  obtain ⟨a0, l0, ha0, hl0, h0⟩ := kpart qr Kr Vr 0 d
  obtain ⟨a1, l1, ha1, hl1, h1⟩ := kpart qr Kr Vr 1 d
  unfold kdiff
  rw [rdiff_real, ha0, hl0, ha1, hl1, ← h0, ← h1, ← EReal.coe_mul, ← EReal.coe_mul, ← EReal.coe_mul, ← EReal.coe_sub]
  exact congrArg Real.toEReal (by ring)

end

end Cert.Proof.AttnSpec

end
-- ==== Proof.AttnRefTurn.lean ====
/- Hand-written, untrusted: the rotary turn of the attention's reference, read at a place. -/
module

public import proofs.«01_k».proof.Proof.AttnRefCat
public import proofs.«01_k».proof.Proof.AttnSpec
public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.Proof.AttnRef

open Cert.ReferenceIdeal Cert.ReferenceIdeal.Read Idealize.ShloMosaic Idealize.ShloMosaic.TcCoe Idealize.SL.Sem
open Cert.Proof.AttnSpec

variable (x0 : Vec Ideal S16384x16128 .f32) (x1 : Vec Ideal S1024x16128 .f32) (x2 : Vec Ideal S4x4x64 .f32) (x3 : Vec Ideal S4x128 .f32)

theorem atv62 (b : Fin 4) (s : Fin 4096) (h : Fin 4) (m : Fin 2) (n : Fin 16) :
    (val_main_v62 (F := Ideal) x0 (ix5 b s h m n) : EReal)
      = x0 (ix2 ⟨b.val * 4096 + s.val, by omega⟩ ⟨13824 + (h.val * 128 + m.val * 64 + n.val), by omega⟩) * Ideal.cos (val_main_v45 (F := Ideal) (ix2 s n))
        - x0 (ix2 ⟨b.val * 4096 + s.val, by omega⟩ ⟨13824 + (h.val * 128 + m.val * 64 + (16 + n.val)), by omega⟩) * Ideal.sin (val_main_v45 (F := Ideal) (ix2 s n)) := by
  unfold val_main_v62 val_main_v61 val_main_v60 val_main_v59 val_main_v58 val_main_v57 val_main_v56 val_main_v55 val_main_v54
  generalize val_main_v45 (F := Ideal) = w
  pointwise [val_main_v53, val_main_v52, val_main_v51, val_main_v1, val_main_v0]

theorem atv67 (b : Fin 4) (s : Fin 4096) (h : Fin 4) (m : Fin 2) (n : Fin 16) :
    (val_main_v67 (F := Ideal) x0 (ix5 b s h m n) : EReal)
      = x0 (ix2 ⟨b.val * 4096 + s.val, by omega⟩ ⟨13824 + (h.val * 128 + m.val * 64 + (16 + n.val)), by omega⟩) * Ideal.cos (val_main_v45 (F := Ideal) (ix2 s n))
        + x0 (ix2 ⟨b.val * 4096 + s.val, by omega⟩ ⟨13824 + (h.val * 128 + m.val * 64 + n.val), by omega⟩) * Ideal.sin (val_main_v45 (F := Ideal) (ix2 s n)) := by
  unfold val_main_v67 val_main_v66 val_main_v65 val_main_v64 val_main_v63 val_main_v57 val_main_v56 val_main_v55 val_main_v54
  generalize val_main_v45 (F := Ideal) = w
  pointwise [val_main_v53, val_main_v52, val_main_v51, val_main_v1, val_main_v0]

theorem atv80 (b : Fin 4) (s : Fin 4096) (h : Fin 4) (m : Fin 2) (n : Fin 16) :
    (val_main_v80 (F := Ideal) x0 (ix5 b s h m n) : EReal)
      = x0 (ix2 ⟨b.val * 4096 + s.val, by omega⟩ ⟨13824 + (h.val * 128 + m.val * 64 + (32 + n.val)), by omega⟩) * Ideal.cos (val_main_v50 (F := Ideal) (ix2 s n))
        - x0 (ix2 ⟨b.val * 4096 + s.val, by omega⟩ ⟨13824 + (h.val * 128 + m.val * 64 + (32 + (16 + n.val))), by omega⟩) * Ideal.sin (val_main_v50 (F := Ideal) (ix2 s n)) := by
  unfold val_main_v80 val_main_v79 val_main_v78 val_main_v77 val_main_v76 val_main_v75 val_main_v74 val_main_v73 val_main_v72
  generalize val_main_v50 (F := Ideal) = w
  pointwise [val_main_v71, val_main_v70, val_main_v69, val_main_v1, val_main_v0]

theorem atv85 (b : Fin 4) (s : Fin 4096) (h : Fin 4) (m : Fin 2) (n : Fin 16) :
    (val_main_v85 (F := Ideal) x0 (ix5 b s h m n) : EReal)
      = x0 (ix2 ⟨b.val * 4096 + s.val, by omega⟩ ⟨13824 + (h.val * 128 + m.val * 64 + (32 + (16 + n.val))), by omega⟩) * Ideal.cos (val_main_v50 (F := Ideal) (ix2 s n))
        + x0 (ix2 ⟨b.val * 4096 + s.val, by omega⟩ ⟨13824 + (h.val * 128 + m.val * 64 + (32 + n.val)), by omega⟩) * Ideal.sin (val_main_v50 (F := Ideal) (ix2 s n)) := by
  unfold val_main_v85 val_main_v84 val_main_v83 val_main_v82 val_main_v81 val_main_v75 val_main_v74 val_main_v73 val_main_v72
  generalize val_main_v50 (F := Ideal) = w
  pointwise [val_main_v71, val_main_v70, val_main_v69, val_main_v1, val_main_v0]

theorem atv99 (b : Fin 4) (s : Fin 4096) (h : Fin 4) (m : Fin 2) (n : Fin 16) :
    (val_main_v99 (F := Ideal) x0 (ix5 b s h m n) : EReal)
      = x0 (ix2 ⟨b.val * 4096 + s.val, by omega⟩ ⟨14336 + (h.val * 128 + m.val * 64 + n.val), by omega⟩) * Ideal.cos (val_main_v45 (F := Ideal) (ix2 s n))
        - x0 (ix2 ⟨b.val * 4096 + s.val, by omega⟩ ⟨14336 + (h.val * 128 + m.val * 64 + (16 + n.val)), by omega⟩) * Ideal.sin (val_main_v45 (F := Ideal) (ix2 s n)) := by
  unfold val_main_v99 val_main_v98 val_main_v97 val_main_v96 val_main_v95 val_main_v94 val_main_v93 val_main_v92 val_main_v91
  generalize val_main_v45 (F := Ideal) = w
  pointwise [val_main_v90, val_main_v89, val_main_v88, val_main_v3, val_main_v2]

theorem atv104 (b : Fin 4) (s : Fin 4096) (h : Fin 4) (m : Fin 2) (n : Fin 16) :
    (val_main_v104 (F := Ideal) x0 (ix5 b s h m n) : EReal)
      = x0 (ix2 ⟨b.val * 4096 + s.val, by omega⟩ ⟨14336 + (h.val * 128 + m.val * 64 + (16 + n.val)), by omega⟩) * Ideal.cos (val_main_v45 (F := Ideal) (ix2 s n))
        + x0 (ix2 ⟨b.val * 4096 + s.val, by omega⟩ ⟨14336 + (h.val * 128 + m.val * 64 + n.val), by omega⟩) * Ideal.sin (val_main_v45 (F := Ideal) (ix2 s n)) := by
  unfold val_main_v104 val_main_v103 val_main_v102 val_main_v101 val_main_v100 val_main_v94 val_main_v93 val_main_v92 val_main_v91
  generalize val_main_v45 (F := Ideal) = w
  pointwise [val_main_v90, val_main_v89, val_main_v88, val_main_v3, val_main_v2]

theorem atv117 (b : Fin 4) (s : Fin 4096) (h : Fin 4) (m : Fin 2) (n : Fin 16) :
    (val_main_v117 (F := Ideal) x0 (ix5 b s h m n) : EReal)
      = x0 (ix2 ⟨b.val * 4096 + s.val, by omega⟩ ⟨14336 + (h.val * 128 + m.val * 64 + (32 + n.val)), by omega⟩) * Ideal.cos (val_main_v50 (F := Ideal) (ix2 s n))
        - x0 (ix2 ⟨b.val * 4096 + s.val, by omega⟩ ⟨14336 + (h.val * 128 + m.val * 64 + (32 + (16 + n.val))), by omega⟩) * Ideal.sin (val_main_v50 (F := Ideal) (ix2 s n)) := by
  unfold val_main_v117 val_main_v116 val_main_v115 val_main_v114 val_main_v113 val_main_v112 val_main_v111 val_main_v110 val_main_v109
  generalize val_main_v50 (F := Ideal) = w
  pointwise [val_main_v108, val_main_v107, val_main_v106, val_main_v3, val_main_v2]

theorem atv122 (b : Fin 4) (s : Fin 4096) (h : Fin 4) (m : Fin 2) (n : Fin 16) :
    (val_main_v122 (F := Ideal) x0 (ix5 b s h m n) : EReal)
      = x0 (ix2 ⟨b.val * 4096 + s.val, by omega⟩ ⟨14336 + (h.val * 128 + m.val * 64 + (32 + (16 + n.val))), by omega⟩) * Ideal.cos (val_main_v50 (F := Ideal) (ix2 s n))
        + x0 (ix2 ⟨b.val * 4096 + s.val, by omega⟩ ⟨14336 + (h.val * 128 + m.val * 64 + (32 + n.val)), by omega⟩) * Ideal.sin (val_main_v50 (F := Ideal) (ix2 s n)) := by
  unfold val_main_v122 val_main_v121 val_main_v120 val_main_v119 val_main_v118 val_main_v112 val_main_v111 val_main_v110 val_main_v109
  generalize val_main_v50 (F := Ideal) = w
  pointwise [val_main_v108, val_main_v107, val_main_v106, val_main_v3, val_main_v2]

/-- A head's row of the packed projection: its 128 columns, from `base` on. -/
def row (base : Nat) (hb : base ≤ 15616) (b : Fin 4) (s : Fin 4096) (h : Fin 4) (d : Fin 128) : EReal :=
  x0 (ix2 ⟨b.val * 4096 + s.val, by omega⟩ ⟨base + (h.val * 128 + d.val), by omega⟩)

/-- The angles of a latent token. -/
def angs (s : Fin 4096) : Fin 128 → EReal :=
  ang (fun i => (val_main_v45 (F := Ideal) (ix2 s i) : EReal)) fun i => (val_main_v50 (F := Ideal) (ix2 s i) : EReal)

theorem turn_lo (x a : Fin 128 → EReal) (d d' : Fin 128) (h : d.val % 32 < 16) (hd : d'.val = d.val + 16) :
    turn x a d = x d * Ideal.cos (a d) - x d' * Ideal.sin (a d) := by
  unfold turn
  rw [if_pos h]
  have e : (⟨(d.val + 16) % 128, by omega⟩ : Fin 128) = d' := Fin.ext (by have := d'.isLt; show (d.val + 16) % 128 = d'.val; omega)
  rw [e]

theorem turn_hi (x a : Fin 128 → EReal) (d d' : Fin 128) (h : ¬d.val % 32 < 16) (hd : d'.val + 16 = d.val) :
    turn x a d = x d * Ideal.cos (a d) + x d' * Ideal.sin (a d) := by
  unfold turn
  rw [if_neg h]
  have e : (⟨(d.val + 112) % 128, by omega⟩ : Fin 128) = d' := Fin.ext (by have := d.isLt; show (d.val + 112) % 128 = d'.val; omega)
  rw [e]

theorem ang_row (A C : Fin 16 → EReal) (d : Fin 128) (n : Fin 16) (h : d.val % 64 < 32) (hn : n.val = d.val % 16) : ang A C d = A n := by
  unfold ang
  rw [if_pos h]
  exact congrArg A (Fin.ext hn.symm)

theorem ang_col (A C : Fin 16 → EReal) (d : Fin 128) (n : Fin 16) (h : ¬d.val % 64 < 32) (hn : n.val = d.val % 16) : ang A C d = C n := by
  unfold ang
  rw [if_neg h]
  exact congrArg C (Fin.ext hn.symm)

theorem atv87 (b : Fin 4) (s : Fin 4096) (h : Fin 4) (m : Fin 2) (n : Fin 64) :
    (val_main_v87 (F := Ideal) x0 (ix5 b s h m n) : EReal)
      = turn (row x0 13824 (by omega) b s h) (angs s) ⟨m.val * 64 + n.val, by omega⟩ := by
  have hn := n.isLt
  have hm := m.isLt
  unfold val_main_v87 angs
  rw [cat32]
  by_cases h1 : n.val < 32
  · rw [dif_pos h1]
    unfold val_main_v68
    rw [cat16]
    by_cases h2 : n.val < 16
    · rw [dif_pos (by show n.val - 0 < 16; omega), atv62, turn_lo _ _ _ ⟨m.val * 64 + (16 + n.val), by omega⟩ (by show (m.val * 64 + n.val) % 32 < 16; omega) (by show m.val * 64 + (16 + n.val) = m.val * 64 + n.val + 16; omega),
        ang_row _ _ _ ⟨n.val - 0 - 0, by omega⟩ (by show (m.val * 64 + n.val) % 64 < 32; omega) (by show n.val - 0 - 0 = (m.val * 64 + n.val) % 16; omega)]
      refine congrArg₂ (· - ·) (congrArg₂ (· * ·) (congrArg (fun c => x0 (ix2 _ c)) (Fin.ext ?_)) rfl) (congrArg₂ (· * ·) (congrArg (fun c => x0 (ix2 _ c)) (Fin.ext ?_)) rfl) <;> dsimp only <;> omega
    · rw [dif_neg (by show ¬n.val - 0 < 16; omega), atv67, turn_hi _ _ _ ⟨m.val * 64 + (n.val - 16), by omega⟩ (by show ¬(m.val * 64 + n.val) % 32 < 16; omega) (by show m.val * 64 + (n.val - 16) + 16 = m.val * 64 + n.val; omega),
        ang_row _ _ _ ⟨n.val - 0 - 16, by omega⟩ (by show (m.val * 64 + n.val) % 64 < 32; omega) (by show n.val - 0 - 16 = (m.val * 64 + n.val) % 16; omega)]
      refine congrArg₂ (· + ·) (congrArg₂ (· * ·) (congrArg (fun c => x0 (ix2 _ c)) (Fin.ext ?_)) rfl) (congrArg₂ (· * ·) (congrArg (fun c => x0 (ix2 _ c)) (Fin.ext ?_)) rfl) <;> dsimp only <;> omega
  · rw [dif_neg h1]
    unfold val_main_v86
    rw [cat16]
    by_cases h2 : n.val - 32 < 16
    · rw [dif_pos h2, atv80, turn_lo _ _ _ ⟨m.val * 64 + (16 + n.val), by omega⟩ (by show (m.val * 64 + n.val) % 32 < 16; omega) (by show m.val * 64 + (16 + n.val) = m.val * 64 + n.val + 16; omega),
        ang_col _ _ _ ⟨n.val - 32 - 0, by omega⟩ (by show ¬(m.val * 64 + n.val) % 64 < 32; omega) (by show n.val - 32 - 0 = (m.val * 64 + n.val) % 16; omega)]
      refine congrArg₂ (· - ·) (congrArg₂ (· * ·) (congrArg (fun c => x0 (ix2 _ c)) (Fin.ext ?_)) rfl) (congrArg₂ (· * ·) (congrArg (fun c => x0 (ix2 _ c)) (Fin.ext ?_)) rfl) <;> dsimp only <;> omega
    · rw [dif_neg h2, atv85, turn_hi _ _ _ ⟨m.val * 64 + (n.val - 16), by omega⟩ (by show ¬(m.val * 64 + n.val) % 32 < 16; omega) (by show m.val * 64 + (n.val - 16) + 16 = m.val * 64 + n.val; omega),
        ang_col _ _ _ ⟨n.val - 32 - 16, by omega⟩ (by show ¬(m.val * 64 + n.val) % 64 < 32; omega) (by show n.val - 32 - 16 = (m.val * 64 + n.val) % 16; omega)]
      refine congrArg₂ (· + ·) (congrArg₂ (· * ·) (congrArg (fun c => x0 (ix2 _ c)) (Fin.ext ?_)) rfl) (congrArg₂ (· * ·) (congrArg (fun c => x0 (ix2 _ c)) (Fin.ext ?_)) rfl) <;> dsimp only <;> omega

theorem atv124 (b : Fin 4) (s : Fin 4096) (h : Fin 4) (m : Fin 2) (n : Fin 64) :
    (val_main_v124 (F := Ideal) x0 (ix5 b s h m n) : EReal)
      = turn (row x0 14336 (by omega) b s h) (angs s) ⟨m.val * 64 + n.val, by omega⟩ := by
  have hn := n.isLt
  have hm := m.isLt
  unfold val_main_v124 angs
  rw [cat32]
  by_cases h1 : n.val < 32
  · rw [dif_pos h1]
    unfold val_main_v105
    rw [cat16]
    by_cases h2 : n.val < 16
    · rw [dif_pos (by show n.val - 0 < 16; omega), atv99, turn_lo _ _ _ ⟨m.val * 64 + (16 + n.val), by omega⟩ (by show (m.val * 64 + n.val) % 32 < 16; omega) (by show m.val * 64 + (16 + n.val) = m.val * 64 + n.val + 16; omega),
        ang_row _ _ _ ⟨n.val - 0 - 0, by omega⟩ (by show (m.val * 64 + n.val) % 64 < 32; omega) (by show n.val - 0 - 0 = (m.val * 64 + n.val) % 16; omega)]
      refine congrArg₂ (· - ·) (congrArg₂ (· * ·) (congrArg (fun c => x0 (ix2 _ c)) (Fin.ext ?_)) rfl) (congrArg₂ (· * ·) (congrArg (fun c => x0 (ix2 _ c)) (Fin.ext ?_)) rfl) <;> dsimp only <;> omega
    · rw [dif_neg (by show ¬n.val - 0 < 16; omega), atv104, turn_hi _ _ _ ⟨m.val * 64 + (n.val - 16), by omega⟩ (by show ¬(m.val * 64 + n.val) % 32 < 16; omega) (by show m.val * 64 + (n.val - 16) + 16 = m.val * 64 + n.val; omega),
        ang_row _ _ _ ⟨n.val - 0 - 16, by omega⟩ (by show (m.val * 64 + n.val) % 64 < 32; omega) (by show n.val - 0 - 16 = (m.val * 64 + n.val) % 16; omega)]
      refine congrArg₂ (· + ·) (congrArg₂ (· * ·) (congrArg (fun c => x0 (ix2 _ c)) (Fin.ext ?_)) rfl) (congrArg₂ (· * ·) (congrArg (fun c => x0 (ix2 _ c)) (Fin.ext ?_)) rfl) <;> dsimp only <;> omega
  · rw [dif_neg h1]
    unfold val_main_v123
    rw [cat16]
    by_cases h2 : n.val - 32 < 16
    · rw [dif_pos h2, atv117, turn_lo _ _ _ ⟨m.val * 64 + (16 + n.val), by omega⟩ (by show (m.val * 64 + n.val) % 32 < 16; omega) (by show m.val * 64 + (16 + n.val) = m.val * 64 + n.val + 16; omega),
        ang_col _ _ _ ⟨n.val - 32 - 0, by omega⟩ (by show ¬(m.val * 64 + n.val) % 64 < 32; omega) (by show n.val - 32 - 0 = (m.val * 64 + n.val) % 16; omega)]
      refine congrArg₂ (· - ·) (congrArg₂ (· * ·) (congrArg (fun c => x0 (ix2 _ c)) (Fin.ext ?_)) rfl) (congrArg₂ (· * ·) (congrArg (fun c => x0 (ix2 _ c)) (Fin.ext ?_)) rfl) <;> dsimp only <;> omega
    · rw [dif_neg h2, atv122, turn_hi _ _ _ ⟨m.val * 64 + (n.val - 16), by omega⟩ (by show ¬(m.val * 64 + n.val) % 32 < 16; omega) (by show m.val * 64 + (n.val - 16) + 16 = m.val * 64 + n.val; omega),
        ang_col _ _ _ ⟨n.val - 32 - 16, by omega⟩ (by show ¬(m.val * 64 + n.val) % 64 < 32; omega) (by show n.val - 32 - 16 = (m.val * 64 + n.val) % 16; omega)]
      refine congrArg₂ (· + ·) (congrArg₂ (· * ·) (congrArg (fun c => x0 (ix2 _ c)) (Fin.ext ?_)) rfl) (congrArg₂ (· * ·) (congrArg (fun c => x0 (ix2 _ c)) (Fin.ext ?_)) rfl) <;> dsimp only <;> omega

/-- The context's row. -/
def crow (base : Nat) (hb : base ≤ 15616) (b : Fin 4) (s : Fin 256) (h : Fin 4) (d : Fin 128) : EReal :=
  x1 (ix2 ⟨b.val * 256 + s.val, by omega⟩ ⟨base + (h.val * 128 + d.val), by omega⟩)

theorem atv9 (b : Fin 4) (s : Fin 256) (h : Fin 4) (m : Fin 2) (n : Fin 64) :
    (val_main_v9 (F := Ideal) x1 (ix5 b s h m n) : EReal) = crow x1 14336 (by omega) b s h ⟨m.val * 64 + n.val, by omega⟩ := by
  have e : (val_main_v9 (F := Ideal) x1 (ix5 b s h m n) : EReal)
      = x1 (ix2 ⟨b.val * 256 + s.val, by omega⟩ ⟨14336 + (h.val * 128 + m.val * 64 + n.val), by omega⟩) := by
    pointwise [val_main_v9, val_main_v8]
  rw [e]
  exact congrArg (fun c => x1 (ix2 _ c)) (Fin.ext (by dsimp only; omega))

theorem atv11 (b : Fin 4) (s : Fin 256) (h : Fin 4) (d : Fin 128) :
    (val_main_v11 (F := Ideal) x1 (ix4 b s h d) : EReal) = crow x1 14848 (by omega) b s h d := by
  unfold crow
  pointwise [val_main_v11, val_main_v10]

theorem atv5 (b : Fin 4) (s : Fin 4096) (h : Fin 4) (d : Fin 128) :
    (val_main_v5 (F := Ideal) x0 (ix4 b s h d) : EReal) = row x0 14848 (by omega) b s h d := by
  unfold row
  pointwise [val_main_v5, val_main_v4]

/-- The keys: the latent tokens' turned, then the context's. -/
def keys (b h : Fin 4) (n : Fin 4352) (d : Fin 128) : EReal :=
  if hn : n.val < 4096 then turn (row x0 14336 (by omega) b ⟨n.val, hn⟩ h) (angs ⟨n.val, hn⟩) d
  else crow x1 14336 (by omega) b ⟨n.val - 4096, by omega⟩ h d

/-- The values: the latent tokens', then the context's. -/
def vals (b h : Fin 4) (n : Fin 4352) (d : Fin 128) : EReal :=
  if hn : n.val < 4096 then row x0 14848 (by omega) b ⟨n.val, hn⟩ h d
  else crow x1 14848 (by omega) b ⟨n.val - 4096, by omega⟩ h d

theorem atv125 (b : Fin 4) (n : Fin 4352) (h : Fin 4) (m : Fin 2) (e : Fin 64) :
    (val_main_v125 (F := Ideal) x0 x1 (ix5 b n h m e) : EReal) = keys x0 x1 b h n ⟨m.val * 64 + e.val, by omega⟩ := by
  unfold val_main_v125 keys
  rw [catK]
  by_cases hn : n.val < 4096
  · rw [dif_pos hn, dif_pos hn, atv124]; rfl
  · rw [dif_neg hn, dif_neg hn, atv9]

theorem atv126 (b : Fin 4) (n : Fin 4352) (h : Fin 4) (d : Fin 128) :
    (val_main_v126 (F := Ideal) x0 x1 (ix4 b n h d) : EReal) = vals x0 x1 b h n d := by
  unfold val_main_v126 vals
  rw [catV]
  by_cases hn : n.val < 4096
  · rw [dif_pos hn, dif_pos hn, atv5]; rfl
  · rw [dif_neg hn, dif_neg hn, atv11]

end Cert.Proof.AttnRef

end
-- ==== Proof.AttnRef.lean ====
/- Hand-written, untrusted: the attention's reference, read at a row. -/
module

public import proofs.«01_k».proof.Proof.AttnRefTurn
public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.Proof.AttnRef

open Cert.ReferenceIdeal Cert.ReferenceIdeal.Read Idealize.ShloMosaic Idealize.ShloMosaic.TcCoe Idealize.SL.Sem
open Cert.Proof.AttnSpec

variable (x0 : Vec Ideal S16384x16128 .f32) (x1 : Vec Ideal S1024x16128 .f32) (x2 : Vec Ideal S4x4x64 .f32) (x3 : Vec Ideal S4x128 .f32)

theorem e136 (b : Fin 4) (h : Fin 4) (m : Fin 2) (s : Fin 4096) (n : Fin 4352) : (val_main_v136 (F := Ideal) x0 x1 (ix5 b h m s n) : EReal)
    = Ideal.exp ((val_main_v129 (F := Ideal) x0 x1 (ix5 b h m s n) : EReal) - val_main_v132 (F := Ideal) x0 x1 (ix4 b h m s)) := by
  have e : idx_main_v133 (idx_main_v134 (ix5 b h m s n)) = ix4 b h m s := by
    funext a
    match a with
    | ⟨0, _⟩ => rfl
    | ⟨1, _⟩ => rfl
    | ⟨2, _⟩ => rfl
    | ⟨3, _⟩ => rfl
  rw [val_main_v136_apply, val_main_v135_apply, val_main_v134_apply, val_main_v133_apply, e]
  generalize val_main_v129 (F := Ideal) x0 x1 (ix5 b h m s n) = A
  generalize val_main_v132 (F := Ideal) x0 x1 (ix4 b h m s) = B
  rfl

theorem e139 (b : Fin 4) (h : Fin 4) (m : Fin 2) (s : Fin 4096) (n : Fin 4352) :
    (val_main_v139 (F := Ideal) x0 x1 (ix5 b h m s n) : EReal) = 0 + ∑ n : Fin 4352, (val_main_v136 (F := Ideal) x0 x1 (ix5 b h m s n) : EReal) := by
  have e : idx_main_v138 (idx_main_v139 (ix5 b h m s n)) = ix4 b h m s := by
    funext a
    match a with
    | ⟨0, _⟩ => rfl
    | ⟨1, _⟩ => rfl
    | ⟨2, _⟩ => rfl
    | ⟨3, _⟩ => rfl
  have e' : ∀ n, idx_main_v137 (ix4 b h m s) n = ix5 b h m s n := by
    intro n
    funext a
    match a with
    | ⟨0, _⟩ => rfl
    | ⟨1, _⟩ => rfl
    | ⟨2, _⟩ => rfl
    | ⟨3, _⟩ => rfl
    | ⟨4, _⟩ => rfl
  have z : (val_main_cst_8 (F := Ideal) (Shape.Idx.first Gen.h_S_) : EReal) = 0 := (val_main_cst_8_apply (F := Ideal) _).trans Ideal.ofBits_zero_f32
  rw [val_main_v139_apply, val_main_v138_apply, e, val_main_v137_apply, z]
  simp only [e']

theorem map_apply (b : Fin 4) (h : Fin 4) (m : Fin 2) (s : Fin 4096) (n : Fin 4352) : (val_main_v140 (F := Ideal) x0 x1 (ix5 b h m s n) : EReal)
    = Ideal.div (Ideal.exp ((val_main_v129 (F := Ideal) x0 x1 (ix5 b h m s n) : EReal) - val_main_v132 (F := Ideal) x0 x1 (ix4 b h m s)))
      (0 + ∑ n : Fin 4352, Ideal.exp ((val_main_v129 (F := Ideal) x0 x1 (ix5 b h m s n) : EReal) - val_main_v132 (F := Ideal) x0 x1 (ix4 b h m s))) := by
  rw [val_main_v140_apply, Ideal.hostDivf_def, e139, e136]
  simp only [e136]

theorem e147 (b : Fin 4) (h : Fin 4) (s : Fin 4096) (n : Fin 4352) : (val_main_v147 (F := Ideal) x0 x1 x2 (ix4 b h s n) : EReal)
   = val_main_v140 (F := Ideal) x0 x1 (ix5 b h 0 s n) - val_main_v29 (F := Ideal) x2 ix0 * val_main_v140 (F := Ideal) x0 x1 (ix5 b h 1 s n) := by
  have e0 : idx_main_v141 (idx_main_v142 (ix4 b h s n)) = ix5 b h 0 s n := by
    funext a
    apply Fin.ext
    match a with
    | ⟨0, _⟩ => show _ = b.val; simp <;> omega
    | ⟨1, _⟩ => show _ = h.val; simp <;> omega
    | ⟨2, _⟩ => rfl
    | ⟨3, _⟩ => show _ = s.val; simp <;> omega
    | ⟨4, _⟩ => show _ = n.val; simp <;> omega
  have e1 : idx_main_v143 (idx_main_v144 (ix4 b h s n)) = ix5 b h 1 s n := by
    funext a
    apply Fin.ext
    match a with
    | ⟨0, _⟩ => show _ = b.val; simp <;> omega
    | ⟨1, _⟩ => show _ = h.val; simp <;> omega
    | ⟨2, _⟩ => rfl
    | ⟨3, _⟩ => show _ = s.val; simp <;> omega
    | ⟨4, _⟩ => show _ = n.val; simp <;> omega
  have e2 : idx_main_v145 (ix4 b h s n) = ix0 := funext fun a => a.elim0
  rw [val_main_v147_apply, val_main_v146_apply, val_main_v145_apply, val_main_v144_apply, val_main_v143_apply, val_main_v142_apply, val_main_v141_apply, e0, e1, e2]
  generalize val_main_v140 (F := Ideal) x0 x1 (ix5 b h 0 s n) = A
  generalize val_main_v140 (F := Ideal) x0 x1 (ix5 b h 1 s n) = B
  generalize val_main_v29 (F := Ideal) x2 ix0 = C
  rfl

theorem diff_apply (b : Fin 4) (h : Fin 4) (d : Fin 128) (s : Fin 4096)  : (val_main_v149 (F := Ideal) x0 x1 x2 (ix4 b s h d) : EReal)
    = ∑ n : Fin 4352, (val_main_v126 (F := Ideal) x0 x1 (ix4 b n h d) : EReal) * (val_main_v140 (F := Ideal) x0 x1 (ix5 b h 0 s n) - val_main_v29 (F := Ideal) x2 ix0 * val_main_v140 (F := Ideal) x0 x1 (ix5 b h 1 s n)) := by
  have l : ∀ n, lidx_main_v148 (idx_main_v149 (ix4 b s h d)) n = ix4 b n h d := by
    intro n
    funext a
    match a with
    | ⟨0, _⟩ => rfl
    | ⟨1, _⟩ => rfl
    | ⟨2, _⟩ => rfl
    | ⟨3, _⟩ => rfl
  have r : ∀ n, ridx_main_v148 (idx_main_v149 (ix4 b s h d)) n = ix4 b h s n := by
    intro n
    funext a
    match a with
    | ⟨0, _⟩ => rfl
    | ⟨1, _⟩ => rfl
    | ⟨2, _⟩ => rfl
    | ⟨3, _⟩ => rfl
  rw [val_main_v149_apply, val_main_v148_apply]
  simp only [l, r, e147]

/-- The turned query of a latent token. -/
def qry (b h : Fin 4) (s : Fin 4096) : Fin 128 → EReal := turn (row x0 13824 (by omega) b s h) (angs s)

theorem at129 (b : Fin 4) (h : Fin 4) (m : Fin 2) (s : Fin 4096) (n : Fin 4352) :
    (val_main_v129 (F := Ideal) x0 x1 (ix5 b h m s n) : EReal) = rscore (qry x0 b h s) (keys x0 x1 b h) m n := by
  have e : (val_main_v129 (F := Ideal) x0 x1 (ix5 b h m s n) : EReal)
      = (∑ x : Fin 64, (val_main_v87 (F := Ideal) x0 (ix5 b s h m x) : EReal) * val_main_v125 (F := Ideal) x0 x1 (ix5 b n h m x)) * val_main_cst_5 (F := Ideal) ix0 := by
    unfold val_main_v129 val_main_v127
    generalize val_main_v87 (F := Ideal) x0 = w
    generalize val_main_v125 (F := Ideal) x0 x1 = w'
    pointwise [val_main_v128]
  rw [e]
  simp only [atv87, atv125]
  rfl

theorem at132 (b : Fin 4) (h : Fin 4) (m : Fin 2) (s : Fin 4096) :
    (val_main_v132 (F := Ideal) x0 x1 (ix4 b h m s) : EReal) = rmax (qry x0 b h s) (keys x0 x1 b h) m := by
  have e : (val_main_v130 (F := Ideal) x0 x1 (ix4 b h m s) : EReal)
      = Finset.fold max (Ideal.ofBits FTy.f32 4286578688#32) (fun n => (val_main_v129 (F := Ideal) x0 x1 (ix5 b h m s n) : EReal)) Finset.univ := by
    unfold val_main_v130
    generalize val_main_v129 (F := Ideal) x0 x1 = w'
    pointwise [val_main_cst_6]
  have e' : (val_main_v132 (F := Ideal) x0 x1 (ix4 b h m s) : EReal)
      = max (Ideal.ofBits FTy.f32 4286578688#32) (val_main_v130 (F := Ideal) x0 x1 (ix4 b h m s) : EReal) := by
    rw [val_main_v132_apply, val_main_v131_apply, val_main_cst_7_apply]
    generalize (val_main_v130 (F := Ideal) x0 x1 (ix4 b h m s) : EReal) = w'
    rfl
  rw [e', e]
  simp only [at129]
  unfold rmax
  rfl

theorem at149 (b : Fin 4) (h : Fin 4) (s : Fin 4096) (d : Fin 128) : (val_main_v149 (F := Ideal) x0 x1 x2 (ix4 b s h d) : EReal)
    = rdiff (qry x0 b h s) (keys x0 x1 b h) (vals x0 x1 b h) (val_main_v29 (F := Ideal) x2 ix0) d := by
  rw [diff_apply]
  simp only [map_apply, at129, at132, atv126]
  rfl

/-- A row divided by its root mean square, times the gain, the fixed scale and the gate. -/
def gated (x g z : Fin 128 → EReal) (d : Fin 128) : EReal :=
  x d * Ideal.rsqrt (Ideal.div (∑ e, x e * x e) (Ideal.ofBits FTy.f32 1124073472#32) + Ideal.ofBits FTy.f32 897988541#32) * g d
    * Ideal.ofBits FTy.f32 1055083607#32 * (z d * Ideal.logistic (z d))

theorem one_bits : Ideal.ofBits FTy.f32 0x3F800000#32 = 1 := by
  simp [Ideal.ofBits, Ideal.ieee]
  rw [← EReal.coe_mul]
  norm_num

theorem at169 (b : Fin 4) (s : Fin 4096) (e : Fin 512) : (val_main_v169 (F := Ideal) x0 x1 x2 x3 (ix3 b s e) : EReal)
    = gated (fun d => (val_main_v149 (F := Ideal) x0 x1 x2 (ix4 b s ⟨e.val / 128, by omega⟩ d) : EReal)) (fun d => x3 (ix2 3 d))
      (row x0 15360 (by omega) b s ⟨e.val / 128, by omega⟩) ⟨e.val % 128, by omega⟩ := by
  have hz : row x0 15360 (by omega) b s ⟨e.val / 128, by omega⟩ ⟨e.val % 128, by omega⟩ = x0 (ix2 ⟨b.val * 4096 + s.val, by omega⟩ ⟨15360 + e.val, by omega⟩) :=
    congrArg (fun c => x0 (ix2 _ c)) (Fin.ext (by dsimp only; omega))
  unfold gated
  rw [hz]
  unfold val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150
  generalize val_main_v149 (F := Ideal) x0 x1 x2 = w'
  pointwise [val_main_cst_9, val_main_cst_10, val_main_cst_11, val_main_cst_12, val_main_call2_v5, val_main_call2_v4, val_main_call2_v3, val_main_call2_v2, val_main_call2_v1, val_main_call2_v0, val_main_call2_cst, val_main_call2_cst_0, val_main_v7, val_main_v6]
  rfl

/-- The reference's result at a row and a column. -/
theorem ref_apply (R : Fin 16384) (e : Fin 512) : (val_main_v171 (F := Ideal) x0 x1 x2 x3 (ix2 R e) : EReal)
    = gated (rdiff (qry x0 ⟨R.val / 4096, by omega⟩ ⟨e.val / 128, by omega⟩ ⟨R.val % 4096, by omega⟩)
          (keys x0 x1 ⟨R.val / 4096, by omega⟩ ⟨e.val / 128, by omega⟩) (vals x0 x1 ⟨R.val / 4096, by omega⟩ ⟨e.val / 128, by omega⟩)
          (val_main_v29 (F := Ideal) x2 ix0)) (fun d => x3 (ix2 3 d))
      (row x0 15360 (by omega) ⟨R.val / 4096, by omega⟩ ⟨R.val % 4096, by omega⟩ ⟨e.val / 128, by omega⟩) ⟨e.val % 128, by omega⟩ := by
  have h : (val_main_v171 (F := Ideal) x0 x1 x2 x3 (ix2 R e) : EReal)
      = val_main_v169 (F := Ideal) x0 x1 x2 x3 (ix3 ⟨R.val / 4096, by omega⟩ ⟨R.val % 4096, by omega⟩ e) := by
    unfold val_main_v171 val_main_v170
    generalize val_main_v169 (F := Ideal) x0 x1 x2 x3 = w'
    pointwise []
  rw [h, at169]
  simp only [at149]

end Cert.Proof.AttnRef

end
-- ==== Proof.AttnRow.lean ====
/- Hand-written, untrusted: one row of the block the attention body writes. -/
module

public import proofs.«01_k».proof.Proof.AttnRead
public import proofs.«01_k».proof.Proof.AttnRef
public import proofs.«01_k».proof.Proof.AttnSpec

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

theorem mChain_apply (r : Fin 512) : ∀ (n : Nat) (f : Fin (n + 1) → FVec Ideal S1x512 .f32), (mChain n f (ix2 0 r) : EReal) = AttnSpec.mc n fun j => f j (ix2 0 r)
  | 0, _ => rfl
  | n + 1, f => congrArg₂ max (mChain_apply r n fun i => f i.castSucc) rfl

section
variable (q q0 q1 : FVec Ideal S512x128 .bf16) (K : Fin 17 → Vec Ideal S1x256x128 .bf16) (V : Fin 17 → Vec Ideal S1x128x256 .bf16)

/-- A row of the queries. -/
abbrev qr (r : Fin 512) (d : Fin 128) : EReal := q (ix2 r d)

/-- The keys and the values, block by block. -/
abbrev kr (j : Fin 17) (κ : Fin 256) (d : Fin 128) : EReal := K j (ix3 0 κ d)
abbrev vr (j : Fin 17) (κ : Fin 256) (d : Fin 128) : EReal := V j (ix3 0 d κ)

theorem mxA_apply (r : Fin 512) : (mxA q K (ix2 0 r) : EReal) = AttnSpec.kmax (qr q r) (kr K) := by
  unfold mxA AttnSpec.kmax AttnSpec.kscore
  rw [mChain_apply]
  refine congrArg (AttnSpec.mc 16) (funext fun j => ?_)
  rw [bmA_apply]
  simp only [scA_apply]

theorem exM_apply (j : Fin 17) (κ : Fin 256) (r : Fin 512) :
    (exA (mxA q K) (stA q (K j)) (ix2 κ r) : EReal) = Ideal.exp2 (AttnSpec.kscore (qr q r) (kr K j) κ - AttnSpec.kmax (qr q r) (kr K)) := by
  unfold stA
  rw [exA_apply, mxA_apply, scA_apply]
  rfl

theorem lxA_apply (r : Fin 512) : (lxA (mxA q K) (fun j => stA q (K j)) (ix2 0 r) : EReal) = AttnSpec.ksum (qr q r) (kr K) := by
  unfold lxA AttnSpec.ksum
  rw [sChain_apply, z52_apply]
  simp only [lsA_apply, exM_apply]

theorem axA_apply (d : Fin 128) (r : Fin 512) :
    (axA (mxA q K) (fun j => stA q (K j)) V (ix2 d r) : EReal) = AttnSpec.kval (qr q r) (kr K) (vr V) d := by
  unfold axA AttnSpec.kval
  rw [sChain_apply, z54_apply]
  simp only [avA_apply, exM_apply]

/-- The block the body writes, at a row and a column. -/
theorem outA_apply (lam : Ideal .f32) (g : Vec Ideal S1x128 .f32) (z : Vec Ideal S512x128 .f32) (r : Fin 512) (d : Fin 128) :
    (outA q0 q1 K V lam g z (ix2 r d) : EReal)
      = AttnRef.gated (AttnSpec.kdiff (qr q0 r) (qr q1 r) (kr K) (vr V) lam) (fun d => g (ix2 0 d)) (fun d => z (ix2 r d)) d := by
  unfold outA
  rw [fnA_apply]
  simp only [dfA_apply, lxA_apply, axA_apply]
  rfl

end

end Cert.Proof.Attn

end
-- ==== Proof.AttnCat.lean ====
/- Hand-written, untrusted: arrays laid side by side, read at a place (the attention's host tables). -/
module

public import proofs.«01_k».proof.Proof.Gen.KernelIdeal.Value
public import Idealize.ShloMosaic.Lib.Pipeline.Value
public import Idealize.ShloMosaic.Lib.Pointwise
public import Idealize.ShloMosaic.PureOps.Ideal.Laws

@[expose] public section

set_option maxRecDepth 16384

noncomputable section

namespace Cert.Proof.Attn

open Cert.KernelIdeal Idealize.ShloMosaic Idealize.ShloMosaic.TcCoe Idealize.SL.Sem

theorem cat4 (x0 : S4096x16.Idx → EReal) (x1 : S4096x16.Idx → EReal) (x2 : S4096x16.Idx → EReal) (x3 : S4096x16.Idx → EReal)
    (h : Shape.Concatenates [S4096x16, S4096x16, S4096x16, S4096x16] S4096x64 1) (i0 : Fin 4096) (i1 : Fin 64) :
    concatenate S4096x64 1 [⟨S4096x16, x0⟩, ⟨S4096x16, x1⟩, ⟨S4096x16, x2⟩, ⟨S4096x16, x3⟩] h (ix2 i0 i1)
      = if h0 : i1.val < 16 then x0 (ix2 i0 ⟨i1.val - 0, by omega⟩) else if h1 : i1.val < 32 then x1 (ix2 i0 ⟨i1.val - 16, by omega⟩) else if h2 : i1.val < 48 then x2 (ix2 i0 ⟨i1.val - 32, by omega⟩) else x3 (ix2 i0 ⟨i1.val - 48, by omega⟩) := by
  have hj := i1.isLt
  by_cases h0 : i1.val < 16
  · rw [dif_pos h0]
    refine concatenate_apply_piece 1 [⟨S4096x16, x0⟩, ⟨S4096x16, x1⟩, ⟨S4096x16, x2⟩, ⟨S4096x16, x3⟩] h (ix2 i0 i1) 0 (by show _ < 4; decide) S4096x16 x0 rfl rfl 0 rfl (ix2 i0 ⟨i1.val - 0, by omega⟩ : S4096x16.Idx) (fun a ha => ?_) ?_
    · match a, ha with
      | ⟨0, _⟩, _ => rfl
      | ⟨1, _⟩, ha => exact absurd rfl ha
    · show 0 + (i1.val - 0) = i1.val; omega
  by_cases h1 : i1.val < 32
  · rw [dif_neg h0, dif_pos h1]
    refine concatenate_apply_piece 1 [⟨S4096x16, x0⟩, ⟨S4096x16, x1⟩, ⟨S4096x16, x2⟩, ⟨S4096x16, x3⟩] h (ix2 i0 i1) 1 (by show _ < 4; decide) S4096x16 x1 rfl rfl 16 rfl (ix2 i0 ⟨i1.val - 16, by omega⟩ : S4096x16.Idx) (fun a ha => ?_) ?_
    · match a, ha with
      | ⟨0, _⟩, _ => rfl
      | ⟨1, _⟩, ha => exact absurd rfl ha
    · show 16 + (i1.val - 16) = i1.val; omega
  by_cases h2 : i1.val < 48
  · rw [dif_neg h0, dif_neg h1, dif_pos h2]
    refine concatenate_apply_piece 1 [⟨S4096x16, x0⟩, ⟨S4096x16, x1⟩, ⟨S4096x16, x2⟩, ⟨S4096x16, x3⟩] h (ix2 i0 i1) 2 (by show _ < 4; decide) S4096x16 x2 rfl rfl 32 rfl (ix2 i0 ⟨i1.val - 32, by omega⟩ : S4096x16.Idx) (fun a ha => ?_) ?_
    · match a, ha with
      | ⟨0, _⟩, _ => rfl
      | ⟨1, _⟩, ha => exact absurd rfl ha
    · show 32 + (i1.val - 32) = i1.val; omega
  rw [dif_neg h0, dif_neg h1, dif_neg h2]
  refine concatenate_apply_piece 1 [⟨S4096x16, x0⟩, ⟨S4096x16, x1⟩, ⟨S4096x16, x2⟩, ⟨S4096x16, x3⟩] h (ix2 i0 i1) 3 (by show _ < 4; decide) S4096x16 x3 rfl rfl 48 rfl (ix2 i0 ⟨i1.val - 48, by omega⟩ : S4096x16.Idx) (fun a ha => ?_) ?_
  · match a, ha with
    | ⟨0, _⟩, _ => rfl
    | ⟨1, _⟩, ha => exact absurd rfl ha
  · show 48 + (i1.val - 48) = i1.val; omega

theorem cat2 (x0 : S4096x64.Idx → EReal) (x1 : S4096x64.Idx → EReal)
    (h : Shape.Concatenates [S4096x64, S4096x64] S4096x128 1) (i0 : Fin 4096) (i1 : Fin 128) :
    concatenate S4096x128 1 [⟨S4096x64, x0⟩, ⟨S4096x64, x1⟩] h (ix2 i0 i1)
      = if h0 : i1.val < 64 then x0 (ix2 i0 ⟨i1.val - 0, by omega⟩) else x1 (ix2 i0 ⟨i1.val - 64, by omega⟩) := by
  have hj := i1.isLt
  by_cases h0 : i1.val < 64
  · rw [dif_pos h0]
    refine concatenate_apply_piece 1 [⟨S4096x64, x0⟩, ⟨S4096x64, x1⟩] h (ix2 i0 i1) 0 (by show _ < 2; decide) S4096x64 x0 rfl rfl 0 rfl (ix2 i0 ⟨i1.val - 0, by omega⟩ : S4096x64.Idx) (fun a ha => ?_) ?_
    · match a, ha with
      | ⟨0, _⟩, _ => rfl
      | ⟨1, _⟩, ha => exact absurd rfl ha
    · show 0 + (i1.val - 0) = i1.val; omega
  rw [dif_neg h0]
  refine concatenate_apply_piece 1 [⟨S4096x64, x0⟩, ⟨S4096x64, x1⟩] h (ix2 i0 i1) 1 (by show _ < 2; decide) S4096x64 x1 rfl rfl 64 rfl (ix2 i0 ⟨i1.val - 64, by omega⟩ : S4096x64.Idx) (fun a ha => ?_) ?_
  · match a, ha with
    | ⟨0, _⟩, _ => rfl
    | ⟨1, _⟩, ha => exact absurd rfl ha
  · show 64 + (i1.val - 64) = i1.val; omega

end Cert.Proof.Attn

end
-- ==== Proof.AttnHost.lean ====
/- Hand-written, untrusted: the arrays the host prepares for the attention kernel: the rotary tables, the mixing weight and the gain. -/
module

public import proofs.«01_k».proof.Proof.AttnRead
public import proofs.«01_k».proof.Proof.AttnCat
public import proofs.«01_k».proof.Proof.AttnRef
public import proofs.«01_k».proof.Proof.AttnSpec
public import proofs.«01_k».proof.Proof.Gen.KernelIdeal.Value

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- The host's values after the first `n` operations of its last stretch. -/
def Y (n : Nat) (c : Dev nD) : (b : DevRef τ sig) → b.ty.Contents (Elt Ideal) :=
  StableHlo.after (List.flatten [hostOps0 (F := Ideal), hostOps0_1, hostOps0_2, hostOps0_3, hostOps0_4.take n]) (fun b => m (c, b))

theorem after_app (l l' : List (HloOp τ sig (Elt Ideal))) (X : (b : DevRef τ sig) → b.ty.Contents (Elt Ideal)) :
    StableHlo.after (l ++ l') X = StableHlo.after l' (StableHlo.after l X) := by
  induction l generalizing X with
  | nil => rfl
  | cons a l ih => exact ih _

theorem V_split (n : Nat) (c : Dev nD) (b : Ref sig .tc) : V m c b = StableHlo.after (hostOps0_4.drop n) (Y m n c) b := by
  unfold Y
  rw [← after_app, List.flatten_cons, List.flatten_cons, List.flatten_cons, List.flatten_cons, List.flatten_cons, List.flatten_nil, List.append_nil,
    List.append_assoc, List.append_assoc, List.append_assoc, List.append_assoc, List.take_append_drop]
  show StableHlo.after (List.flatten [hostOps0, hostOps0_1, hostOps0_2, hostOps0_3, hostOps0_4]) (fun b => m (c, b)) b = _
  rw [List.flatten_cons, List.flatten_cons, List.flatten_cons, List.flatten_cons, List.flatten_cons, List.flatten_nil, List.append_nil]

/-- Four blocks of sixteen columns side by side. -/
def tab4 (a0 a1 a2 a3 : S4096x16.Idx → EReal) : S4096x64.Idx → EReal :=
  concatenate S4096x64 1 [⟨S4096x16, a0⟩, ⟨S4096x16, a1⟩, ⟨S4096x16, a2⟩, ⟨S4096x16, a3⟩] concatenates_S4096x16_S4096x16_S4096x16_S4096x16_S4096x64_d1

/-- A block of sixty-four columns twice. -/
def tab2 (a : S4096x64.Idx → EReal) : S4096x128.Idx → EReal :=
  concatenate S4096x128 1 [⟨S4096x64, a⟩, ⟨S4096x64, a⟩] concatenates_S4096x64_S4096x64_S4096x128_d1

theorem V_v35 (c : Dev nD) : (V m c main_v35 : S4096x128.Idx → EReal) = tab2 (V m c main_v26 : S4096x64.Idx → EReal) := by
  rw [V_split m 34 c main_v35, V_split m 34 c main_v26]
  generalize Y m 34 c = Z
  simp only [hostOps0_4, List.drop_succ_cons, List.drop_zero]
  after_results_simp
  rfl

theorem V_v36 (c : Dev nD) : (V m c main_v36 : S4096x128.Idx → EReal) = tab2 (V m c main_v29 : S4096x64.Idx → EReal) := by
  rw [V_split m 35 c main_v36, V_split m 35 c main_v29]
  generalize Y m 35 c = Z
  simp only [hostOps0_4, List.drop_succ_cons, List.drop_zero]
  after_results_simp
  rfl

theorem V_v37 (c : Dev nD) : (V m c main_v37 : S4096x128.Idx → EReal) = tab2 (V m c main_v34 : S4096x64.Idx → EReal) := by
  rw [V_split m 36 c main_v37, V_split m 36 c main_v34]
  generalize Y m 36 c = Z
  simp only [hostOps0_4, List.drop_succ_cons, List.drop_zero]
  after_results_simp
  rfl

theorem V_v26 (c : Dev nD) : (V m c main_v26 : S4096x64.Idx → EReal) = tab4 (V m c main_v22 : S4096x16.Idx → EReal) (V m c main_v23 : S4096x16.Idx → EReal) (V m c main_v24 : S4096x16.Idx → EReal) (V m c main_v25 : S4096x16.Idx → EReal) := by
  rw [V_split m 25 c main_v26, V_split m 25 c main_v22, V_split m 25 c main_v23, V_split m 25 c main_v24, V_split m 25 c main_v25]
  generalize Y m 25 c = Z
  simp only [hostOps0_4, List.drop_succ_cons, List.drop_zero]
  after_results_simp
  rfl

theorem V_v29 (c : Dev nD) : (V m c main_v29 : S4096x64.Idx → EReal) = tab4 (V m c main_v21 : S4096x16.Idx → EReal) (V m c main_v27 : S4096x16.Idx → EReal) (V m c main_v21 : S4096x16.Idx → EReal) (V m c main_v28 : S4096x16.Idx → EReal) := by
  rw [V_split m 28 c main_v29, V_split m 28 c main_v21, V_split m 28 c main_v27, V_split m 28 c main_v28]
  generalize Y m 28 c = Z
  simp only [hostOps0_4, List.drop_succ_cons, List.drop_zero]
  after_results_simp
  rfl

theorem V_v34 (c : Dev nD) : (V m c main_v34 : S4096x64.Idx → EReal) = tab4 (V m c main_v31 : S4096x16.Idx → EReal) (V m c main_v21 : S4096x16.Idx → EReal) (V m c main_v33 : S4096x16.Idx → EReal) (V m c main_v21 : S4096x16.Idx → EReal) := by
  rw [V_split m 33 c main_v34, V_split m 33 c main_v31, V_split m 33 c main_v21, V_split m 33 c main_v33]
  generalize Y m 33 c = Z
  simp only [hostOps0_4, List.drop_succ_cons, List.drop_zero]
  after_results_simp
  rfl

theorem V_v21 (c : Dev nD) : (V m c main_v21 : S4096x16.Idx → EReal) = (broadcastInDim S4096x16 ![] bcast_S_S4096x16 (constant (F := Ideal) S_ .f32 0x00000000#32) : S4096x16.Idx → EReal) := by
  rw [V_split m 19 c main_v21]
  generalize Y m 19 c = Z
  simp only [hostOps0_4, List.drop_succ_cons, List.drop_zero]
  after_results_simp

theorem V_v22 (c : Dev nD) : (V m c main_v22 : S4096x16.Idx → EReal) = (Host.cos (F := Ideal) (φ := .f32) (V m c main_v15 : S4096x16.Idx → EReal)) := by
  rw [V_split m 19 c main_v22, V_split m 19 c main_v15]
  generalize Y m 19 c = Z
  simp only [hostOps0_4, List.drop_succ_cons, List.drop_zero]
  after_results_simp

theorem V_v23 (c : Dev nD) : (V m c main_v23 : S4096x16.Idx → EReal) = (Host.cos (F := Ideal) (φ := .f32) (V m c main_v15 : S4096x16.Idx → EReal)) := by
  rw [V_split m 19 c main_v23, V_split m 19 c main_v15]
  generalize Y m 19 c = Z
  simp only [hostOps0_4, List.drop_succ_cons, List.drop_zero]
  after_results_simp

theorem V_v24 (c : Dev nD) : (V m c main_v24 : S4096x16.Idx → EReal) = (Host.cos (F := Ideal) (φ := .f32) (V m c main_v20 : S4096x16.Idx → EReal)) := by
  rw [V_split m 19 c main_v24, V_split m 19 c main_v20]
  generalize Y m 19 c = Z
  simp only [hostOps0_4, List.drop_succ_cons, List.drop_zero]
  after_results_simp

theorem V_v25 (c : Dev nD) : (V m c main_v25 : S4096x16.Idx → EReal) = (Host.cos (F := Ideal) (φ := .f32) (V m c main_v20 : S4096x16.Idx → EReal)) := by
  rw [V_split m 19 c main_v25, V_split m 19 c main_v20]
  generalize Y m 19 c = Z
  simp only [hostOps0_4, List.drop_succ_cons, List.drop_zero]
  after_results_simp

theorem V_v27 (c : Dev nD) : (V m c main_v27 : S4096x16.Idx → EReal) = (Host.sin (F := Ideal) (φ := .f32) (V m c main_v15 : S4096x16.Idx → EReal)) := by
  rw [V_split m 19 c main_v27, V_split m 19 c main_v15]
  generalize Y m 19 c = Z
  simp only [hostOps0_4, List.drop_succ_cons, List.drop_zero]
  after_results_simp

theorem V_v28 (c : Dev nD) : (V m c main_v28 : S4096x16.Idx → EReal) = (Host.sin (F := Ideal) (φ := .f32) (V m c main_v20 : S4096x16.Idx → EReal)) := by
  rw [V_split m 19 c main_v28, V_split m 19 c main_v20]
  generalize Y m 19 c = Z
  simp only [hostOps0_4, List.drop_succ_cons, List.drop_zero]
  after_results_simp

theorem V_v31 (c : Dev nD) : (V m c main_v31 : S4096x16.Idx → EReal) = (Host.negf (F := Ideal) (φ := .f32) (Host.sin (F := Ideal) (φ := .f32) (V m c main_v15 : S4096x16.Idx → EReal))) := by
  rw [V_split m 19 c main_v31, V_split m 19 c main_v15]
  generalize Y m 19 c = Z
  simp only [hostOps0_4, List.drop_succ_cons, List.drop_zero]
  after_results_simp

theorem V_v33 (c : Dev nD) : (V m c main_v33 : S4096x16.Idx → EReal) = (Host.negf (F := Ideal) (φ := .f32) (Host.sin (F := Ideal) (φ := .f32) (V m c main_v20 : S4096x16.Idx → EReal))) := by
  rw [V_split m 19 c main_v33, V_split m 19 c main_v20]
  generalize Y m 19 c = Z
  simp only [hostOps0_4, List.drop_succ_cons, List.drop_zero]
  after_results_simp

theorem V_v15 (c : Dev nD) : (V m c main_v15 : S4096x16.Idx → EReal) = Cert.ReferenceIdeal.Read.val_main_v45 (F := Ideal) := by
  show StableHlo.after hostOps0_4 (StableHlo.after hostOps0_3 (StableHlo.after hostOps0_2 (StableHlo.after hostOps0_1 (StableHlo.after hostOps0 (fun b => m (c, b)))))) main_v15 = _
  rw [hostOps0_4]; after_results_simp
  rfl

theorem V_v20 (c : Dev nD) : (V m c main_v20 : S4096x16.Idx → EReal) = Cert.ReferenceIdeal.Read.val_main_v50 (F := Ideal) := by
  show StableHlo.after hostOps0_4 (StableHlo.after hostOps0_3 (StableHlo.after hostOps0_2 (StableHlo.after hostOps0_1 (StableHlo.after hostOps0 (fun b => m (c, b)))))) main_v20 = _
  rw [hostOps0_4]; after_results_simp
  rfl

theorem V_v56 (c : Dev nD) : (V m c main_v56 (ix1 0) : EReal) = Cert.ReferenceIdeal.Read.val_main_v29 (F := Ideal) (m ((c : Thread nD τ).loc main_arg2)) ix0 := by
  show StableHlo.after hostOps0_4 (StableHlo.after hostOps0_3 (StableHlo.after hostOps0_2 (StableHlo.after hostOps0_1 (StableHlo.after hostOps0 (fun b => m (c, b)))))) main_v56 (ix1 0) = _
  rw [hostOps0_4]; after_results_simp
  rfl

theorem V_v59 (c : Dev nD) (d : Fin 128) : (V m c main_v59 (ix2 0 d) : EReal) = m ((c : Thread nD τ).loc main_arg3) (ix2 3 d) := by
  show StableHlo.after hostOps0_4 (StableHlo.after hostOps0_3 (StableHlo.after hostOps0_2 (StableHlo.after hostOps0_1 (StableHlo.after hostOps0 (fun b => m (c, b)))))) main_v59 (ix2 0 d) = _
  rw [hostOps0_4]; after_results_simp
  pointwise

theorem tab_apply (a0 a1 a2 a3 : S4096x16.Idx → EReal) (s : Fin 4096) (d : Fin 128) : tab2 (tab4 a0 a1 a2 a3) (ix2 s d)
    = if d.val % 64 < 16 then a0 (ix2 s ⟨d.val % 16, by omega⟩) else if d.val % 64 < 32 then a1 (ix2 s ⟨d.val % 16, by omega⟩)
      else if d.val % 64 < 48 then a2 (ix2 s ⟨d.val % 16, by omega⟩) else a3 (ix2 s ⟨d.val % 16, by omega⟩) := by
  have hd := d.isLt
  have key : ∀ (e : Fin 64), e.val = d.val % 64 → tab4 a0 a1 a2 a3 (ix2 s e)
      = if d.val % 64 < 16 then a0 (ix2 s ⟨d.val % 16, by omega⟩) else if d.val % 64 < 32 then a1 (ix2 s ⟨d.val % 16, by omega⟩)
        else if d.val % 64 < 48 then a2 (ix2 s ⟨d.val % 16, by omega⟩) else a3 (ix2 s ⟨d.val % 16, by omega⟩) := by
    intro e he
    unfold tab4
    rw [cat4, ← he]
    by_cases h0 : e.val < 16
    · rw [dif_pos h0, if_pos h0]
      exact congrArg (fun n => a0 (ix2 s n)) (Fin.ext (by dsimp only; omega))
    rw [dif_neg h0, if_neg h0]
    by_cases h1 : e.val < 32
    · rw [dif_pos h1, if_pos h1]
      exact congrArg (fun n => a1 (ix2 s n)) (Fin.ext (by dsimp only; omega))
    rw [dif_neg h1, if_neg h1]
    by_cases h2 : e.val < 48
    · rw [dif_pos h2, if_pos h2]
      exact congrArg (fun n => a2 (ix2 s n)) (Fin.ext (by dsimp only; omega))
    rw [dif_neg h2, if_neg h2]
    exact congrArg (fun n => a3 (ix2 s n)) (Fin.ext (by dsimp only; omega))
  unfold tab2
  rw [cat2]
  by_cases h : d.val < 64
  · rw [dif_pos h]
    exact key _ (by dsimp only; omega)
  · rw [dif_neg h]
    exact key _ (by dsimp only; omega)

theorem Z_apply (i : S4096x16.Idx) : (broadcastInDim S4096x16 ![] bcast_S_S4096x16 (constant (F := Ideal) S_ .f32 0x00000000#32) : S4096x16.Idx → EReal) i = 0 := by
  refine Eq.trans ?_ Ideal.ofBits_zero_f32
  rfl

/-- The row angles of a token. -/
def rowAng (s : Fin 4096) (i : Fin 16) : EReal := Cert.ReferenceIdeal.Read.val_main_v45 (F := Ideal) (ix2 s i)

/-- The column angles of a token. -/
def colAng (s : Fin 4096) (i : Fin 16) : EReal := Cert.ReferenceIdeal.Read.val_main_v50 (F := Ideal) (ix2 s i)

theorem V_cos (c : Dev nD) (s : Fin 4096) (d : Fin 128) : (V m c main_v35 (ix2 s d) : EReal) = AttnSpec.cosT (rowAng s) (colAng s) d := by
  rw [V_v35, V_v26, V_v22, V_v23, V_v24, V_v25, V_v15, V_v20, tab_apply]
  unfold AttnSpec.cosT AttnSpec.ang rowAng colAng
  generalize Cert.ReferenceIdeal.Read.val_main_v45 (F := Ideal) = a
  generalize Cert.ReferenceIdeal.Read.val_main_v50 (F := Ideal) = b
  by_cases h0 : d.val % 64 < 16
  · rw [if_pos h0, if_pos (by omega)]; rfl
  by_cases h1 : d.val % 64 < 32
  · rw [if_neg h0, if_pos h1, if_pos h1]; rfl
  by_cases h2 : d.val % 64 < 48
  · rw [if_neg h0, if_neg h1, if_pos h2, if_neg h1]; rfl
  · rw [if_neg h0, if_neg h1, if_neg h2, if_neg h1]; rfl

theorem V_up (c : Dev nD) (s : Fin 4096) (d : Fin 128) : (V m c main_v36 (ix2 s d) : EReal) = AttnSpec.upT (rowAng s) (colAng s) d := by
  rw [V_v36, V_v29, V_v21, V_v27, V_v28, V_v15, V_v20, tab_apply]
  unfold AttnSpec.upT AttnSpec.ang rowAng colAng
  generalize Cert.ReferenceIdeal.Read.val_main_v45 (F := Ideal) = a
  generalize Cert.ReferenceIdeal.Read.val_main_v50 (F := Ideal) = b
  by_cases h0 : d.val % 64 < 16
  · rw [if_pos h0, if_pos (by omega)]; exact Z_apply _
  by_cases h1 : d.val % 64 < 32
  · rw [if_neg h0, if_pos h1, if_neg (by omega), if_pos h1]; rfl
  by_cases h2 : d.val % 64 < 48
  · rw [if_neg h0, if_neg h1, if_pos h2, if_pos (by omega)]; exact Z_apply _
  · rw [if_neg h0, if_neg h1, if_neg h2, if_neg (by omega), if_neg h1]; rfl

theorem V_dn (c : Dev nD) (s : Fin 4096) (d : Fin 128) : (V m c main_v37 (ix2 s d) : EReal) = AttnSpec.dnT (rowAng s) (colAng s) d := by
  rw [V_v37, V_v34, V_v31, V_v33, V_v21, V_v15, V_v20, tab_apply]
  unfold AttnSpec.dnT AttnSpec.ang rowAng colAng
  generalize Cert.ReferenceIdeal.Read.val_main_v45 (F := Ideal) = a
  generalize Cert.ReferenceIdeal.Read.val_main_v50 (F := Ideal) = b
  by_cases h0 : d.val % 64 < 16
  · rw [if_pos h0, if_pos (by omega), if_pos (by omega)]; rfl
  by_cases h1 : d.val % 64 < 32
  · rw [if_neg h0, if_pos h1, if_neg (by omega)]; exact Z_apply _
  by_cases h2 : d.val % 64 < 48
  · rw [if_neg h0, if_neg h1, if_pos h2, if_pos (by omega), if_neg h1]; rfl
  · rw [if_neg h0, if_neg h1, if_neg h2, if_neg (by omega)]; exact Z_apply _

end Cert.Proof.Attn

end
-- ==== Proof.AttnWindows.lean ====
/- Hand-written, untrusted: the blocks the attention kernel reads at a grid point, as parts of the argument arrays. -/
module

public import proofs.«01_k».proof.Proof.AttnHost

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

theorem ix_0 : ∀ t : Fin cfg0.N, win0_0.index t 0 = 0 :=
  (by decide +kernel : ∀ t : Fin grid0.N, _)
theorem ix_1 : ∀ t : Fin cfg0.N, win0_1.index t 0 = t.val / 32 * 8 + t.val % 8 ∧ win0_1.index t 1 = 108 + t.val / 8 % 4 :=
  (by decide +kernel : ∀ t : Fin grid0.N, _)
theorem ix_2 : ∀ t : Fin cfg0.N, win0_2.index t 0 = t.val / 32 ∧ win0_2.index t 1 = 112 + t.val / 8 % 4 :=
  (by decide +kernel : ∀ t : Fin grid0.N, _)
theorem ix_3 : ∀ t : Fin cfg0.N, win0_3.index t 0 = t.val / 32 ∧ win0_3.index t 1 = 112 + t.val / 8 % 4 :=
  (by decide +kernel : ∀ t : Fin grid0.N, _)
theorem ix_4 : ∀ t : Fin cfg0.N, win0_4.index t 0 = t.val / 32 ∧ win0_4.index t 1 = 116 + t.val / 8 % 4 :=
  (by decide +kernel : ∀ t : Fin grid0.N, _)
theorem ix_5 : ∀ t : Fin cfg0.N, win0_5.index t 0 = t.val / 32 ∧ win0_5.index t 1 = 116 + t.val / 8 % 4 :=
  (by decide +kernel : ∀ t : Fin grid0.N, _)
theorem ix_6 : ∀ t : Fin cfg0.N, win0_6.index t 0 = t.val / 32 * 8 + t.val % 8 ∧ win0_6.index t 1 = 120 + t.val / 8 % 4 :=
  (by decide +kernel : ∀ t : Fin grid0.N, _)
theorem ix_7 : ∀ t : Fin cfg0.N, win0_7.index t 0 = t.val % 8 ∧ win0_7.index t 1 = 0 :=
  (by decide +kernel : ∀ t : Fin grid0.N, _)
theorem ix_8 : ∀ t : Fin cfg0.N, win0_8.index t 0 = t.val % 8 ∧ win0_8.index t 1 = 0 :=
  (by decide +kernel : ∀ t : Fin grid0.N, _)
theorem ix_9 : ∀ t : Fin cfg0.N, win0_9.index t 0 = t.val % 8 ∧ win0_9.index t 1 = 0 :=
  (by decide +kernel : ∀ t : Fin grid0.N, _)
theorem ix_10 : ∀ t : Fin cfg0.N, win0_10.index t 0 = 0 ∧ win0_10.index t 1 = 0 :=
  (by decide +kernel : ∀ t : Fin grid0.N, _)
theorem ix_11 : ∀ t : Fin cfg0.N, win0_11.index t 0 = 0 ∧ win0_11.index t 1 = 0 :=
  (by decide +kernel : ∀ t : Fin grid0.N, _)
theorem ix_12 : ∀ t : Fin cfg0.N, win0_12.index t 0 = 0 ∧ win0_12.index t 1 = 0 :=
  (by decide +kernel : ∀ t : Fin grid0.N, _)
theorem ix_13 : ∀ t : Fin cfg0.N, win0_13.index t 0 = 0 ∧ win0_13.index t 1 = 0 :=
  (by decide +kernel : ∀ t : Fin grid0.N, _)
theorem ix_14 : ∀ t : Fin cfg0.N, win0_14.index t 0 = t.val / 32 * 8 + t.val % 8 ∧ win0_14.index t 1 = t.val / 8 % 4 :=
  (by decide +kernel : ∀ t : Fin grid0.N, _)

theorem t_lt (t : Fin cfg0.N) : t.val < 128 := t.isLt

/-- The batch, the head and the token of a row of the block at a grid position. -/
def pb (n : Nat) (hn : n < 128) : Fin 4 := ⟨n / 32, by omega⟩
def ph (n : Nat) (hn : n < 128) : Fin 4 := ⟨n / 8 % 4, by omega⟩
def ps (n : Nat) (hn : n < 128) (r : Fin 512) : Fin 4096 := ⟨n % 8 * 512 + r.val, by omega⟩

theorem blk0 (c : Dev nD) (t : Fin cfg0.N) : (iblk m c 0 t (ix1 0 : S1.Idx) : EReal)
    = Cert.ReferenceIdeal.Read.val_main_v29 (F := Ideal) (m ((c : Thread nD τ).loc main_arg2)) ix0 := by
  have e0 := ix_0 t
  rw [← V_v56 m c]
  refine congrArg (V m c main_v56) (funext fun a => Fin.ext ?_)
  match a with
  | ⟨0, _⟩ => show win0_0.index t 0 * 1 + 1 * 0 = 0; omega

theorem blk1 (c : Dev nD) (t : Fin cfg0.N) (r : Fin 512) (d : Fin 128) : (iblk m c 1 t (ix2 r d : S512x128.Idx) : EReal)
    = AttnRef.row (m ((c : Thread nD τ).loc main_arg0)) 13824 (by omega) (pb t.val t.isLt) (ps t.val t.isLt r) (ph t.val t.isLt) d := by
  obtain ⟨e0, e1⟩ := ix_1 t
  have ht := t_lt t
  unfold AttnRef.row
  rw [← V_main_arg0 m c]
  refine congrArg (V m c main_arg0) (funext fun a => Fin.ext ?_)
  match a with
  | ⟨0, _⟩ => show win0_1.index t 0 * 512 + 1 * r.val = t.val / 32 * 4096 + (t.val % 8 * 512 + r.val); omega
  | ⟨1, _⟩ => show win0_1.index t 1 * 128 + 1 * d.val = 13824 + (t.val / 8 % 4 * 128 + d.val); omega

theorem blk2 (c : Dev nD) (t : Fin cfg0.N) (r : Fin 4096) (d : Fin 128) : (iblk m c 2 t (ix2 r d : S4096x128.Idx) : EReal)
    = AttnRef.row (m ((c : Thread nD τ).loc main_arg0)) 14336 (by omega) (pb t.val t.isLt) r (ph t.val t.isLt) d := by
  obtain ⟨e0, e1⟩ := ix_2 t
  have ht := t_lt t
  unfold AttnRef.row
  rw [← V_main_arg0 m c]
  refine congrArg (V m c main_arg0) (funext fun a => Fin.ext ?_)
  match a with
  | ⟨0, _⟩ => show win0_2.index t 0 * 4096 + 1 * r.val = t.val / 32 * 4096 + r.val; omega
  | ⟨1, _⟩ => show win0_2.index t 1 * 128 + 1 * d.val = 14336 + (t.val / 8 % 4 * 128 + d.val); omega

theorem blk4 (c : Dev nD) (t : Fin cfg0.N) (r : Fin 4096) (d : Fin 128) : (iblk m c 4 t (ix2 r d : S4096x128.Idx) : EReal)
    = AttnRef.row (m ((c : Thread nD τ).loc main_arg0)) 14848 (by omega) (pb t.val t.isLt) r (ph t.val t.isLt) d := by
  obtain ⟨e0, e1⟩ := ix_4 t
  have ht := t_lt t
  unfold AttnRef.row
  rw [← V_main_arg0 m c]
  refine congrArg (V m c main_arg0) (funext fun a => Fin.ext ?_)
  match a with
  | ⟨0, _⟩ => show win0_4.index t 0 * 4096 + 1 * r.val = t.val / 32 * 4096 + r.val; omega
  | ⟨1, _⟩ => show win0_4.index t 1 * 128 + 1 * d.val = 14848 + (t.val / 8 % 4 * 128 + d.val); omega

theorem blk3 (c : Dev nD) (t : Fin cfg0.N) (r : Fin 256) (d : Fin 128) : (iblk m c 3 t (ix2 r d : S256x128.Idx) : EReal)
    = AttnRef.crow (m ((c : Thread nD τ).loc main_arg1)) 14336 (by omega) (pb t.val t.isLt) r (ph t.val t.isLt) d := by
  obtain ⟨e0, e1⟩ := ix_3 t
  have ht := t_lt t
  unfold AttnRef.crow
  rw [← V_main_arg1 m c]
  refine congrArg (V m c main_arg1) (funext fun a => Fin.ext ?_)
  match a with
  | ⟨0, _⟩ => show win0_3.index t 0 * 256 + 1 * r.val = t.val / 32 * 256 + r.val; omega
  | ⟨1, _⟩ => show win0_3.index t 1 * 128 + 1 * d.val = 14336 + (t.val / 8 % 4 * 128 + d.val); omega

theorem blk5 (c : Dev nD) (t : Fin cfg0.N) (r : Fin 256) (d : Fin 128) : (iblk m c 5 t (ix2 r d : S256x128.Idx) : EReal)
    = AttnRef.crow (m ((c : Thread nD τ).loc main_arg1)) 14848 (by omega) (pb t.val t.isLt) r (ph t.val t.isLt) d := by
  obtain ⟨e0, e1⟩ := ix_5 t
  have ht := t_lt t
  unfold AttnRef.crow
  rw [← V_main_arg1 m c]
  refine congrArg (V m c main_arg1) (funext fun a => Fin.ext ?_)
  match a with
  | ⟨0, _⟩ => show win0_5.index t 0 * 256 + 1 * r.val = t.val / 32 * 256 + r.val; omega
  | ⟨1, _⟩ => show win0_5.index t 1 * 128 + 1 * d.val = 14848 + (t.val / 8 % 4 * 128 + d.val); omega

theorem blk6 (c : Dev nD) (t : Fin cfg0.N) (r : Fin 512) (d : Fin 128) : (iblk m c 6 t (ix2 r d : S512x128.Idx) : EReal)
    = AttnRef.row (m ((c : Thread nD τ).loc main_arg0)) 15360 (by omega) (pb t.val t.isLt) (ps t.val t.isLt r) (ph t.val t.isLt) d := by
  obtain ⟨e0, e1⟩ := ix_6 t
  have ht := t_lt t
  unfold AttnRef.row
  rw [← V_main_arg0 m c]
  refine congrArg (V m c main_arg0) (funext fun a => Fin.ext ?_)
  match a with
  | ⟨0, _⟩ => show win0_6.index t 0 * 512 + 1 * r.val = t.val / 32 * 4096 + (t.val % 8 * 512 + r.val); omega
  | ⟨1, _⟩ => show win0_6.index t 1 * 128 + 1 * d.val = 15360 + (t.val / 8 % 4 * 128 + d.val); omega

theorem blk7 (c : Dev nD) (t : Fin cfg0.N) (r : Fin 512) (d : Fin 128) : (iblk m c 7 t (ix2 r d : S512x128.Idx) : EReal)
    = AttnSpec.cosT (rowAng (ps t.val t.isLt r)) (colAng (ps t.val t.isLt r)) d := by
  obtain ⟨e0, e1⟩ := ix_7 t
  rw [← V_cos m c]
  refine congrArg (V m c main_v35) (funext fun a => Fin.ext ?_)
  match a with
  | ⟨0, _⟩ => show win0_7.index t 0 * 512 + 1 * r.val = t.val % 8 * 512 + r.val; omega
  | ⟨1, _⟩ => show win0_7.index t 1 * 128 + 1 * d.val = d.val; omega

theorem blk8 (c : Dev nD) (t : Fin cfg0.N) (r : Fin 512) (d : Fin 128) : (iblk m c 8 t (ix2 r d : S512x128.Idx) : EReal)
    = AttnSpec.upT (rowAng (ps t.val t.isLt r)) (colAng (ps t.val t.isLt r)) d := by
  obtain ⟨e0, e1⟩ := ix_8 t
  rw [← V_up m c]
  refine congrArg (V m c main_v36) (funext fun a => Fin.ext ?_)
  match a with
  | ⟨0, _⟩ => show win0_8.index t 0 * 512 + 1 * r.val = t.val % 8 * 512 + r.val; omega
  | ⟨1, _⟩ => show win0_8.index t 1 * 128 + 1 * d.val = d.val; omega

theorem blk9 (c : Dev nD) (t : Fin cfg0.N) (r : Fin 512) (d : Fin 128) : (iblk m c 9 t (ix2 r d : S512x128.Idx) : EReal)
    = AttnSpec.dnT (rowAng (ps t.val t.isLt r)) (colAng (ps t.val t.isLt r)) d := by
  obtain ⟨e0, e1⟩ := ix_9 t
  rw [← V_dn m c]
  refine congrArg (V m c main_v37) (funext fun a => Fin.ext ?_)
  match a with
  | ⟨0, _⟩ => show win0_9.index t 0 * 512 + 1 * r.val = t.val % 8 * 512 + r.val; omega
  | ⟨1, _⟩ => show win0_9.index t 1 * 128 + 1 * d.val = d.val; omega

theorem blk10 (c : Dev nD) (t : Fin cfg0.N) (r : Fin 4096) (d : Fin 128) : (iblk m c 10 t (ix2 r d : S4096x128.Idx) : EReal)
    = AttnSpec.cosT (rowAng r) (colAng r) d := by
  obtain ⟨e0, e1⟩ := ix_10 t
  rw [← V_cos m c]
  refine congrArg (V m c main_v35) (funext fun a => Fin.ext ?_)
  match a with
  | ⟨0, _⟩ => show win0_10.index t 0 * 4096 + 1 * r.val = r.val; omega
  | ⟨1, _⟩ => show win0_10.index t 1 * 128 + 1 * d.val = d.val; omega

theorem blk11 (c : Dev nD) (t : Fin cfg0.N) (r : Fin 4096) (d : Fin 128) : (iblk m c 11 t (ix2 r d : S4096x128.Idx) : EReal)
    = AttnSpec.upT (rowAng r) (colAng r) d := by
  obtain ⟨e0, e1⟩ := ix_11 t
  rw [← V_up m c]
  refine congrArg (V m c main_v36) (funext fun a => Fin.ext ?_)
  match a with
  | ⟨0, _⟩ => show win0_11.index t 0 * 4096 + 1 * r.val = r.val; omega
  | ⟨1, _⟩ => show win0_11.index t 1 * 128 + 1 * d.val = d.val; omega

theorem blk12 (c : Dev nD) (t : Fin cfg0.N) (r : Fin 4096) (d : Fin 128) : (iblk m c 12 t (ix2 r d : S4096x128.Idx) : EReal)
    = AttnSpec.dnT (rowAng r) (colAng r) d := by
  obtain ⟨e0, e1⟩ := ix_12 t
  rw [← V_dn m c]
  refine congrArg (V m c main_v37) (funext fun a => Fin.ext ?_)
  match a with
  | ⟨0, _⟩ => show win0_12.index t 0 * 4096 + 1 * r.val = r.val; omega
  | ⟨1, _⟩ => show win0_12.index t 1 * 128 + 1 * d.val = d.val; omega

theorem blk13 (c : Dev nD) (t : Fin cfg0.N) (d : Fin 128) : (iblk m c 13 t (ix2 0 d : S1x128.Idx) : EReal)
    = m ((c : Thread nD τ).loc main_arg3) (ix2 3 d) := by
  obtain ⟨e0, e1⟩ := ix_13 t
  rw [← V_v59 m c]
  refine congrArg (V m c main_v59) (funext fun a => Fin.ext ?_)
  match a with
  | ⟨0, _⟩ => show win0_13.index t 0 * 1 + 1 * 0 = 0; omega
  | ⟨1, _⟩ => show win0_13.index t 1 * 128 + 1 * d.val = d.val; omega

end Cert.Proof.Attn

end
-- ==== Proof.AttnBlockA.lean ====
/- Hand-written, untrusted: what the attention body leaves in its output block at a point that first keeps the keys and
   values. -/
module

public import proofs.«01_k».proof.Proof.AttnFold
public import Idealize.ShloMosaic.Lib.Pipeline.ReadBack
public import Idealize.ShloMosaic.Lib.Pointwise

@[expose] public section

set_option maxRecDepth 65536
set_option maxHeartbeats 4000000

noncomputable section

namespace Cert.Proof.Attn

open Cert.KernelIdeal Cert.KernelIdeal.Gen Cert.KernelIdeal.Value Idealize.ShloMosaic Idealize.ShloMosaic.TcCoe Idealize.SL.Sem

/-- What the body leaves in the output block at a first point. -/
theorem outA_eq (c : Dev nD) (i : grid0.Coords) (arg3 : Memref sig .tc .smem S1 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S256x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x128 .f32) (harg16 : arg16.IsWhole) (arg17 : Memref sig .tc .vmem S512x128 .bf16) (harg17 : arg17.IsWhole) (arg18 : Memref sig .tc .vmem S17x256x128 .bf16) (harg18 : arg18.IsWhole) (arg19 : Memref sig .tc .vmem S17x128x256 .bf16) (harg19 : arg19.IsWhole) (arg20 : Memref sig .tc .vmem S2x17x256x512 .f32) (harg20 : arg20.IsWhole) (hc0 : cond0_0 i)
    (x0 : Vec Ideal S1 .f32) (x1 : Vec Ideal S512x128 .f32) (x2 : Vec Ideal S4096x128 .f32) (x3 : Vec Ideal S256x128 .f32) (x4 : Vec Ideal S4096x128 .f32) (x5 : Vec Ideal S256x128 .f32) (x6 : Vec Ideal S512x128 .f32) (x7 : Vec Ideal S512x128 .f32) (x8 : Vec Ideal S512x128 .f32) (x9 : Vec Ideal S512x128 .f32) (x10 : Vec Ideal S4096x128 .f32) (x11 : Vec Ideal S4096x128 .f32) (x12 : Vec Ideal S4096x128 .f32) (x13 : Vec Ideal S1x128 .f32) :
    out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13
      = outA (k0_pay50 x1 x7 x8 x9) (k0_pay51 x1 x7 x8 x9) (kld (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)) (vld (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)) (x0 (ix1 0)) x13 x6 := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold sout0_A_0 sout0_A_1
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13), View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  rw [View.canon_unit_zero hz]
  delta kernelRun0_A.sl.HS2_22 kernelRun0_A.sl.HS2_23 kernelRun0_A.sl.HS2_24 kernelRun0_A.sl.HS2_25 kernelRun0_A.sl.HS2_26 kernelRun0_A.sl.HS2_27 kernelRun0_A.sl.HS2_28 kernelRun0_A.sl.HS2_29 kernelRun0_A.sl.HS2_30 kernelRun0_A.sl.HS2_31 kernelRun0_A.sl.HS2_32 kernelRun0_A.sl.HS2_33 kernelRun0_A.sl.HS2_34 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.v34 kernelRun0_A.sl.v42 kernelRun0_A.sl.v51 kernelRun0_A.sl.v60 kernelRun0_A.sl.v69 kernelRun0_A.sl.v78 kernelRun0_A.sl.v87 kernelRun0_A.sl.v96 kernelRun0_A.sl.v105 kernelRun0_A.sl.v114 kernelRun0_A.sl.v123 kernelRun0_A.sl.v132 kernelRun0_A.sl.v141 kernelRun0_A.sl.v150 kernelRun0_A.sl.v159 kernelRun0_A.sl.v168 kernelRun0_A.sl.v177 kernelRun0_A.sl.v230 kernelRun0_A.sl.v238 kernelRun0_A.sl.v252 kernelRun0_A.sl.v260 kernelRun0_A.sl.v274 kernelRun0_A.sl.v282 kernelRun0_A.sl.v296 kernelRun0_A.sl.v304 kernelRun0_A.sl.v318 kernelRun0_A.sl.v326 kernelRun0_A.sl.v340 kernelRun0_A.sl.v348 kernelRun0_A.sl.v362 kernelRun0_A.sl.v370 kernelRun0_A.sl.v384 kernelRun0_A.sl.v392 kernelRun0_A.sl.v406 kernelRun0_A.sl.v414 kernelRun0_A.sl.v428 kernelRun0_A.sl.v436 kernelRun0_A.sl.v450 kernelRun0_A.sl.v458 kernelRun0_A.sl.v472 kernelRun0_A.sl.v480 kernelRun0_A.sl.v494 kernelRun0_A.sl.v502 kernelRun0_A.sl.v507 kernelRun0_A.sl.v515 kernelRun0_A.sl.v520 kernelRun0_A.sl.v528 kernelRun0_A.sl.v533 kernelRun0_A.sl.v541 kernelRun0_A.sl.v546 kernelRun0_A.sl.v554 kernelRun0_A.sl.v559 kernelRun0_A.sl.v572 kernelRun0_A.sl.v585 kernelRun0_A.sl.v598 kernelRun0_A.sl.v611 kernelRun0_A.sl.v624 kernelRun0_A.sl.v637 kernelRun0_A.sl.v650 kernelRun0_A.sl.v663 kernelRun0_A.sl.v676 kernelRun0_A.sl.v689 kernelRun0_A.sl.v702 kernelRun0_A.sl.v715 kernelRun0_A.sl.v728 kernelRun0_A.sl.v741 kernelRun0_A.sl.v754 kernelRun0_A.sl.v767
  simp only [kCov0, vCov0, kCov1, vCov1, kCov2, vCov2, kCov3, vCov3, kCov4, vCov4, kCov5, vCov5, kCov6, vCov6, kCov7, vCov7, kCov8, vCov8, kCov9, vCov9, kCov10, vCov10, kCov11, vCov11, kCov12, vCov12, kCov13, vCov13, kCov14, vCov14, kCov15, vCov15, kCov16, vCov16]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have l1 : View.ld x1 (Rect.unit ![0, 0] ![512, 128] inb_S512x128_S512x128_0_0) = x1 := View.ld_unit_zero (S := S512x128) hz _ x1
  have l6 : View.ld x6 (Rect.unit ![0, 0] ![512, 128] inb_S512x128_S512x128_0_0) = x6 := View.ld_unit_zero (S := S512x128) hz _ x6
  have l7 : View.ld x7 (Rect.unit ![0, 0] ![512, 128] inb_S512x128_S512x128_0_0) = x7 := View.ld_unit_zero (S := S512x128) hz _ x7
  have l8 : View.ld x8 (Rect.unit ![0, 0] ![512, 128] inb_S512x128_S512x128_0_0) = x8 := View.ld_unit_zero (S := S512x128) hz _ x8
  have l9 : View.ld x9 (Rect.unit ![0, 0] ![512, 128] inb_S512x128_S512x128_0_0) = x9 := View.ld_unit_zero (S := S512x128) hz _ x9
  have l13 : View.ld x13 (Rect.unit ![0, 0] ![1, 128] inb_S1x128_S1x128_0_0) = x13 := View.ld_unit_zero (S := S1x128) hz _ x13
  simp only [l1, l6, l7, l8, l9, l13]
  generalize k0_pay50 x1 x7 x8 x9 = q0
  generalize k0_pay51 x1 x7 x8 x9 = q1
  simp only [st0, st1, st2, st3, st4, st5, st6, st7, st8, st9, st10, st11, st12, st13, st14, st15, st16, st17, st18, st19, st20, st21, st22, st23, st24, st25, st26, st27, st28, st29, st30, st31, st32, st33]
  simp (decide := true) only [↓scSkip, View.readCov_cons_toLoadRect]
  rw [pay_m0 q0 (kld _), pay_m1 q1 (kld _), pay_l0' q0 _ (kld _), pay_a0' q0 _ (kld _) (vld _), pay_out' q1 _ (kld _) (vld _)]
  rw [show View.ld x0 (Rect.unit ![0] ![1] inb_S1_S1_0) = x0 from View.ld_unit_zero (S := S1) hz1 _ x0, idx1 x0]
  rfl

end Cert.Proof.Attn

end
-- ==== Proof.AttnBlockB.lean ====
/- Hand-written, untrusted: what the attention body leaves in its output block at a point that finds the keys and
   values kept. -/
module

public import proofs.«01_k».proof.Proof.AttnFold
public import Idealize.ShloMosaic.Lib.Pipeline.ReadBack
public import Idealize.ShloMosaic.Lib.Pointwise

@[expose] public section

set_option maxRecDepth 65536
set_option maxHeartbeats 4000000

noncomputable section

namespace Cert.Proof.Attn

open Cert.KernelIdeal Cert.KernelIdeal.Gen Cert.KernelIdeal.Value Idealize.ShloMosaic Idealize.ShloMosaic.TcCoe Idealize.SL.Sem

/-- What the body leaves in the output block. -/
theorem outB_eq (c : Dev nD) (i : grid0.Coords) (arg3 : Memref sig .tc .smem S1 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S256x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x128 .f32) (harg16 : arg16.IsWhole) (arg17 : Memref sig .tc .vmem S512x128 .bf16) (harg17 : arg17.IsWhole) (arg18 : Memref sig .tc .vmem S17x256x128 .bf16) (harg18 : arg18.IsWhole) (arg19 : Memref sig .tc .vmem S17x128x256 .bf16) (harg19 : arg19.IsWhole) (arg20 : Memref sig .tc .vmem S2x17x256x512 .f32) (harg20 : arg20.IsWhole) (hc0 : ¬cond0_0 i)
    (x0 : Vec Ideal S1 .f32) (x1 : Vec Ideal S512x128 .f32) (x2 : Vec Ideal S4096x128 .f32) (x3 : Vec Ideal S256x128 .f32) (x4 : Vec Ideal S4096x128 .f32) (x5 : Vec Ideal S256x128 .f32) (x6 : Vec Ideal S512x128 .f32) (x7 : Vec Ideal S512x128 .f32) (x8 : Vec Ideal S512x128 .f32) (x9 : Vec Ideal S512x128 .f32) (x10 : Vec Ideal S4096x128 .f32) (x11 : Vec Ideal S4096x128 .f32) (x12 : Vec Ideal S4096x128 .f32) (x13 : Vec Ideal S1x128 .f32) (xs0 : Vec Ideal S17x256x128 .bf16) (xs1 : Vec Ideal S17x128x256 .bf16) :
    out0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 xs1
      = outA (k0_pay50 x1 x7 x8 x9) (k0_pay51 x1 x7 x8 x9) (kld xs0) (vld xs1) (x0 (ix1 0)) x13 x6 := by
  unfold out0_B_14
  rw [View.read_writes_eq_canon _ _ _ (cover0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 xs1)]
  unfold kernelRun0_B
  dsimp only
  rw [View.canon_unit_zero hz]
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have l1 : View.ld x1 (Rect.unit ![0, 0] ![512, 128] inb_S512x128_S512x128_0_0) = x1 := View.ld_unit_zero (S := S512x128) hz _ x1
  have l6 : View.ld x6 (Rect.unit ![0, 0] ![512, 128] inb_S512x128_S512x128_0_0) = x6 := View.ld_unit_zero (S := S512x128) hz _ x6
  have l7 : View.ld x7 (Rect.unit ![0, 0] ![512, 128] inb_S512x128_S512x128_0_0) = x7 := View.ld_unit_zero (S := S512x128) hz _ x7
  have l8 : View.ld x8 (Rect.unit ![0, 0] ![512, 128] inb_S512x128_S512x128_0_0) = x8 := View.ld_unit_zero (S := S512x128) hz _ x8
  have l9 : View.ld x9 (Rect.unit ![0, 0] ![512, 128] inb_S512x128_S512x128_0_0) = x9 := View.ld_unit_zero (S := S512x128) hz _ x9
  have l13 : View.ld x13 (Rect.unit ![0, 0] ![1, 128] inb_S1x128_S1x128_0_0) = x13 := View.ld_unit_zero (S := S1x128) hz _ x13
  have k0 : View.ld xs0 (Rect.unit ![0, 0, 0] ![1, 256, 128] inb_S17x256x128_S1x256x128_0_0_0) = kld xs0 0 := rfl
  have k1 : View.ld xs0 (Rect.unit ![1, 0, 0] ![1, 256, 128] inb_S17x256x128_S1x256x128_1_0_0) = kld xs0 1 := rfl
  have k2 : View.ld xs0 (Rect.unit ![2, 0, 0] ![1, 256, 128] inb_S17x256x128_S1x256x128_2_0_0) = kld xs0 2 := rfl
  have k3 : View.ld xs0 (Rect.unit ![3, 0, 0] ![1, 256, 128] inb_S17x256x128_S1x256x128_3_0_0) = kld xs0 3 := rfl
  have k4 : View.ld xs0 (Rect.unit ![4, 0, 0] ![1, 256, 128] inb_S17x256x128_S1x256x128_4_0_0) = kld xs0 4 := rfl
  have k5 : View.ld xs0 (Rect.unit ![5, 0, 0] ![1, 256, 128] inb_S17x256x128_S1x256x128_5_0_0) = kld xs0 5 := rfl
  have k6 : View.ld xs0 (Rect.unit ![6, 0, 0] ![1, 256, 128] inb_S17x256x128_S1x256x128_6_0_0) = kld xs0 6 := rfl
  have k7 : View.ld xs0 (Rect.unit ![7, 0, 0] ![1, 256, 128] inb_S17x256x128_S1x256x128_7_0_0) = kld xs0 7 := rfl
  have k8 : View.ld xs0 (Rect.unit ![8, 0, 0] ![1, 256, 128] inb_S17x256x128_S1x256x128_8_0_0) = kld xs0 8 := rfl
  have k9 : View.ld xs0 (Rect.unit ![9, 0, 0] ![1, 256, 128] inb_S17x256x128_S1x256x128_9_0_0) = kld xs0 9 := rfl
  have k10 : View.ld xs0 (Rect.unit ![10, 0, 0] ![1, 256, 128] inb_S17x256x128_S1x256x128_10_0_0) = kld xs0 10 := rfl
  have k11 : View.ld xs0 (Rect.unit ![11, 0, 0] ![1, 256, 128] inb_S17x256x128_S1x256x128_11_0_0) = kld xs0 11 := rfl
  have k12 : View.ld xs0 (Rect.unit ![12, 0, 0] ![1, 256, 128] inb_S17x256x128_S1x256x128_12_0_0) = kld xs0 12 := rfl
  have k13 : View.ld xs0 (Rect.unit ![13, 0, 0] ![1, 256, 128] inb_S17x256x128_S1x256x128_13_0_0) = kld xs0 13 := rfl
  have k14 : View.ld xs0 (Rect.unit ![14, 0, 0] ![1, 256, 128] inb_S17x256x128_S1x256x128_14_0_0) = kld xs0 14 := rfl
  have k15 : View.ld xs0 (Rect.unit ![15, 0, 0] ![1, 256, 128] inb_S17x256x128_S1x256x128_15_0_0) = kld xs0 15 := rfl
  have k16 : View.ld xs0 (Rect.unit ![16, 0, 0] ![1, 256, 128] inb_S17x256x128_S1x256x128_16_0_0) = kld xs0 16 := rfl
  have v0 : View.ld xs1 (Rect.unit ![0, 0, 0] ![1, 128, 256] inb_S17x128x256_S1x128x256_0_0_0) = vld xs1 0 := rfl
  have v1 : View.ld xs1 (Rect.unit ![1, 0, 0] ![1, 128, 256] inb_S17x128x256_S1x128x256_1_0_0) = vld xs1 1 := rfl
  have v2 : View.ld xs1 (Rect.unit ![2, 0, 0] ![1, 128, 256] inb_S17x128x256_S1x128x256_2_0_0) = vld xs1 2 := rfl
  have v3 : View.ld xs1 (Rect.unit ![3, 0, 0] ![1, 128, 256] inb_S17x128x256_S1x128x256_3_0_0) = vld xs1 3 := rfl
  have v4 : View.ld xs1 (Rect.unit ![4, 0, 0] ![1, 128, 256] inb_S17x128x256_S1x128x256_4_0_0) = vld xs1 4 := rfl
  have v5 : View.ld xs1 (Rect.unit ![5, 0, 0] ![1, 128, 256] inb_S17x128x256_S1x128x256_5_0_0) = vld xs1 5 := rfl
  have v6 : View.ld xs1 (Rect.unit ![6, 0, 0] ![1, 128, 256] inb_S17x128x256_S1x128x256_6_0_0) = vld xs1 6 := rfl
  have v7 : View.ld xs1 (Rect.unit ![7, 0, 0] ![1, 128, 256] inb_S17x128x256_S1x128x256_7_0_0) = vld xs1 7 := rfl
  have v8 : View.ld xs1 (Rect.unit ![8, 0, 0] ![1, 128, 256] inb_S17x128x256_S1x128x256_8_0_0) = vld xs1 8 := rfl
  have v9 : View.ld xs1 (Rect.unit ![9, 0, 0] ![1, 128, 256] inb_S17x128x256_S1x128x256_9_0_0) = vld xs1 9 := rfl
  have v10 : View.ld xs1 (Rect.unit ![10, 0, 0] ![1, 128, 256] inb_S17x128x256_S1x128x256_10_0_0) = vld xs1 10 := rfl
  have v11 : View.ld xs1 (Rect.unit ![11, 0, 0] ![1, 128, 256] inb_S17x128x256_S1x128x256_11_0_0) = vld xs1 11 := rfl
  have v12 : View.ld xs1 (Rect.unit ![12, 0, 0] ![1, 128, 256] inb_S17x128x256_S1x128x256_12_0_0) = vld xs1 12 := rfl
  have v13 : View.ld xs1 (Rect.unit ![13, 0, 0] ![1, 128, 256] inb_S17x128x256_S1x128x256_13_0_0) = vld xs1 13 := rfl
  have v14 : View.ld xs1 (Rect.unit ![14, 0, 0] ![1, 128, 256] inb_S17x128x256_S1x128x256_14_0_0) = vld xs1 14 := rfl
  have v15 : View.ld xs1 (Rect.unit ![15, 0, 0] ![1, 128, 256] inb_S17x128x256_S1x128x256_15_0_0) = vld xs1 15 := rfl
  have v16 : View.ld xs1 (Rect.unit ![16, 0, 0] ![1, 128, 256] inb_S17x128x256_S1x128x256_16_0_0) = vld xs1 16 := rfl
  simp only [l1, l6, l7, l8, l9, l13, k0, k1, k2, k3, k4, k5, k6, k7, k8, k9, k10, k11, k12, k13, k14, k15, k16, v0, v1, v2, v3, v4, v5, v6, v7, v8, v9, v10, v11, v12, v13, v14, v15, v16]
  generalize k0_pay50 x1 x7 x8 x9 = q0
  generalize k0_pay51 x1 x7 x8 x9 = q1
  simp only [st0, st1, st2, st3, st4, st5, st6, st7, st8, st9, st10, st11, st12, st13, st14, st15, st16, st17, st18, st19, st20, st21, st22, st23, st24, st25, st26, st27, st28, st29, st30, st31, st32, st33]
  simp (decide := true) only [↓scSkip, View.readCov_cons_toLoadRect]
  rw [pay_m0 q0 (kld xs0), pay_m1 q1 (kld xs0), pay_l0' q0 _ (kld xs0), pay_a0' q0 _ (kld xs0) (vld xs1), pay_out' q1 _ (kld xs0) (vld xs1)]
  rw [show View.ld x0 (Rect.unit ![0] ![1] inb_S1_S1_0) = x0 from View.ld_unit_zero (S := S1) hz1 _ x0, idx1 x0]
  rfl

end Cert.Proof.Attn

end
-- ==== Proof.AttnKernel.lean ====
/- Hand-written, untrusted: the array the attention kernel leaves, as a function of the argument arrays. -/
module

public import proofs.«01_k».proof.Proof.AttnRow
public import proofs.«01_k».proof.Proof.AttnWindows
public import proofs.«01_k».proof.Proof.AttnFill
public import proofs.«01_k».proof.Proof.AttnBlockA
public import proofs.«01_k».proof.Proof.AttnBlockB
public import proofs.«01_k».proof.Proof.AttnRef

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- Writing the sixteen latent blocks and the context's block leaves the turned latent keys, then the context's. -/
theorem kf_apply (S : Vec Ideal S17x256x128 .bf16) (x2 : Vec Ideal S4096x128 .f32) (x3 : Vec Ideal S256x128 .f32) (x10 x11 x12 : Vec Ideal S4096x128 .f32)
    (hf : kld S 0 = k0_pay1 (rows x2 0 (by omega)) (rows x10 0 (by omega)) (rows x11 0 (by omega)) (rows x12 0 (by omega))
    ∧ kld S 1 = k0_pay1 (rows x2 256 (by omega)) (rows x10 256 (by omega)) (rows x11 256 (by omega)) (rows x12 256 (by omega))
    ∧ kld S 2 = k0_pay1 (rows x2 512 (by omega)) (rows x10 512 (by omega)) (rows x11 512 (by omega)) (rows x12 512 (by omega))
    ∧ kld S 3 = k0_pay1 (rows x2 768 (by omega)) (rows x10 768 (by omega)) (rows x11 768 (by omega)) (rows x12 768 (by omega))
    ∧ kld S 4 = k0_pay1 (rows x2 1024 (by omega)) (rows x10 1024 (by omega)) (rows x11 1024 (by omega)) (rows x12 1024 (by omega))
    ∧ kld S 5 = k0_pay1 (rows x2 1280 (by omega)) (rows x10 1280 (by omega)) (rows x11 1280 (by omega)) (rows x12 1280 (by omega))
    ∧ kld S 6 = k0_pay1 (rows x2 1536 (by omega)) (rows x10 1536 (by omega)) (rows x11 1536 (by omega)) (rows x12 1536 (by omega))
    ∧ kld S 7 = k0_pay1 (rows x2 1792 (by omega)) (rows x10 1792 (by omega)) (rows x11 1792 (by omega)) (rows x12 1792 (by omega))
    ∧ kld S 8 = k0_pay1 (rows x2 2048 (by omega)) (rows x10 2048 (by omega)) (rows x11 2048 (by omega)) (rows x12 2048 (by omega))
    ∧ kld S 9 = k0_pay1 (rows x2 2304 (by omega)) (rows x10 2304 (by omega)) (rows x11 2304 (by omega)) (rows x12 2304 (by omega))
    ∧ kld S 10 = k0_pay1 (rows x2 2560 (by omega)) (rows x10 2560 (by omega)) (rows x11 2560 (by omega)) (rows x12 2560 (by omega))
    ∧ kld S 11 = k0_pay1 (rows x2 2816 (by omega)) (rows x10 2816 (by omega)) (rows x11 2816 (by omega)) (rows x12 2816 (by omega))
    ∧ kld S 12 = k0_pay1 (rows x2 3072 (by omega)) (rows x10 3072 (by omega)) (rows x11 3072 (by omega)) (rows x12 3072 (by omega))
    ∧ kld S 13 = k0_pay1 (rows x2 3328 (by omega)) (rows x10 3328 (by omega)) (rows x11 3328 (by omega)) (rows x12 3328 (by omega))
    ∧ kld S 14 = k0_pay1 (rows x2 3584 (by omega)) (rows x10 3584 (by omega)) (rows x11 3584 (by omega)) (rows x12 3584 (by omega))
    ∧ kld S 15 = k0_pay1 (rows x2 3840 (by omega)) (rows x10 3840 (by omega)) (rows x11 3840 (by omega)) (rows x12 3840 (by omega))
    ∧ kld S 16 = k0_pay46 x3)
    (j : Fin 17) (κ : Fin 256) (d : Fin 128) :
    (kld S j (ix3 0 κ d) : EReal) = if hj : j.val < 16 then
      rope (fun d => x2 (ix2 ⟨256 * j.val + κ.val, by omega⟩ d)) (fun d => x10 (ix2 ⟨256 * j.val + κ.val, by omega⟩ d))
        (fun d => x11 (ix2 ⟨256 * j.val + κ.val, by omega⟩ d)) (fun d => x12 (ix2 ⟨256 * j.val + κ.val, by omega⟩ d)) d
      else x3 (ix2 κ d) := by
  have lo : ∀ (j : Fin 17) (o : Nat) (ho : o + 256 ≤ 4096) (hj : j.val < 16) (he : o = 256 * j.val),
      kld S j = k0_pay1 (rows x2 o ho) (rows x10 o ho) (rows x11 o ho) (rows x12 o ho) →
      (kld S j (ix3 0 κ d) : EReal) = if hj : j.val < 16 then
        rope (fun d => x2 (ix2 ⟨256 * j.val + κ.val, by omega⟩ d)) (fun d => x10 (ix2 ⟨256 * j.val + κ.val, by omega⟩ d))
          (fun d => x11 (ix2 ⟨256 * j.val + κ.val, by omega⟩ d)) (fun d => x12 (ix2 ⟨256 * j.val + κ.val, by omega⟩ d)) d
        else x3 (ix2 κ d) := by
    intro j o ho hj he h
    subst he
    rw [h, dif_pos hj, pay1_apply]
    simp only [rows_apply]
  obtain ⟨h0, h1, h2, h3, h4, h5, h6, h7, h8, h9, h10, h11, h12, h13, h14, h15, h16⟩ := hf
  match j with
  | ⟨0, _⟩ => exact lo 0 0 (by omega) (by decide) rfl h0
  | ⟨1, _⟩ => exact lo 1 256 (by omega) (by decide) rfl h1
  | ⟨2, _⟩ => exact lo 2 512 (by omega) (by decide) rfl h2
  | ⟨3, _⟩ => exact lo 3 768 (by omega) (by decide) rfl h3
  | ⟨4, _⟩ => exact lo 4 1024 (by omega) (by decide) rfl h4
  | ⟨5, _⟩ => exact lo 5 1280 (by omega) (by decide) rfl h5
  | ⟨6, _⟩ => exact lo 6 1536 (by omega) (by decide) rfl h6
  | ⟨7, _⟩ => exact lo 7 1792 (by omega) (by decide) rfl h7
  | ⟨8, _⟩ => exact lo 8 2048 (by omega) (by decide) rfl h8
  | ⟨9, _⟩ => exact lo 9 2304 (by omega) (by decide) rfl h9
  | ⟨10, _⟩ => exact lo 10 2560 (by omega) (by decide) rfl h10
  | ⟨11, _⟩ => exact lo 11 2816 (by omega) (by decide) rfl h11
  | ⟨12, _⟩ => exact lo 12 3072 (by omega) (by decide) rfl h12
  | ⟨13, _⟩ => exact lo 13 3328 (by omega) (by decide) rfl h13
  | ⟨14, _⟩ => exact lo 14 3584 (by omega) (by decide) rfl h14
  | ⟨15, _⟩ => exact lo 15 3840 (by omega) (by decide) rfl h15
  | ⟨16, _⟩ => exact (congrFun h16 _).trans (pay46_apply x3 κ d)
  | ⟨n + 17, hn⟩ => exact absurd hn (by omega)

/-- The same of the values, which are kept with the token last. -/
theorem vf_apply (S : Vec Ideal S17x128x256 .bf16) (x4 : Vec Ideal S4096x128 .f32) (x5 : Vec Ideal S256x128 .f32)
    (hf : vld S 0 = k0_pay2 (rows x4 0 (by omega))
    ∧ vld S 1 = k0_pay2 (rows x4 256 (by omega))
    ∧ vld S 2 = k0_pay2 (rows x4 512 (by omega))
    ∧ vld S 3 = k0_pay2 (rows x4 768 (by omega))
    ∧ vld S 4 = k0_pay2 (rows x4 1024 (by omega))
    ∧ vld S 5 = k0_pay2 (rows x4 1280 (by omega))
    ∧ vld S 6 = k0_pay2 (rows x4 1536 (by omega))
    ∧ vld S 7 = k0_pay2 (rows x4 1792 (by omega))
    ∧ vld S 8 = k0_pay2 (rows x4 2048 (by omega))
    ∧ vld S 9 = k0_pay2 (rows x4 2304 (by omega))
    ∧ vld S 10 = k0_pay2 (rows x4 2560 (by omega))
    ∧ vld S 11 = k0_pay2 (rows x4 2816 (by omega))
    ∧ vld S 12 = k0_pay2 (rows x4 3072 (by omega))
    ∧ vld S 13 = k0_pay2 (rows x4 3328 (by omega))
    ∧ vld S 14 = k0_pay2 (rows x4 3584 (by omega))
    ∧ vld S 15 = k0_pay2 (rows x4 3840 (by omega))
    ∧ vld S 16 = k0_pay48 (k0_pay47 x5))
    (j : Fin 17) (κ : Fin 256) (d : Fin 128) :
    (vld S j (ix3 0 d κ) : EReal) = if hj : j.val < 16 then x4 (ix2 ⟨256 * j.val + κ.val, by omega⟩ d) else x5 (ix2 κ d) := by
  have lo : ∀ (j : Fin 17) (o : Nat) (ho : o + 256 ≤ 4096) (hj : j.val < 16) (he : o = 256 * j.val), vld S j = k0_pay2 (rows x4 o ho) →
      (vld S j (ix3 0 d κ) : EReal) = if hj : j.val < 16 then x4 (ix2 ⟨256 * j.val + κ.val, by omega⟩ d) else x5 (ix2 κ d) := by
    intro j o ho hj he h
    subst he
    rw [h, dif_pos hj, pay2_apply, rows_apply]
  obtain ⟨h0, h1, h2, h3, h4, h5, h6, h7, h8, h9, h10, h11, h12, h13, h14, h15, h16⟩ := hf
  match j with
  | ⟨0, _⟩ => exact lo 0 0 (by omega) (by decide) rfl h0
  | ⟨1, _⟩ => exact lo 1 256 (by omega) (by decide) rfl h1
  | ⟨2, _⟩ => exact lo 2 512 (by omega) (by decide) rfl h2
  | ⟨3, _⟩ => exact lo 3 768 (by omega) (by decide) rfl h3
  | ⟨4, _⟩ => exact lo 4 1024 (by omega) (by decide) rfl h4
  | ⟨5, _⟩ => exact lo 5 1280 (by omega) (by decide) rfl h5
  | ⟨6, _⟩ => exact lo 6 1536 (by omega) (by decide) rfl h6
  | ⟨7, _⟩ => exact lo 7 1792 (by omega) (by decide) rfl h7
  | ⟨8, _⟩ => exact lo 8 2048 (by omega) (by decide) rfl h8
  | ⟨9, _⟩ => exact lo 9 2304 (by omega) (by decide) rfl h9
  | ⟨10, _⟩ => exact lo 10 2560 (by omega) (by decide) rfl h10
  | ⟨11, _⟩ => exact lo 11 2816 (by omega) (by decide) rfl h11
  | ⟨12, _⟩ => exact lo 12 3072 (by omega) (by decide) rfl h12
  | ⟨13, _⟩ => exact lo 13 3328 (by omega) (by decide) rfl h13
  | ⟨14, _⟩ => exact lo 14 3584 (by omega) (by decide) rfl h14
  | ⟨15, _⟩ => exact lo 15 3840 (by omega) (by decide) rfl h15
  | ⟨16, _⟩ => exact (congrFun h16 _).trans (pay48_apply x5 κ d)
  | ⟨n + 17, hn⟩ => exact absurd hn (by omega)

/-- The arrays as launched. -/
abbrev pl (c : Dev nD) : FVec Ideal S16384x16128 .f32 := m ((c : Thread nD τ).loc main_arg0)
abbrev pc (c : Dev nD) : FVec Ideal S1024x16128 .f32 := m ((c : Thread nD τ).loc main_arg1)
abbrev la (c : Dev nD) : FVec Ideal S4x4x64 .f32 := m ((c : Thread nD τ).loc main_arg2)
abbrev gn (c : Dev nD) : FVec Ideal S4x128 .f32 := m ((c : Thread nD τ).loc main_arg3)

theorem keys_eq (c : Dev nD) (t : Fin cfg0.N) (j : Fin 17) (κ : Fin 256) (d : Fin 128) :
    (if hj : j.val < 16 then
      rope (fun d => iblk m c 2 t (ix2 ⟨256 * j.val + κ.val, by omega⟩ d : S4096x128.Idx)) (fun d => iblk m c 10 t (ix2 ⟨256 * j.val + κ.val, by omega⟩ d : S4096x128.Idx))
        (fun d => iblk m c 11 t (ix2 ⟨256 * j.val + κ.val, by omega⟩ d : S4096x128.Idx)) (fun d => iblk m c 12 t (ix2 ⟨256 * j.val + κ.val, by omega⟩ d : S4096x128.Idx)) d
      else iblk m c 3 t (ix2 κ d : S256x128.Idx) : EReal)
      = AttnRef.keys (pl m c) (pc m c) (pb t.val t.isLt) (ph t.val t.isLt) (AttnSpec.key j κ) d := by
  unfold AttnRef.keys
  by_cases hj : j.val < 16
  · have hk : (AttnSpec.key j κ).val < 4096 := by show 256 * j.val + κ.val < 4096; omega
    rw [dif_pos hj, dif_pos hk]
    simp only [blk2, blk10, blk11, blk12]
    exact congrFun (AttnSpec.rope_turn _ _ _) d
  · have hk : ¬(AttnSpec.key j κ).val < 4096 := by show ¬256 * j.val + κ.val < 4096; omega
    rw [dif_neg hj, dif_neg hk, blk3]
    have e : κ = (⟨(AttnSpec.key j κ).val - 4096, by have := (AttnSpec.key j κ).isLt; omega⟩ : Fin 256) :=
      Fin.ext (by show κ.val = 256 * j.val + κ.val - 4096; omega)
    exact congrArg (fun k => AttnRef.crow (pc m c) 14336 (by omega) (pb t.val t.isLt) k (ph t.val t.isLt) d) e

theorem vals_eq (c : Dev nD) (t : Fin cfg0.N) (j : Fin 17) (κ : Fin 256) (d : Fin 128) :
    (if hj : j.val < 16 then iblk m c 4 t (ix2 ⟨256 * j.val + κ.val, by omega⟩ d : S4096x128.Idx) else iblk m c 5 t (ix2 κ d : S256x128.Idx) : EReal)
      = AttnRef.vals (pl m c) (pc m c) (pb t.val t.isLt) (ph t.val t.isLt) (AttnSpec.key j κ) d := by
  unfold AttnRef.vals
  by_cases hj : j.val < 16
  · have hk : (AttnSpec.key j κ).val < 4096 := by show 256 * j.val + κ.val < 4096; omega
    rw [dif_pos hj, dif_pos hk, blk4]
    rfl
  · have hk : ¬(AttnSpec.key j κ).val < 4096 := by show ¬256 * j.val + κ.val < 4096; omega
    rw [dif_neg hj, dif_neg hk, blk5]
    have e : κ = (⟨(AttnSpec.key j κ).val - 4096, by have := (AttnSpec.key j κ).isLt; omega⟩ : Fin 256) :=
      Fin.ext (by show κ.val = 256 * j.val + κ.val - 4096; omega)
    exact congrArg (fun k => AttnRef.crow (pc m c) 14848 (by omega) (pb t.val t.isLt) k (ph t.val t.isLt) d) e

/-- What the kept keys and values hold after a point. -/
def Kept (c : Dev nD) (n : Nat) (hn : n < cfg0.N) : Prop :=
  (∀ (j : Fin 17) (κ : Fin 256) (d : Fin 128), (kld (outsAt0 m c n hn).2.1 j (ix3 0 κ d) : EReal)
      = AttnRef.keys (pl m c) (pc m c) (pb n hn) (ph n hn) (AttnSpec.key j κ) d)
  ∧ ∀ (j : Fin 17) (κ : Fin 256) (d : Fin 128), (vld (outsAt0 m c n hn).2.2 j (ix3 0 d κ) : EReal)
      = AttnRef.vals (pl m c) (pc m c) (pb n hn) (ph n hn) (AttnSpec.key j κ) d

theorem keptA (c : Dev nD) (t : Fin cfg0.N) (h0 : t.val % 8 = 0) : Kept m c t.val t.isLt := by
  constructor
  · intro j κ d
    rw [outsAt0_A m c t h0]
    dsimp only
    exact (kf_apply _ _ _ _ _ _ (kfill c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) j κ d).trans (keys_eq m c t j κ d)
  · intro j κ d
    rw [outsAt0_A m c t h0]
    dsimp only
    exact (vf_apply _ _ _ (vfill c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) j κ d).trans (vals_eq m c t j κ d)

theorem keptB (c : Dev nD) (t : Fin cfg0.N) (h0 : ¬t.val % 8 = 0)
    (ih : Kept m c (t.val - 1) (Nat.lt_of_le_of_lt (Nat.sub_le _ _) t.isLt)) : Kept m c t.val t.isLt := by
  have ht := t_lt t
  have eb : pb (t.val - 1) (Nat.lt_of_le_of_lt (Nat.sub_le _ _) t.isLt) = pb t.val t.isLt := Fin.ext (by show (t.val - 1) / 32 = t.val / 32; omega)
  have eh : ph (t.val - 1) (Nat.lt_of_le_of_lt (Nat.sub_le _ _) t.isLt) = ph t.val t.isLt := Fin.ext (by show (t.val - 1) / 8 % 4 = t.val / 8 % 4; omega)
  unfold Kept at ih
  rw [eb, eh] at ih
  unfold Kept
  rw [outsAt0_B m c t h0]
  exact ih

theorem kept (c : Dev nD) : ∀ (n : Nat) (hn : n < cfg0.N), Kept m c n hn := by
  intro n
  induction n with
  | zero => exact fun hn => keptA m c ⟨0, hn⟩ rfl
  | succ n ih =>
    intro hn
    by_cases h0 : (n + 1) % 8 = 0
    · exact keptA m c ⟨n + 1, hn⟩ h0
    · exact keptB m c ⟨n + 1, hn⟩ h0 (ih (Nat.lt_of_succ_lt hn))

/-- One place of the result, by batch, head, token and lane. -/
def Grow (x0 : FVec Ideal S16384x16128 .f32) (x1 : FVec Ideal S1024x16128 .f32) (x2 : FVec Ideal S4x4x64 .f32) (x3 : FVec Ideal S4x128 .f32)
    (b h : Fin 4) (s : Fin 4096) (d : Fin 128) : EReal :=
  AttnRef.gated (AttnSpec.kdiff (fun d => if d.val < 64 then AttnRef.qry x0 b h s d * scl else (0 : EReal))
      (fun d => if 64 ≤ d.val then AttnRef.qry x0 b h s d * scl else (0 : EReal))
      (fun j κ d => AttnRef.keys x0 x1 b h (AttnSpec.key j κ) d) (fun j κ d => AttnRef.vals x0 x1 b h (AttnSpec.key j κ) d)
      (Cert.ReferenceIdeal.Read.val_main_v29 (F := Ideal) x2 ix0))
    (fun d => x3 (ix2 3 d)) (AttnRef.row x0 15360 (by omega) b s h) d

/-- The result array as a function of the argument arrays. -/
def G (x0 : FVec Ideal S16384x16128 .f32) (x1 : FVec Ideal S1024x16128 .f32) (x2 : FVec Ideal S4x4x64 .f32) (x3 : FVec Ideal S4x128 .f32) : Vec Ideal S16384x512 .bf16 :=
  fun i => Grow x0 x1 x2 x3 ⟨(i 0).val / 4096, by have := (i 0).isLt; change _ < 16384 at this; omega⟩ ⟨(i 1).val / 128, by have := (i 1).isLt; change _ < 512 at this; omega⟩
    ⟨(i 0).val % 4096, by omega⟩ ⟨(i 1).val % 128, by omega⟩

abbrev Gm (c : Dev nD) : Vec Ideal S16384x512 .bf16 := G (pl m c) (pc m c) (la m c) (gn m c)

theorem qry_eq (c : Dev nD) (t : Fin cfg0.N) (r : Fin 512) (d : Fin 128) :
    rope (fun d => iblk m c 1 t (ix2 r d : S512x128.Idx)) (fun d => iblk m c 7 t (ix2 r d : S512x128.Idx))
      (fun d => iblk m c 8 t (ix2 r d : S512x128.Idx)) (fun d => iblk m c 9 t (ix2 r d : S512x128.Idx)) d
      = AttnRef.qry (pl m c) (pb t.val t.isLt) (ph t.val t.isLt) (ps t.val t.isLt r) d := by
  simp only [blk1, blk7, blk8, blk9]
  exact congrFun (AttnSpec.rope_turn _ _ _) d

theorem block_out (c : Dev nD) (t : Fin cfg0.N) (K : Fin 17 → Vec Ideal S1x256x128 .bf16) (V : Fin 17 → Vec Ideal S1x128x256 .bf16)
    (hK : ∀ (j : Fin 17) (κ : Fin 256) (d : Fin 128), (K j (ix3 0 κ d) : EReal) = AttnRef.keys (pl m c) (pc m c) (pb t.val t.isLt) (ph t.val t.isLt) (AttnSpec.key j κ) d)
    (hV : ∀ (j : Fin 17) (κ : Fin 256) (d : Fin 128), (V j (ix3 0 d κ) : EReal) = AttnRef.vals (pl m c) (pc m c) (pb t.val t.isLt) (ph t.val t.isLt) (AttnSpec.key j κ) d)
    (r : Fin 512) (d : Fin 128) :
    (outA (k0_pay50 (iblk m c 1 t) (iblk m c 7 t) (iblk m c 8 t) (iblk m c 9 t)) (k0_pay51 (iblk m c 1 t) (iblk m c 7 t) (iblk m c 8 t) (iblk m c 9 t)) K V
        ((iblk m c 0 t : Vec Ideal S1 .f32) (ix1 0)) (iblk m c 13 t) (iblk m c 6 t) (ix2 r d) : EReal)
      = Grow (pl m c) (pc m c) (la m c) (gn m c) (pb t.val t.isLt) (ph t.val t.isLt) (ps t.val t.isLt r) d := by
  rw [outA_apply]
  unfold Grow
  have hk : kr K = fun j κ d => AttnRef.keys (pl m c) (pc m c) (pb t.val t.isLt) (ph t.val t.isLt) (AttnSpec.key j κ) d :=
    funext fun j => funext fun κ => funext fun d => hK j κ d
  have hv : vr V = fun j κ d => AttnRef.vals (pl m c) (pc m c) (pb t.val t.isLt) (ph t.val t.isLt) (AttnSpec.key j κ) d :=
    funext fun j => funext fun κ => funext fun d => hV j κ d
  have h0 : qr (k0_pay50 (iblk m c 1 t) (iblk m c 7 t) (iblk m c 8 t) (iblk m c 9 t)) r
      = fun d => if d.val < 64 then AttnRef.qry (pl m c) (pb t.val t.isLt) (ph t.val t.isLt) (ps t.val t.isLt r) d * scl else (0 : EReal) :=
    funext fun d => (q0_apply _ _ _ _ r d).trans (by rw [← qry_eq])
  have h1 : qr (k0_pay51 (iblk m c 1 t) (iblk m c 7 t) (iblk m c 8 t) (iblk m c 9 t)) r
      = fun d => if 64 ≤ d.val then AttnRef.qry (pl m c) (pb t.val t.isLt) (ph t.val t.isLt) (ps t.val t.isLt r) d * scl else (0 : EReal) :=
    funext fun d => (q1_apply _ _ _ _ r d).trans (by rw [← qry_eq])
  rw [hk, hv, h0, h1, blk0]
  have hg : (fun d => ((iblk m c 13 t : Vec Ideal S1x128 .f32) (ix2 0 d) : EReal)) = fun d => gn m c (ix2 3 d) := funext fun d => blk13 m c t d
  have hz : (fun d => ((iblk m c 6 t : Vec Ideal S512x128 .f32) (ix2 r d) : EReal))
      = AttnRef.row (pl m c) 15360 (by omega) (pb t.val t.isLt) (ps t.val t.isLt r) (ph t.val t.isLt) := funext fun d => blk6 m c t r d
  rw [hg, hz]

theorem emb14 (t : Fin cfg0.N) (r : Fin 512) (e : Fin 128) :
    ((cfg0.win 14).blk t).view.emb (ix2 r e : S512x128.Idx)
      = (ix2 ⟨(pb t.val t.isLt).val * 4096 + (ps t.val t.isLt r).val, by omega⟩ ⟨(ph t.val t.isLt).val * 128 + e.val, by omega⟩ : S16384x512.Idx) := by
  obtain ⟨e0, e1⟩ := ix_14 t
  funext a; apply Fin.ext
  match a with
  | ⟨0, _⟩ => show win0_14.index t 0 * 512 + 1 * r.val = t.val / 32 * 4096 + (t.val % 8 * 512 + r.val); omega
  | ⟨1, _⟩ => show win0_14.index t 1 * 128 + 1 * e.val = t.val / 8 % 4 * 128 + e.val; omega

theorem G_at (x0 : FVec Ideal S16384x16128 .f32) (x1 : FVec Ideal S1024x16128 .f32) (x2 : FVec Ideal S4x4x64 .f32) (x3 : FVec Ideal S4x128 .f32)
    (b h : Fin 4) (s : Fin 4096) (d : Fin 128) :
    (G x0 x1 x2 x3 (ix2 ⟨b.val * 4096 + s.val, by omega⟩ ⟨h.val * 128 + d.val, by omega⟩ : S16384x512.Idx) : EReal) = Grow x0 x1 x2 x3 b h s d := by
  have eb : (⟨(b.val * 4096 + s.val) / 4096, by omega⟩ : Fin 4) = b := Fin.ext (by dsimp only; omega)
  have es : (⟨(b.val * 4096 + s.val) % 4096, by omega⟩ : Fin 4096) = s := Fin.ext (by dsimp only; omega)
  have eh : (⟨(h.val * 128 + d.val) / 128, by omega⟩ : Fin 4) = h := Fin.ext (by dsimp only; omega)
  have ed : (⟨(h.val * 128 + d.val) % 128, by omega⟩ : Fin 128) = d := Fin.ext (by dsimp only; omega)
  show Grow x0 x1 x2 x3 ⟨(b.val * 4096 + s.val) / 4096, _⟩ ⟨(h.val * 128 + d.val) / 128, _⟩ ⟨(b.val * 4096 + s.val) % 4096, _⟩ ⟨(h.val * 128 + d.val) % 128, _⟩ = _
  rw [eb, es, eh, ed]

theorem flushed_eq' (c : Dev nD) (t : Fin cfg0.N) :
    (dats m 0 c).flushed 14 t = ((cfg0.win 14).blk t).view.read (Elt Ideal) (Gm m c) := by
  have key : ∀ (r : Fin 512) (e : Fin 128), ((dats m 0 c).flushed 14 t (ix2 r e : S512x128.Idx) : EReal)
      = Grow (pl m c) (pc m c) (la m c) (gn m c) (pb t.val t.isLt) (ph t.val t.isLt) (ps t.val t.isLt r) e := by
    intro r e
    by_cases h0 : t.val % 8 = 0
    · rw [flushed14_A m c t h0]
      have hk := keptA m c t h0
      unfold Kept at hk
      rw [outsAt0_A m c t h0] at hk
      dsimp only at hk
      have hb := block_out m c t _ _ hk.1 hk.2 r e
      clear hk
      refine (congrFun (outA_eq c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 r e : S512x128.Idx)).trans ?_
      exact hb
    · rw [flushed14_B m c t h0]
      have hk := kept m c t.val t.isLt
      unfold Kept at hk
      rw [outsAt0_B m c t h0] at hk
      dsimp only at hk
      have hb := block_out m c t _ _ hk.1 hk.2 r e
      clear hk
      refine (congrFun (outB_eq c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _) (ix2 r e : S512x128.Idx)).trans ?_
      exact hb
  funext i
  obtain ⟨r, e, rfl⟩ : ∃ (r : Fin 512) (e : Fin 128), i = (ix2 r e : S512x128.Idx) := ⟨i 0, i 1, eq_ix2 i⟩
  refine (key r e).trans ?_
  show _ = Gm m c (((cfg0.win 14).blk t).view.emb (ix2 r e : S512x128.Idx))
  rw [emb14]
  exact (G_at _ _ _ _ _ _ _ _).symm

/-- Every place of the result array is in some point's block. -/
theorem covered (i : S16384x512.Idx) : ∃ t : Fin cfg0.N, (cfg0.win 14).flush t = true ∧ i ∈ ((cfg0.win 14).blk t).view.set := by
  have h0 : (i 0).val < 16384 := (i 0).isLt
  have h1 : (i 1).val < 512 := (i 1).isLt
  obtain ⟨n, hn⟩ : ∃ n, n = (i 0).val / 4096 * 32 + (i 1).val / 128 * 8 + (i 0).val % 4096 / 512 := ⟨_, rfl⟩
  have ht : n < 128 := by omega
  refine ⟨⟨n, ht⟩, flush0_14 _, ?_⟩
  have he : ((cfg0.win 14).blk ⟨n, ht⟩).view.emb
      (ix2 ⟨(i 0).val % 512, by omega⟩ ⟨(i 1).val % 128, by omega⟩ : S512x128.Idx) = i := by
    refine (emb14 ⟨n, ht⟩ ⟨(i 0).val % 512, by omega⟩ ⟨(i 1).val % 128, by omega⟩).trans ?_
    funext a; apply Fin.ext
    match a with
    | ⟨0, _⟩ => show n / 32 * 4096 + (n % 8 * 512 + (i 0).val % 512) = (i 0).val; omega
    | ⟨1, _⟩ => show n / 8 % 4 * 128 + (i 1).val % 128 = (i 1).val; omega
  exact Eq.mp (congrArg (fun z => z ∈ ((cfg0.win 14).blk ⟨n, ht⟩).view.set) he) (View.emb_mem_set _ _)

theorem final (c : Dev nD) : (dats m 0 c).arrAt 14 cfg0.N = Gm m c :=
  (dats m 0 c).arrAt_eq_of_cover 14 (Gm m c) (fun t _ => flushed_eq' m c t) covered

end Cert.Proof.Attn

end
-- ==== Proof.AttnReal.lean ====
/- Hand-written, untrusted: which values of the attention are real numbers: the angles always, the parts of the
   arguments and the mixing weight under the precondition. -/
module

public import proofs.«01_k».proof.Proof.AttnRef
public import proofs.«01_k».proof.Proof.AttnSpec
public import proofs.«01_k».proof.Proof.Gen.Pre_finite

@[expose] public section

set_option maxRecDepth 16384

noncomputable section

namespace Cert.Proof.AttnReal

open Cert.ReferenceIdeal Cert.ReferenceIdeal.Gen Cert.ReferenceIdeal.Read Idealize.ShloMosaic Idealize.ShloMosaic.TcCoe Idealize.SL.Sem

/-- A value below infinity in size is a real number. -/
theorem of_lt (x : EReal) (h : Ideal.cmp .olt (max x (-x)) (Ideal.ofBits FTy.f32 0x7F800000#32) = 1#1) : ∃ r : ℝ, x = r := by
  have hi : Ideal.ofBits FTy.f32 0x7F800000#32 = ⊤ := by simp [Ideal.ofBits, Ideal.ieee]
  rw [hi] at h
  have hl : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at hl; simp at hl
  have h2 : x ≠ ⊥ := fun e => by rw [e] at hl; simp at hl
  exact ⟨x.toReal, (EReal.coe_toReal h1 h2).symm⟩

theorem freq (n : Fin 16) : ∃ r : ℝ, (val_main_v40 (F := Ideal) (ix1 n) : EReal) = r := by
  have e : (val_main_v40 (F := Ideal) (ix1 n) : EReal) = Ideal.pow (Ideal.ofBits FTy.f32 0x461C4000#32)
      (Ideal.div (-(((BitVec.ofNat 32 n.val).toInt : ℝ) : EReal)) (Ideal.ofBits FTy.f32 0x41800000#32)) := by
    pointwise [val_main_v40, val_main_v39, val_main_v38, val_main_v37, val_main_v36, val_main_v35, val_main_cst_3, val_main_cst_4]
    rfl
  have e1 : Ideal.ofBits FTy.f32 0x41800000#32 = ((16 : ℝ) : EReal) := by
    simp [Ideal.ofBits, Ideal.ieee]
    rw [← EReal.coe_mul]
    norm_num
  have e2 : Ideal.ofBits FTy.f32 0x461C4000#32 = ((10000 : ℝ) : EReal) := by
    simp [Ideal.ofBits, Ideal.ieee]
    rw [← EReal.coe_mul]
    norm_num
  rw [e, e1, e2, Ideal.div_coe (by norm_num), ← EReal.coe_neg, ← EReal.coe_mul, Ideal.pow_coe_coe]
  exact ⟨_, rfl⟩

theorem ang_row (s : Fin 4096) (n : Fin 16) : ∃ r : ℝ, (val_main_v45 (F := Ideal) (ix2 s n) : EReal) = r := by
  have e : (val_main_v45 (F := Ideal) (ix2 s n) : EReal) = (((val_main_v31 (F := Ideal) (ix1 s)).toInt : ℝ) : EReal) * val_main_v40 (F := Ideal) (ix1 n) := by
    unfold val_main_v45 val_main_v43 val_main_v44 val_main_v41 val_main_v42 val_main_v32
    generalize val_main_v31 (F := Ideal) = w
    generalize val_main_v40 (F := Ideal) = u
    pointwise
    rfl
  obtain ⟨f, hf⟩ := freq n
  rw [e, hf]
  exact ⟨_, (EReal.coe_mul _ _).symm⟩

theorem ang_col (s : Fin 4096) (n : Fin 16) : ∃ r : ℝ, (val_main_v50 (F := Ideal) (ix2 s n) : EReal) = r := by
  have e : (val_main_v50 (F := Ideal) (ix2 s n) : EReal) = (((val_main_v33 (F := Ideal) (ix1 s)).toInt : ℝ) : EReal) * val_main_v40 (F := Ideal) (ix1 n) := by
    unfold val_main_v50 val_main_v48 val_main_v49 val_main_v46 val_main_v47 val_main_v34
    generalize val_main_v33 (F := Ideal) = w
    generalize val_main_v40 (F := Ideal) = u
    pointwise
    rfl
  obtain ⟨f, hf⟩ := freq n
  rw [e, hf]
  exact ⟨_, (EReal.coe_mul _ _).symm⟩

theorem angs (s : Fin 4096) (d : Fin 128) : ∃ r : ℝ, AttnRef.angs s d = r := by
  unfold AttnRef.angs AttnSpec.ang
  split_ifs
  · exact ang_row _ _
  · exact ang_col _ _

theorem sum_real {ι : Type} [Fintype ι] (f : ι → EReal) (hf : ∀ i, ∃ r : ℝ, f i = r) : ∃ r : ℝ, ∑ i, f i = r := by
  choose g hg using hf
  refine ⟨∑ i, g i, ?_⟩
  simp only [hg]
  exact AttnSpec.sum_coe _ _

section
variable (x0 : (⟨S16384x16128, .f32⟩ : BufTy).Contents (Elt Ideal)) (x1 : (⟨S1024x16128, .f32⟩ : BufTy).Contents (Elt Ideal))
  (x2 : (⟨S4x4x64, .f32⟩ : BufTy).Contents (Elt Ideal))

theorem weight (h : ∀ i, ∃ r : ℝ, (val_main_v13 (F := Ideal) x2 i : EReal) = r) : ∃ r : ℝ, (val_main_v29 (F := Ideal) x2 ix0 : EReal) = r := by
  have s1 : ∃ r : ℝ, (val_main_v19 (F := Ideal) x2 ix0 : EReal) = r := by
    rw [val_main_v19_apply]
    have hz : (val_main_cst (F := Ideal) (Shape.Idx.first h_S_) : EReal) = 0 := by
      show Ideal.ofBits FTy.f32 0x00000000#32 = 0
      simp [Ideal.ofBits, Ideal.ieee]
    rw [hz, zero_add]
    refine sum_real _ fun j => ?_
    rw [val_main_v18_apply, val_main_v15_apply, val_main_v14_apply, val_main_v17_apply, val_main_v16_apply]
    obtain ⟨a, ha⟩ := h (idx_main_v14 (idx_main_v15 j))
    obtain ⟨b, hb⟩ := h (idx_main_v16 (idx_main_v17 j))
    rw [ha, hb]
    exact ⟨a * b, (EReal.coe_mul _ _).symm⟩
  have s2 : ∃ r : ℝ, (val_main_v26 (F := Ideal) x2 ix0 : EReal) = r := by
    rw [val_main_v26_apply]
    have hz : (val_main_cst_0 (F := Ideal) (Shape.Idx.first h_S_) : EReal) = 0 := by
      show Ideal.ofBits FTy.f32 0x00000000#32 = 0
      simp [Ideal.ofBits, Ideal.ieee]
    rw [hz, zero_add]
    refine sum_real _ fun j => ?_
    rw [val_main_v25_apply, val_main_v22_apply, val_main_v21_apply, val_main_v24_apply, val_main_v23_apply]
    obtain ⟨a, ha⟩ := h (idx_main_v21 (idx_main_v22 j))
    obtain ⟨b, hb⟩ := h (idx_main_v23 (idx_main_v24 j))
    rw [ha, hb]
    exact ⟨a * b, (EReal.coe_mul _ _).symm⟩
  obtain ⟨a, ha⟩ := s1
  obtain ⟨b, hb⟩ := s2
  have e : (val_main_v29 (F := Ideal) x2 ix0 : EReal) = Ideal.exp (val_main_v19 (F := Ideal) x2 ix0) - Ideal.exp (val_main_v26 (F := Ideal) x2 ix0)
      + Ideal.ofBits FTy.f32 0x3F0E59D5#32 := rfl
  have ec : ∃ r : ℝ, Ideal.ofBits FTy.f32 0x3F0E59D5#32 = r := by
    simp [Ideal.ofBits, Ideal.ieee]
    exact ⟨_, (EReal.coe_mul _ _).symm⟩
  obtain ⟨k, hk⟩ := ec
  rw [e, ha, hb, AttnSpec.exp_coe', AttnSpec.exp_coe', hk]
  exact ⟨Real.exp a - Real.exp b + k, by push_cast; rfl⟩

/-- The precondition, read: the attention's columns of the two projections and the mixing weights are real. -/
theorem pre_read (x3 : (⟨S4x128, .f32⟩ : BufTy).Contents (Elt Ideal))
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2 = (fun _ => 1#1)) :
    (∀ (i : Fin 16384) (e : Fin 1536), ∃ r : ℝ, (x0 (ix2 i ⟨13824 + e.val, by omega⟩) : EReal) = r)
    ∧ (∀ (i : Fin 1024) (e : Fin 1024), ∃ r : ℝ, (x1 (ix2 i ⟨14336 + e.val, by omega⟩) : EReal) = r)
    ∧ ∀ i, ∃ r : ℝ, (val_main_v13 (F := Ideal) x2 i : EReal) = r := by
  obtain ⟨h0, h1, h2⟩ := h
  refine ⟨fun i e => of_lt _ ?_, fun i e => of_lt _ ?_, fun i => of_lt _ ?_⟩
  · refine Eq.trans ?_ (congrFun h0 (ix2 i e))
    have hs : extractStridedSlice Cert.Pre_finite.S16384x1536 ![0, 13824] x0 Cert.Pre_finite.Gen.slices_S16384x16128_S16384x1536_0_13824 (ix2 i e)
        = x0 (ix2 i ⟨13824 + e.val, by omega⟩) :=
      extractStridedSlice_apply _ _ _ _ _ (fun a => match a with
        | ⟨0, _⟩ => by show i.val = 0 + i.val; omega
        | ⟨1, _⟩ => rfl)
    rw [← hs]
    rfl
  · refine Eq.trans ?_ (congrFun h1 (ix2 i e))
    have hs : extractStridedSlice Cert.Pre_finite.S1024x1024 ![0, 14336] x1 Cert.Pre_finite.Gen.slices_S1024x16128_S1024x1024_0_14336 (ix2 i e)
        = x1 (ix2 i ⟨14336 + e.val, by omega⟩) :=
      extractStridedSlice_apply _ _ _ _ _ (fun a => match a with
        | ⟨0, _⟩ => by show i.val = 0 + i.val; omega
        | ⟨1, _⟩ => rfl)
    rw [← hs]
    rfl
  · refine Eq.trans ?_ (congrFun h2 i)
    rfl

variable (h0 : ∀ (i : Fin 16384) (e : Fin 1536), ∃ r : ℝ, (x0 (ix2 i ⟨13824 + e.val, by omega⟩) : EReal) = r)
  (h1 : ∀ (i : Fin 1024) (e : Fin 1024), ∃ r : ℝ, (x1 (ix2 i ⟨14336 + e.val, by omega⟩) : EReal) = r)
include h0

theorem row_real (base : Nat) (hb : base ≤ 15616) (hl : 13824 ≤ base) (hu : base + 512 ≤ 15360) (b : Fin 4) (s : Fin 4096) (h : Fin 4) (d : Fin 128) :
    ∃ r : ℝ, AttnRef.row x0 base hb b s h d = r := by
  obtain ⟨r, hr⟩ := h0 ⟨b.val * 4096 + s.val, by omega⟩ ⟨base - 13824 + (h.val * 128 + d.val), by omega⟩
  refine ⟨r, hr ▸ ?_⟩
  unfold AttnRef.row
  congr 2
  exact Fin.ext (by dsimp only; omega)

theorem qry_real (b h : Fin 4) (s : Fin 4096) (d : Fin 128) : ∃ r : ℝ, AttnRef.qry x0 b h s d = r :=
  AttnSpec.turn_real _ _ (row_real x0 h0 13824 (by omega) (by omega) (by omega) b s h) (angs s) d

include h1

theorem crow_real (base : Nat) (hb : base ≤ 15616) (hl : 14336 ≤ base) (hu : base + 512 ≤ 15360) (b : Fin 4) (s : Fin 256) (h : Fin 4) (d : Fin 128) :
    ∃ r : ℝ, AttnRef.crow x1 base hb b s h d = r := by
  obtain ⟨r, hr⟩ := h1 ⟨b.val * 256 + s.val, by omega⟩ ⟨base - 14336 + (h.val * 128 + d.val), by omega⟩
  refine ⟨r, hr ▸ ?_⟩
  unfold AttnRef.crow
  congr 2
  exact Fin.ext (by dsimp only; omega)

theorem keys_real (b h : Fin 4) (n : Fin 4352) (d : Fin 128) : ∃ r : ℝ, AttnRef.keys x0 x1 b h n d = r := by
  unfold AttnRef.keys
  split_ifs
  · exact AttnSpec.turn_real _ _ (row_real x0 h0 14336 (by omega) (by omega) (by omega) b _ h) (angs _) d
  · exact crow_real x0 x1 h0 h1 14336 (by omega) (by omega) (by omega) b _ h d

theorem vals_real (b h : Fin 4) (n : Fin 4352) (d : Fin 128) : ∃ r : ℝ, AttnRef.vals x0 x1 b h n d = r := by
  unfold AttnRef.vals
  split_ifs
  · exact row_real x0 h0 14848 (by omega) (by omega) (by omega) b _ h d
  · exact crow_real x0 x1 h0 h1 14848 (by omega) (by omega) (by omega) b _ h d

end

end Cert.Proof.AttnReal

end
-- ==== Proof.Attn.lean ====
/- Hand-written, untrusted: the value claim of the attention: under the precondition the kernel and the reference leave
   the same array. -/
module

public import proofs.«01_k».proof.Defs
public import proofs.«01_k».proof.Proof.AttnKernel
public import proofs.«01_k».proof.Proof.AttnReal
public import proofs.«01_k».proof.Proof.Gen.ReferenceIdeal.Run
public import proofs.«01_k».proof.Proof.Gen.Pre_finite

@[expose] public section

set_option maxRecDepth 16384

noncomputable section

namespace Cert.Proof.Attn

open Idealize.ShloMosaic Idealize.ShloMosaic.TcCoe Idealize.SL.Sem

theorem scl_eq : (scl : EReal) = (AttnSpec.sc : EReal) := by
  unfold scl AttnSpec.sc
  exact IdealRules.named_const.ideal_named_scalar _ _ _ _ rfl

section
variable (x0 : (⟨Cert.ReferenceIdeal.S16384x16128, .f32⟩ : BufTy).Contents (Elt Ideal)) (x1 : (⟨Cert.ReferenceIdeal.S1024x16128, .f32⟩ : BufTy).Contents (Elt Ideal))
  (x2 : (⟨Cert.ReferenceIdeal.S4x4x64, .f32⟩ : BufTy).Contents (Elt Ideal)) (x3 : (⟨Cert.ReferenceIdeal.S4x128, .f32⟩ : BufTy).Contents (Elt Ideal))

/-- The two forms of the mixed rows agree on real numbers. -/
theorem mixed_eq (h0 : ∀ (i : Fin 16384) (e : Fin 1536), ∃ r : ℝ, (x0 (ix2 i ⟨13824 + e.val, by omega⟩) : EReal) = r)
    (h1 : ∀ (i : Fin 1024) (e : Fin 1024), ∃ r : ℝ, (x1 (ix2 i ⟨14336 + e.val, by omega⟩) : EReal) = r)
    (h2 : ∀ i, ∃ r : ℝ, (Cert.ReferenceIdeal.Read.val_main_v13 (F := Ideal) x2 i : EReal) = r) (b h : Fin 4) (s : Fin 4096) (d : Fin 128) :
    AttnSpec.kdiff (fun d => if d.val < 64 then AttnRef.qry x0 b h s d * scl else (0 : EReal))
      (fun d => if 64 ≤ d.val then AttnRef.qry x0 b h s d * scl else (0 : EReal))
      (fun j κ d => AttnRef.keys x0 x1 b h (AttnSpec.key j κ) d) (fun j κ d => AttnRef.vals x0 x1 b h (AttnSpec.key j κ) d)
      (Cert.ReferenceIdeal.Read.val_main_v29 (F := Ideal) x2 ix0) d
    = AttnSpec.rdiff (AttnRef.qry x0 b h s) (AttnRef.keys x0 x1 b h) (AttnRef.vals x0 x1 b h)
      (Cert.ReferenceIdeal.Read.val_main_v29 (F := Ideal) x2 ix0) d := by
  choose qr hq using fun d => AttnReal.qry_real x0 h0 b h s d
  choose Kr hK using fun n d => AttnReal.keys_real x0 x1 h0 h1 b h n d
  choose Vr hV using fun n d => AttnReal.vals_real x0 x1 h0 h1 b h n d
  obtain ⟨lr, hl⟩ := AttnReal.weight x2 h2
  have eq : AttnRef.qry x0 b h s = fun d => (qr d : EReal) := funext hq
  have eK : AttnRef.keys x0 x1 b h = fun n d => (Kr n d : EReal) := funext fun n => funext fun d => hK n d
  have eV : AttnRef.vals x0 x1 b h = fun n d => (Vr n d : EReal) := funext fun n => funext fun d => hV n d
  have q0 : (fun d : Fin 128 => if d.val < 64 then (qr d : EReal) * (AttnSpec.sc : EReal) else (0 : EReal)) = AttnSpec.qm qr AttnSpec.sc 0 := by
    funext d
    unfold AttnSpec.qm
    have : d.val < 64 ↔ d.val / 64 = (0 : Fin 2).val := by show d.val < 64 ↔ d.val / 64 = 0; omega
    simp only [this]
  have q1 : (fun d : Fin 128 => if 64 ≤ d.val then (qr d : EReal) * (AttnSpec.sc : EReal) else (0 : EReal)) = AttnSpec.qm qr AttnSpec.sc 1 := by
    funext d
    unfold AttnSpec.qm
    have : 64 ≤ d.val ↔ d.val / 64 = (1 : Fin 2).val := by show 64 ≤ d.val ↔ d.val / 64 = 1; omega
    simp only [this]
  rw [hl, eq, eK, eV, scl_eq, q0, q1]
  exact AttnSpec.kdiff_eq qr Kr Vr lr d

/-- The reference's result array is the kernel's function of the arguments. -/
theorem ref_eq (h0 : ∀ (i : Fin 16384) (e : Fin 1536), ∃ r : ℝ, (x0 (ix2 i ⟨13824 + e.val, by omega⟩) : EReal) = r)
    (h1 : ∀ (i : Fin 1024) (e : Fin 1024), ∃ r : ℝ, (x1 (ix2 i ⟨14336 + e.val, by omega⟩) : EReal) = r)
    (h2 : ∀ i, ∃ r : ℝ, (Cert.ReferenceIdeal.Read.val_main_v13 (F := Ideal) x2 i : EReal) = r) :
    Cert.ReferenceIdeal.Read.val_main_v171 (F := Ideal) x0 x1 x2 x3 = G x0 x1 x2 x3 := by
  funext i
  obtain ⟨R, e, rfl⟩ : ∃ (R : Fin 16384) (e : Fin 512), i = (ix2 R e : Cert.KernelIdeal.S16384x512.Idx) := ⟨i 0, i 1, eq_ix2 i⟩
  refine (AttnRef.ref_apply x0 x1 x2 x3 R e).trans ?_
  show _ = Grow x0 x1 x2 x3 ⟨R.val / 4096, _⟩ ⟨e.val / 128, _⟩ ⟨R.val % 4096, _⟩ ⟨e.val % 128, _⟩
  unfold Grow
  rw [funext (mixed_eq x0 x1 x2 h0 h1 h2 ⟨R.val / 4096, by omega⟩ ⟨e.val / 128, by omega⟩ ⟨R.val % 4096, by omega⟩)]

end

theorem claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => Gm m c, (θ_run Cert.KernelIdeal.defs _ _).mono (fun r h c => ⟨(h c).1.trans (final m c), (h c).2⟩)
    (Cert.KernelIdeal.Value.run_blocks m g), (θ_run Cert.ReferenceIdeal.defs _ _).mono (fun r h c => ⟨(h c).1.trans ?_, (h c).2⟩)
    (Cert.ReferenceIdeal.Value.run m' g')⟩
  obtain ⟨h0, h1, h2, h3⟩ := hag c
  rw [Cert.ReferenceIdeal.Read.val_main_v171_eq]
  change Cert.ReferenceIdeal.Read.val_main_v171 (F := Ideal) (m' (c.tc.loc Cert.ReferenceIdeal.main_arg0)) (m' (c.tc.loc Cert.ReferenceIdeal.main_arg1))
    (m' (c.tc.loc Cert.ReferenceIdeal.main_arg2)) (m' (c.tc.loc Cert.ReferenceIdeal.main_arg3)) = _
  rw [h0, h1, h2, h3]
  obtain ⟨k0, k1, k2⟩ := AttnReal.pre_read _ _ _ _ (hpre c)
  exact ref_eq _ _ _ _ k0 k1 k2

end Cert.Proof.Attn

end
-- ==== Proof.lean ====
/- Hand-written, untrusted: the claims, put together: the frames of the programs, that each kernel and its idealization
   agree, and the value claims. -/
module

public import proofs.«01_k».proof.Defs
public import proofs.«01_k».proof.Proof.Frames
public import proofs.«01_k».proof.Proof.Proj
public import proofs.«01_k».proof.Proof.Merge
public import proofs.«01_k».proof.Proof.Merge4
public import proofs.«01_k».proof.Proof.Proj5
public import proofs.«01_k».proof.Proof.Attn

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
  Frames.kernel,
  Frames.kernelIdeal,
  Frames.kernelIdeal_pre,
  Frames.referenceIdeal,
  Frames.referenceIdeal_pre,
  Frames.kernel2,
  Frames.kernel2Ideal,
  Frames.reference2Ideal,
  Frames.kernel3,
  Frames.kernel3Ideal,
  Frames.reference3Ideal,
  Frames.kernel4,
  Frames.kernel4Ideal,
  Frames.reference4Ideal,
  Frames.kernel5,
  Frames.kernel5Ideal,
  Frames.reference5Ideal,
  IdealRules.named_const.statement Cert.KernelIdeal.κ "scale" .f32 0x3E38AA3B#32 _ rfl,
  Attn.claim,
  trivial,
  Proj.claim,
  trivial,
  Merge.claim,
  trivial,
  Merge4.claim,
  trivial,
  Proj5.claim⟩

end Cert.Proof

end
